-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries [hPre_finite_queries : Cert.Pre_finite_queries.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries [hPre_finite_queries : Cert.Pre_finite_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Fold [hPre_names_rows : Cert.Pre_names_rows.Facts] (m : (ℓ : Loc Cert.Fold.nD Cert.Fold.τ Cert.Fold.sig) → Buf (Elt Bits) ℓ) : Prop :=
  ∀ c : Dev Cert.Fold.nD,
    (Cert.Pre_names_rows.fn (F := Bits) (m ((c.tc : Thread Cert.Fold.nD Cert.Fold.τ).loc Cert.Fold.main_arg0)) (m ((c.tc : Thread Cert.Fold.nD Cert.Fold.τ).loc Cert.Fold.main_arg1))) = (fun _ => 1#1)

def Pre_FoldIdeal [hPre_names_rows : Cert.Pre_names_rows.Facts] (m : (ℓ : Loc Cert.FoldIdeal.nD Cert.FoldIdeal.τ Cert.FoldIdeal.sig) → Buf (Elt Ideal) ℓ) : Prop :=
  ∀ c : Dev Cert.FoldIdeal.nD,
    (Cert.Pre_names_rows.fn (F := Ideal) (m ((c.tc : Thread Cert.FoldIdeal.nD Cert.FoldIdeal.τ).loc Cert.FoldIdeal.main_arg0)) (m ((c.tc : Thread Cert.FoldIdeal.nD Cert.FoldIdeal.τ).loc Cert.FoldIdeal.main_arg1))) = (fun _ => 1#1)

def Pre_FoldReferenceIdeal (m : (ℓ : Loc Cert.FoldReferenceIdeal.nD Cert.FoldReferenceIdeal.τ Cert.FoldReferenceIdeal.sig) → Buf (Elt Ideal) ℓ) : Prop :=
  True

def Pre_FoldReferenceIdeal_names_rows [hPre_names_rows : Cert.Pre_names_rows.Facts] (m : (ℓ : Loc Cert.FoldReferenceIdeal.nD Cert.FoldReferenceIdeal.τ Cert.FoldReferenceIdeal.sig) → Buf (Elt Ideal) ℓ) : Prop :=
  ∀ c : Dev Cert.FoldReferenceIdeal.nD,
    (Cert.Pre_names_rows.fn (F := Ideal) (m ((c.tc : Thread Cert.FoldReferenceIdeal.nD Cert.FoldReferenceIdeal.τ).loc Cert.FoldReferenceIdeal.main_arg0)) (m ((c.tc : Thread Cert.FoldReferenceIdeal.nD Cert.FoldReferenceIdeal.τ).loc Cert.FoldReferenceIdeal.main_arg1))) = (fun _ => 1#1)

def Pre_Windows (m : (ℓ : Loc Cert.Windows.nD Cert.Windows.τ Cert.Windows.sig) → Buf (Elt Bits) ℓ) : Prop :=
  True

def Pre_WindowsIdeal (m : (ℓ : Loc Cert.WindowsIdeal.nD Cert.WindowsIdeal.τ Cert.WindowsIdeal.sig) → Buf (Elt Ideal) ℓ) : Prop :=
  True

def Pre_WindowsReferenceIdeal (m : (ℓ : Loc Cert.WindowsReferenceIdeal.nD Cert.WindowsReferenceIdeal.τ Cert.WindowsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_queries [hKernelIdeal : Cert.KernelIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_queries [hReferenceIdeal : Cert.ReferenceIdeal.Facts] [hPre_finite_queries : Cert.Pre_finite_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Fold [hFold : Cert.Fold.Facts] [hPre_names_rows : Cert.Pre_names_rows.Facts] : Prop :=
  ∀ (m : (ℓ : Loc Cert.Fold.nD Cert.Fold.τ Cert.Fold.sig) → Buf (Elt Bits) ℓ) (g : Dev Cert.Fold.nD → PrngReg), Pre_Fold m →
    θ_run (Cert.Fold.defs (F := Bits)) (onTc (τ := Cert.Fold.τ) (Cert.Fold.main (F := Bits))) ⟨m, fun _ => 0, g⟩ (fun r => (∀ c : Dev Cert.Fold.nD,
      r.2.mem ((c.tc : Thread Cert.Fold.nD Cert.Fold.τ).loc Cert.Fold.main_arg0) = m ((c.tc : Thread Cert.Fold.nD Cert.Fold.τ).loc Cert.Fold.main_arg0)
      ∧ r.2.mem ((c.tc : Thread Cert.Fold.nD Cert.Fold.τ).loc Cert.Fold.main_arg1) = m ((c.tc : Thread Cert.Fold.nD Cert.Fold.τ).loc Cert.Fold.main_arg1))
      ∧ r.2.sem = fun _ => 0)

def quiescent_FoldIdeal [hFoldIdeal : Cert.FoldIdeal.Facts] [hPre_names_rows : Cert.Pre_names_rows.Facts] : Prop :=
  ∀ (m : (ℓ : Loc Cert.FoldIdeal.nD Cert.FoldIdeal.τ Cert.FoldIdeal.sig) → Buf (Elt Ideal) ℓ) (g : Dev Cert.FoldIdeal.nD → PrngReg), Pre_FoldIdeal m →
    θ_run (Cert.FoldIdeal.defs (F := Ideal)) (onTc (τ := Cert.FoldIdeal.τ) (Cert.FoldIdeal.main (F := Ideal))) ⟨m, fun _ => 0, g⟩ (fun r => (∀ c : Dev Cert.FoldIdeal.nD,
      r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
      ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1))
      ∧ r.2.sem = fun _ => 0)

def quiescent_FoldReferenceIdeal [hFoldReferenceIdeal : Cert.FoldReferenceIdeal.Facts] : Prop :=
  ∀ (m : (ℓ : Loc Cert.FoldReferenceIdeal.nD Cert.FoldReferenceIdeal.τ Cert.FoldReferenceIdeal.sig) → Buf (Elt Ideal) ℓ) (g : Dev Cert.FoldReferenceIdeal.nD → PrngReg), Pre_FoldReferenceIdeal m →
    θ_run (Cert.FoldReferenceIdeal.defs (F := Ideal)) (onTc (τ := Cert.FoldReferenceIdeal.τ) (Cert.FoldReferenceIdeal.main (F := Ideal))) ⟨m, fun _ => 0, g⟩ (fun r => (∀ c : Dev Cert.FoldReferenceIdeal.nD,
      r.2.mem ((c.tc : Thread Cert.FoldReferenceIdeal.nD Cert.FoldReferenceIdeal.τ).loc Cert.FoldReferenceIdeal.main_arg0) = m ((c.tc : Thread Cert.FoldReferenceIdeal.nD Cert.FoldReferenceIdeal.τ).loc Cert.FoldReferenceIdeal.main_arg0)
      ∧ r.2.mem ((c.tc : Thread Cert.FoldReferenceIdeal.nD Cert.FoldReferenceIdeal.τ).loc Cert.FoldReferenceIdeal.main_arg1) = m ((c.tc : Thread Cert.FoldReferenceIdeal.nD Cert.FoldReferenceIdeal.τ).loc Cert.FoldReferenceIdeal.main_arg1))
      ∧ r.2.sem = fun _ => 0)

def quiescent_FoldReferenceIdeal_pre_names_rows [hFoldReferenceIdeal : Cert.FoldReferenceIdeal.Facts] [hPre_names_rows : Cert.Pre_names_rows.Facts] : Prop :=
  ∀ (m : (ℓ : Loc Cert.FoldReferenceIdeal.nD Cert.FoldReferenceIdeal.τ Cert.FoldReferenceIdeal.sig) → Buf (Elt Ideal) ℓ) (g : Dev Cert.FoldReferenceIdeal.nD → PrngReg), Pre_FoldReferenceIdeal_names_rows m →
    θ_run (Cert.FoldReferenceIdeal.defs (F := Ideal)) (onTc (τ := Cert.FoldReferenceIdeal.τ) (Cert.FoldReferenceIdeal.main (F := Ideal))) ⟨m, fun _ => 0, g⟩ (fun r => (∀ c : Dev Cert.FoldReferenceIdeal.nD,
      r.2.mem ((c.tc : Thread Cert.FoldReferenceIdeal.nD Cert.FoldReferenceIdeal.τ).loc Cert.FoldReferenceIdeal.main_arg0) = m ((c.tc : Thread Cert.FoldReferenceIdeal.nD Cert.FoldReferenceIdeal.τ).loc Cert.FoldReferenceIdeal.main_arg0)
      ∧ r.2.mem ((c.tc : Thread Cert.FoldReferenceIdeal.nD Cert.FoldReferenceIdeal.τ).loc Cert.FoldReferenceIdeal.main_arg1) = m ((c.tc : Thread Cert.FoldReferenceIdeal.nD Cert.FoldReferenceIdeal.τ).loc Cert.FoldReferenceIdeal.main_arg1))
      ∧ r.2.sem = fun _ => 0)

def quiescent_Windows [hWindows : Cert.Windows.Facts] : Prop :=
  ∀ (m : (ℓ : Loc Cert.Windows.nD Cert.Windows.τ Cert.Windows.sig) → Buf (Elt Bits) ℓ) (g : Dev Cert.Windows.nD → PrngReg), Pre_Windows m →
    θ_run (Cert.Windows.defs (F := Bits)) (onTc (τ := Cert.Windows.τ) (Cert.Windows.main (F := Bits))) ⟨m, fun _ => 0, g⟩ (fun r => (∀ c : Dev Cert.Windows.nD,
      r.2.mem ((c.tc : Thread Cert.Windows.nD Cert.Windows.τ).loc Cert.Windows.main_arg0) = m ((c.tc : Thread Cert.Windows.nD Cert.Windows.τ).loc Cert.Windows.main_arg0))
      ∧ r.2.sem = fun _ => 0)

def quiescent_WindowsIdeal [hWindowsIdeal : Cert.WindowsIdeal.Facts] : Prop :=
  ∀ (m : (ℓ : Loc Cert.WindowsIdeal.nD Cert.WindowsIdeal.τ Cert.WindowsIdeal.sig) → Buf (Elt Ideal) ℓ) (g : Dev Cert.WindowsIdeal.nD → PrngReg), Pre_WindowsIdeal m →
    θ_run (Cert.WindowsIdeal.defs (F := Ideal)) (onTc (τ := Cert.WindowsIdeal.τ) (Cert.WindowsIdeal.main (F := Ideal))) ⟨m, fun _ => 0, g⟩ (fun r => (∀ c : Dev Cert.WindowsIdeal.nD,
      r.2.mem ((c.tc : Thread Cert.WindowsIdeal.nD Cert.WindowsIdeal.τ).loc Cert.WindowsIdeal.main_arg0) = m ((c.tc : Thread Cert.WindowsIdeal.nD Cert.WindowsIdeal.τ).loc Cert.WindowsIdeal.main_arg0))
      ∧ r.2.sem = fun _ => 0)

def quiescent_WindowsReferenceIdeal [hWindowsReferenceIdeal : Cert.WindowsReferenceIdeal.Facts] : Prop :=
  ∀ (m : (ℓ : Loc Cert.WindowsReferenceIdeal.nD Cert.WindowsReferenceIdeal.τ Cert.WindowsReferenceIdeal.sig) → Buf (Elt Ideal) ℓ) (g : Dev Cert.WindowsReferenceIdeal.nD → PrngReg), Pre_WindowsReferenceIdeal m →
    θ_run (Cert.WindowsReferenceIdeal.defs (F := Ideal)) (onTc (τ := Cert.WindowsReferenceIdeal.τ) (Cert.WindowsReferenceIdeal.main (F := Ideal))) ⟨m, fun _ => 0, g⟩ (fun r => (∀ c : Dev Cert.WindowsReferenceIdeal.nD,
      r.2.mem ((c.tc : Thread Cert.WindowsReferenceIdeal.nD Cert.WindowsReferenceIdeal.τ).loc Cert.WindowsReferenceIdeal.main_arg0) = m ((c.tc : Thread Cert.WindowsReferenceIdeal.nD Cert.WindowsReferenceIdeal.τ).loc Cert.WindowsReferenceIdeal.main_arg0))
      ∧ r.2.sem = fun _ => 0)

def preserves_Kernel_KernelIdeal : Prop :=
  True

def algebraic_KernelIdeal_ReferenceIdeal_pre_finite_queries [hKernelIdeal : Cert.KernelIdeal.Facts] [hReferenceIdeal : Cert.ReferenceIdeal.Facts] [hPre_finite_queries : Cert.Pre_finite_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Fold_FoldIdeal : Prop :=
  True

def algebraic_FoldIdeal_FoldReferenceIdeal [hFoldIdeal : Cert.FoldIdeal.Facts] [hFoldReferenceIdeal : Cert.FoldReferenceIdeal.Facts] [hPre_names_rows : Cert.Pre_names_rows.Facts] : Prop :=
  ∀ (m : (ℓ : Loc Cert.FoldIdeal.nD Cert.FoldIdeal.τ Cert.FoldIdeal.sig) → Buf (Elt Ideal) ℓ) (g : Dev Cert.FoldIdeal.nD → PrngReg)
    (m' : (ℓ : Loc Cert.FoldReferenceIdeal.nD Cert.FoldReferenceIdeal.τ Cert.FoldReferenceIdeal.sig) → Buf (Elt Ideal) ℓ) (g' : Dev Cert.FoldReferenceIdeal.nD → PrngReg), Pre_FoldIdeal m →
    (∀ c : Dev Cert.FoldIdeal.nD,
      m' ((c.tc : Thread Cert.FoldReferenceIdeal.nD Cert.FoldReferenceIdeal.τ).loc Cert.FoldReferenceIdeal.main_arg0) = m ((c.tc : Thread Cert.FoldIdeal.nD Cert.FoldIdeal.τ).loc Cert.FoldIdeal.main_arg0)
      ∧ m' ((c.tc : Thread Cert.FoldReferenceIdeal.nD Cert.FoldReferenceIdeal.τ).loc Cert.FoldReferenceIdeal.main_arg1) = m ((c.tc : Thread Cert.FoldIdeal.nD Cert.FoldIdeal.τ).loc Cert.FoldIdeal.main_arg1)) →
    ∃ (v0 : (c : Dev Cert.FoldIdeal.nD) → Buf (Elt Ideal) ((c.tc : Thread Cert.FoldIdeal.nD Cert.FoldIdeal.τ).loc Cert.FoldIdeal.main_v1)),
      θ_run (Cert.FoldIdeal.defs (F := Ideal)) (onTc (τ := Cert.FoldIdeal.τ) (Cert.FoldIdeal.main (F := Ideal))) ⟨m, fun _ => 0, g⟩ (fun r => ∀ c : Dev Cert.FoldIdeal.nD,
          r.2.mem ((c.tc : Thread Cert.FoldIdeal.nD Cert.FoldIdeal.τ).loc Cert.FoldIdeal.main_v1) = v0 c
          ∧ r.2.mem ((c.tc : Thread Cert.FoldIdeal.nD Cert.FoldIdeal.τ).loc Cert.FoldIdeal.main_arg0) = m ((c.tc : Thread Cert.FoldIdeal.nD Cert.FoldIdeal.τ).loc Cert.FoldIdeal.main_arg0)
          ∧ r.2.mem ((c.tc : Thread Cert.FoldIdeal.nD Cert.FoldIdeal.τ).loc Cert.FoldIdeal.main_arg1) = m ((c.tc : Thread Cert.FoldIdeal.nD Cert.FoldIdeal.τ).loc Cert.FoldIdeal.main_arg1))
      ∧ θ_run (Cert.FoldReferenceIdeal.defs (F := Ideal)) (onTc (τ := Cert.FoldReferenceIdeal.τ) (Cert.FoldReferenceIdeal.main (F := Ideal))) ⟨m', fun _ => 0, g'⟩ (fun r => ∀ c : Dev Cert.FoldReferenceIdeal.nD,
          r.2.mem ((c.tc : Thread Cert.FoldReferenceIdeal.nD Cert.FoldReferenceIdeal.τ).loc Cert.FoldReferenceIdeal.main_v41) = v0 c
          ∧ r.2.mem ((c.tc : Thread Cert.FoldReferenceIdeal.nD Cert.FoldReferenceIdeal.τ).loc Cert.FoldReferenceIdeal.main_arg0) = m' ((c.tc : Thread Cert.FoldReferenceIdeal.nD Cert.FoldReferenceIdeal.τ).loc Cert.FoldReferenceIdeal.main_arg0)
          ∧ r.2.mem ((c.tc : Thread Cert.FoldReferenceIdeal.nD Cert.FoldReferenceIdeal.τ).loc Cert.FoldReferenceIdeal.main_arg1) = m' ((c.tc : Thread Cert.FoldReferenceIdeal.nD Cert.FoldReferenceIdeal.τ).loc Cert.FoldReferenceIdeal.main_arg1))

def preserves_Windows_WindowsIdeal : Prop :=
  True

def algebraic_WindowsIdeal_WindowsReferenceIdeal [hWindowsIdeal : Cert.WindowsIdeal.Facts] [hWindowsReferenceIdeal : Cert.WindowsReferenceIdeal.Facts] : Prop :=
  ∀ (m : (ℓ : Loc Cert.WindowsIdeal.nD Cert.WindowsIdeal.τ Cert.WindowsIdeal.sig) → Buf (Elt Ideal) ℓ) (g : Dev Cert.WindowsIdeal.nD → PrngReg)
    (m' : (ℓ : Loc Cert.WindowsReferenceIdeal.nD Cert.WindowsReferenceIdeal.τ Cert.WindowsReferenceIdeal.sig) → Buf (Elt Ideal) ℓ) (g' : Dev Cert.WindowsReferenceIdeal.nD → PrngReg), Pre_WindowsIdeal m →
    (∀ c : Dev Cert.WindowsIdeal.nD,
      m' ((c.tc : Thread Cert.WindowsReferenceIdeal.nD Cert.WindowsReferenceIdeal.τ).loc Cert.WindowsReferenceIdeal.main_arg0) = m ((c.tc : Thread Cert.WindowsIdeal.nD Cert.WindowsIdeal.τ).loc Cert.WindowsIdeal.main_arg0)) →
    ∃ (v0 : (c : Dev Cert.WindowsIdeal.nD) → Buf (Elt Ideal) ((c.tc : Thread Cert.WindowsIdeal.nD Cert.WindowsIdeal.τ).loc Cert.WindowsIdeal.main_v2)),
      θ_run (Cert.WindowsIdeal.defs (F := Ideal)) (onTc (τ := Cert.WindowsIdeal.τ) (Cert.WindowsIdeal.main (F := Ideal))) ⟨m, fun _ => 0, g⟩ (fun r => ∀ c : Dev Cert.WindowsIdeal.nD,
          r.2.mem ((c.tc : Thread Cert.WindowsIdeal.nD Cert.WindowsIdeal.τ).loc Cert.WindowsIdeal.main_v2) = v0 c
          ∧ r.2.mem ((c.tc : Thread Cert.WindowsIdeal.nD Cert.WindowsIdeal.τ).loc Cert.WindowsIdeal.main_arg0) = m ((c.tc : Thread Cert.WindowsIdeal.nD Cert.WindowsIdeal.τ).loc Cert.WindowsIdeal.main_arg0))
      ∧ θ_run (Cert.WindowsReferenceIdeal.defs (F := Ideal)) (onTc (τ := Cert.WindowsReferenceIdeal.τ) (Cert.WindowsReferenceIdeal.main (F := Ideal))) ⟨m', fun _ => 0, g'⟩ (fun r => ∀ c : Dev Cert.WindowsReferenceIdeal.nD,
          r.2.mem ((c.tc : Thread Cert.WindowsReferenceIdeal.nD Cert.WindowsReferenceIdeal.τ).loc Cert.WindowsReferenceIdeal.main_v34) = v0 c
          ∧ r.2.mem ((c.tc : Thread Cert.WindowsReferenceIdeal.nD Cert.WindowsReferenceIdeal.τ).loc Cert.WindowsReferenceIdeal.main_arg0) = m' ((c.tc : Thread Cert.WindowsReferenceIdeal.nD Cert.WindowsReferenceIdeal.τ).loc Cert.WindowsReferenceIdeal.main_arg0))

def Claim : Prop :=
  ∃ (hKernel : Cert.Kernel.Facts) (hKernelIdeal : Cert.KernelIdeal.Facts) (hReferenceIdeal : Cert.ReferenceIdeal.Facts) (hFold : Cert.Fold.Facts) (hFoldIdeal : Cert.FoldIdeal.Facts) (hFoldReferenceIdeal : Cert.FoldReferenceIdeal.Facts) (hWindows : Cert.Windows.Facts) (hWindowsIdeal : Cert.WindowsIdeal.Facts) (hWindowsReferenceIdeal : Cert.WindowsReferenceIdeal.Facts) (hPre_finite_queries : Cert.Pre_finite_queries.Facts) (hPre_names_rows : Cert.Pre_names_rows.Facts),
    quiescent_Kernel (hKernel := hKernel)
    ∧ quiescent_KernelIdeal (hKernelIdeal := hKernelIdeal)
    ∧ quiescent_KernelIdeal_pre_finite_queries (hKernelIdeal := hKernelIdeal) (hPre_finite_queries := hPre_finite_queries)
    ∧ quiescent_ReferenceIdeal (hReferenceIdeal := hReferenceIdeal)
    ∧ quiescent_ReferenceIdeal_pre_finite_queries (hReferenceIdeal := hReferenceIdeal) (hPre_finite_queries := hPre_finite_queries)
    ∧ quiescent_Fold (hFold := hFold) (hPre_names_rows := hPre_names_rows)
    ∧ quiescent_FoldIdeal (hFoldIdeal := hFoldIdeal) (hPre_names_rows := hPre_names_rows)
    ∧ quiescent_FoldReferenceIdeal (hFoldReferenceIdeal := hFoldReferenceIdeal)
    ∧ quiescent_FoldReferenceIdeal_pre_names_rows (hFoldReferenceIdeal := hFoldReferenceIdeal) (hPre_names_rows := hPre_names_rows)
    ∧ quiescent_Windows (hWindows := hWindows)
    ∧ quiescent_WindowsIdeal (hWindowsIdeal := hWindowsIdeal)
    ∧ quiescent_WindowsReferenceIdeal (hWindowsReferenceIdeal := hWindowsReferenceIdeal)
    ∧ preserves_Kernel_KernelIdeal
    ∧ algebraic_KernelIdeal_ReferenceIdeal_pre_finite_queries (hKernelIdeal := hKernelIdeal) (hReferenceIdeal := hReferenceIdeal) (hPre_finite_queries := hPre_finite_queries)
    ∧ preserves_Fold_FoldIdeal
    ∧ algebraic_FoldIdeal_FoldReferenceIdeal (hFoldIdeal := hFoldIdeal) (hFoldReferenceIdeal := hFoldReferenceIdeal) (hPre_names_rows := hPre_names_rows)
    ∧ preserves_Windows_WindowsIdeal
    ∧ algebraic_WindowsIdeal_WindowsReferenceIdeal (hWindowsIdeal := hWindowsIdeal) (hWindowsReferenceIdeal := hWindowsReferenceIdeal)
-- ==== Pre_finite_queries.lean ====
abbrev S3072x2816 : Shape := ⟨2, ![3072, 2816]⟩
abbrev S10000x3072 : Shape := ⟨2, ![10000, 3072]⟩
abbrev S_ : Shape := ⟨0, ![]⟩

class Facts : Prop where
  bcast_S_S3072x2816 : S_.BroadcastsInDim S3072x2816 (![] : Fin 0 → Fin S3072x2816.rank)

variable [Facts]

def fn {F : FTy → Type} [FloatOps F] (main_arg0 : FVec F S3072x2816 .f32) (main_arg1 : FVec F S10000x3072 .f32) : IVec S3072x2816 1 :=
  let main_v0 : FVec F S3072x2816 .f32 := Host.absf main_arg0
  let main_cst : FVec F S_ .f32 := constant S_ .f32 0x7F800000#32
  let main_v1 : FVec F S3072x2816 .f32 := broadcastInDim S3072x2816 ![] bcast_S_S3072x2816 main_cst
  let main_v2 : IVec S3072x2816 1 := cmpf .olt main_v0 main_v1
  main_v2
-- ==== Pre_names_rows.lean ====
abbrev S2816 : Shape := ⟨1, ![2816]⟩
abbrev S10000x3072 : Shape := ⟨2, ![10000, 3072]⟩
abbrev S_ : Shape := ⟨0, ![]⟩

class Facts : Prop where
  bcast_S_S2816 : S_.BroadcastsInDim S2816 (![] : Fin 0 → Fin S2816.rank)

variable [Facts]

def fn {F : FTy → Type} [FloatOps F] (main_arg0 : IVec S2816 32) (main_arg1 : FVec F S10000x3072 .f32) : IVec S2816 1 :=
  let main_c : IVec S_ 32 := constantI S_ 32 0#32
  let main_v0 : IVec S2816 32 := broadcastInDim S2816 ![] bcast_S_S2816 main_c
  let main_v1 : IVec S2816 1 := cmpi .sge main_arg0 main_v0
  let main_c_0 : IVec S_ 32 := constantI S_ 32 10000#32
  let main_v2 : IVec S2816 32 := broadcastInDim S2816 ![] bcast_S_S2816 main_c_0
  let main_v3 : IVec S2816 1 := cmpi .slt main_arg0 main_v2
  let main_v4 : IVec S2816 1 := andi main_v1 main_v3
  main_v4
-- ==== Kernel.lean ====
abbrev S3072x2816 : Shape := ⟨2, ![3072, 2816]⟩
abbrev S10000x3072 : Shape := ⟨2, ![10000, 3072]⟩
abbrev S22x8x128 : Shape := ⟨3, ![22, 8, 128]⟩
abbrev S256x3072 : Shape := ⟨2, ![256, 3072]⟩
abbrev S256 : Shape := ⟨1, ![256]⟩
abbrev S256x1 : Shape := ⟨2, ![256, 1]⟩
abbrev S256x128 : Shape := ⟨2, ![256, 128]⟩
abbrev S3072x128 : Shape := ⟨2, ![3072, 128]⟩
abbrev S128 : Shape := ⟨1, ![128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 4
  | .vmem => 5
  | .smem => 0
  | _ => 0

abbrev bufTy : (tb : Table) → Fin (tcTables nBuf tb) → BufTy
  | .hbm, ⟨0, _⟩ => ⟨S3072x2816, .f32⟩
  | .hbm, ⟨1, _⟩ => ⟨S10000x3072, .f32⟩
  | .hbm, ⟨2, _⟩ => ⟨S22x8x128, .i32⟩
  | .hbm, ⟨3, _⟩ => ⟨S22x8x128, .f32⟩
  | .local _ .vmem, ⟨0, _⟩ => ⟨S3072x2816, .f32⟩
  | .local _ .vmem, ⟨1, _⟩ => ⟨S256x3072, .f32⟩
  | .local _ .vmem, ⟨2, _⟩ => ⟨S256x3072, .f32⟩
  | .local _ .vmem, ⟨3, _⟩ => ⟨S22x8x128, .i32⟩
  | .local _ .vmem, ⟨4, _⟩ => ⟨S22x8x128, .f32⟩
  | _, _ => ⟨S3072x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S3072x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S22x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S22x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S3072x2816 : Shape := ⟨2, ![3072, 2816]⟩
abbrev S10000x3072 : Shape := ⟨2, ![10000, 3072]⟩
abbrev S2816x3072 : Shape := ⟨2, ![2816, 3072]⟩
abbrev S_ : Shape := ⟨0, ![]⟩
abbrev S2816 : Shape := ⟨1, ![2816]⟩
abbrev S2816x1 : Shape := ⟨2, ![2816, 1]⟩
abbrev S10000 : Shape := ⟨1, ![10000]⟩
abbrev S1x10000 : Shape := ⟨2, ![1, 10000]⟩
abbrev S3072x10000 : Shape := ⟨2, ![3072, 10000]⟩
abbrev S2816x10000 : Shape := ⟨2, ![2816, 10000]⟩
abbrev S22x1x128 : Shape := ⟨3, ![22, 1, 128]⟩
abbrev S22x8x128 : Shape := ⟨3, ![22, 8, 128]⟩

abbrev nBuf : Space → Nat
  | .hbm => 27
  | .vmem => 0
  | .smem => 0
  | _ => 0

abbrev bufTy : (tb : Table) → Fin (tcTables nBuf tb) → BufTy
  | .hbm, ⟨0, _⟩ => ⟨S3072x2816, .f32⟩
  | .hbm, ⟨1, _⟩ => ⟨S10000x3072, .f32⟩
  | .hbm, ⟨2, _⟩ => ⟨S2816x3072, .f32⟩
  | .hbm, ⟨3, _⟩ => ⟨S2816x3072, .f32⟩
  | .hbm, ⟨4, _⟩ => ⟨S_, .f32⟩
  | .hbm, ⟨5, _⟩ => ⟨S2816, .f32⟩
  | .hbm, ⟨6, _⟩ => ⟨S2816x1, .f32⟩
  | .hbm, ⟨7, _⟩ => ⟨S10000x3072, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S3072x10000, .f32⟩
  | .hbm, ⟨12, _⟩ => ⟨S2816x10000, .f32⟩
  | .hbm, ⟨13, _⟩ => ⟨S_, .f32⟩
  | .hbm, ⟨14, _⟩ => ⟨S2816x10000, .f32⟩
  | .hbm, ⟨15, _⟩ => ⟨S2816x10000, .f32⟩
  | .hbm, ⟨16, _⟩ => ⟨S2816x10000, .f32⟩
  | .hbm, ⟨17, _⟩ => ⟨S2816x10000, .f32⟩
  | .hbm, ⟨18, _⟩ => ⟨S2816x10000, .f32⟩
  | .hbm, ⟨19, _⟩ => ⟨S2816x10000, .f32⟩
  | .hbm, ⟨20, _⟩ => ⟨S2816x10000, .i32⟩
  | .hbm, ⟨21, _⟩ => ⟨S_, .f32⟩
  | .hbm, ⟨22, _⟩ => ⟨S_, .i32⟩
  | .hbm, ⟨23, _⟩ => ⟨S2816, .f32⟩
  | .hbm, ⟨24, _⟩ => ⟨S2816, .i32⟩
  | .hbm, ⟨25, _⟩ => ⟨S22x1x128, .i32⟩
  | .hbm, ⟨26, _⟩ => ⟨S22x8x128, .i32⟩
  | _, _ => ⟨S3072x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Fold.lean ====
abbrev S2816 : Shape := ⟨1, ![2816]⟩
abbrev S10000x3072 : Shape := ⟨2, ![10000, 3072]⟩
abbrev S10000x3x32x32 : Shape := ⟨4, ![10000, 3, 32, 32]⟩
abbrev S3x64x64 : Shape := ⟨3, ![3, 64, 64]⟩
abbrev S1x3x32x32 : Shape := ⟨4, ![1, 3, 32, 32]⟩
abbrev S1 : Shape := ⟨1, ![1]⟩
abbrev S3x84x128 : Shape := ⟨3, ![3, 84, 128]⟩
abbrev S3x32x32 : Shape := ⟨3, ![3, 32, 32]⟩
abbrev S3x32x96 : Shape := ⟨3, ![3, 32, 96]⟩
abbrev S3x32x128 : Shape := ⟨3, ![3, 32, 128]⟩
abbrev S1x3x64x64 : Shape := ⟨4, ![1, 3, 64, 64]⟩
abbrev S1x1x1x1 : Shape := ⟨4, ![1, 1, 1, 1]⟩

abbrev nBuf : Space → Nat
  | .hbm => 3
  | .vmem => 34
  | .smem => 1
  | _ => 0

abbrev bufTy : (tb : Table) → Fin (tcTables nBuf tb) → BufTy
  | .hbm, ⟨0, _⟩ => ⟨S10000x3072, .f32⟩
  | .hbm, ⟨1, _⟩ => ⟨S10000x3x32x32, .f32⟩
  | .hbm, ⟨2, _⟩ => ⟨S3x64x64, .f32⟩
  | .local _ .vmem, ⟨0, _⟩ => ⟨S1x3x32x32, .f32⟩
  | .local _ .vmem, ⟨1, _⟩ => ⟨S1x3x32x32, .f32⟩
  | .local _ .vmem, ⟨2, _⟩ => ⟨S1x3x32x32, .f32⟩
  | .local _ .vmem, ⟨3, _⟩ => ⟨S1x3x32x32, .f32⟩
  | .local _ .vmem, ⟨4, _⟩ => ⟨S1x3x32x32, .f32⟩
  | .local _ .vmem, ⟨5, _⟩ => ⟨S1x3x32x32, .f32⟩
  | .local _ .vmem, ⟨6, _⟩ => ⟨S1x3x32x32, .f32⟩
  | .local _ .vmem, ⟨7, _⟩ => ⟨S1x3x32x32, .f32⟩
  | .local _ .vmem, ⟨8, _⟩ => ⟨S1x3x32x32, .f32⟩
  | .local _ .vmem, ⟨9, _⟩ => ⟨S1x3x32x32, .f32⟩
  | .local _ .vmem, ⟨10, _⟩ => ⟨S1x3x32x32, .f32⟩
  | .local _ .vmem, ⟨11, _⟩ => ⟨S1x3x32x32, .f32⟩
  | .local _ .vmem, ⟨12, _⟩ => ⟨S1x3x32x32, .f32⟩
  | .local _ .vmem, ⟨13, _⟩ => ⟨S1x3x32x32, .f32⟩
  | .local _ .vmem, ⟨14, _⟩ => ⟨S1x3x32x32, .f32⟩
  | .local _ .vmem, ⟨15, _⟩ => ⟨S1x3x32x32, .f32⟩
  | .local _ .vmem, ⟨16, _⟩ => ⟨S1x3x32x32, .f32⟩
  | .local _ .vmem, ⟨17, _⟩ => ⟨S1x3x32x32, .f32⟩
  | .local _ .vmem, ⟨18, _⟩ => ⟨S1x3x32x32, .f32⟩
  | .local _ .vmem, ⟨19, _⟩ => ⟨S1x3x32x32, .f32⟩
  | .local _ .vmem, ⟨20, _⟩ => ⟨S1x3x32x32, .f32⟩
  | .local _ .vmem, ⟨21, _⟩ => ⟨S1x3x32x32, .f32⟩
  | .local _ .vmem, ⟨22, _⟩ => ⟨S1x3x32x32, .f32⟩
  | .local _ .vmem, ⟨23, _⟩ => ⟨S1x3x32x32, .f32⟩
  | .local _ .vmem, ⟨24, _⟩ => ⟨S1x3x32x32, .f32⟩
  | .local _ .vmem, ⟨25, _⟩ => ⟨S1x3x32x32, .f32⟩
  | .local _ .vmem, ⟨26, _⟩ => ⟨S1x3x32x32, .f32⟩
  | .local _ .vmem, ⟨27, _⟩ => ⟨S1x3x32x32, .f32⟩
  | .local _ .vmem, ⟨28, _⟩ => ⟨S1x3x32x32, .f32⟩
  | .local _ .vmem, ⟨29, _⟩ => ⟨S1x3x32x32, .f32⟩
  | .local _ .vmem, ⟨30, _⟩ => ⟨S1x3x32x32, .f32⟩
  | .local _ .vmem, ⟨31, _⟩ => ⟨S1x3x32x32, .f32⟩
  | .local _ .vmem, ⟨32, _⟩ => ⟨S3x64x64, .f32⟩
  | .local _ .vmem, ⟨33, _⟩ => ⟨S3x84x128, .f32⟩
  | .local _ .smem, ⟨0, _⟩ => ⟨S2816, .i32⟩
  | _, _ => ⟨S10000x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_v1 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32

abbrev nD : Nat := 1
abbrev τ : Topo := Topo.v7x

variable {F : FTy → Type} [FloatOps F]

abbrev grid0 : Pipeline.Grid := ⟨1, ![176], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def k0_cond2 (i : grid0.Coords) : BitVec 1 :=
  let arg0 : BitVec 32 := BitVec.ofNat 32 (i 0).val
  let c16_i32 : BitVec 32 := 16#32
  let v3 : BitVec 32 := Scalar.muli arg0 c16_i32
  let c0_i32_1 : BitVec 32 := 0#32
  let v4 : BitVec 32 := Scalar.addi v3 c0_i32_1
  let c2809_i32 : BitVec 32 := 2809#32
  let v24 : BitVec 1 := Scalar.cmpi .slt v4 c2809_i32
  let v25 : BitVec 32 := Scalar.extui v24
  let c0_i32_8 : BitVec 32 := 0#32
  let v26 : BitVec 1 := Scalar.cmpi .ne v25 c0_i32_8
  v26

def k0_off2 (i : grid0.Coords) : Fin 3 → Nat :=
  let c0_180 : Index := 0#32
  let arg0 : BitVec 32 := BitVec.ofNat 32 (i 0).val
  let c16_i32 : BitVec 32 := 16#32
  let v3 : BitVec 32 := Scalar.muli arg0 c16_i32
  let c0_i32_1 : BitVec 32 := 0#32
  let v4 : BitVec 32 := Scalar.addi v3 c0_i32_1
  let c0_i32_2 : BitVec 32 := 0#32
  let v6 : BitVec 1 := Scalar.cmpi .sgt v4 c0_i32_2
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c53_i32 : BitVec 32 := 53#32
  let c0_i32_4 : BitVec 32 := 0#32
  let v11 : BitVec 1 := Scalar.cmpi .sgt c53_i32 c0_i32_4
  let v12 : BitVec 32 := Scalar.extui v11
  let c0_i32_5 : BitVec 32 := 0#32
  let v13 : BitVec 1 := Scalar.cmpi .slt c53_i32 c0_i32_5
  let v14 : BitVec 32 := Scalar.extui v13
  let v15 : BitVec 32 := Scalar.subi v12 v14
  let v16 : BitVec 1 := Scalar.cmpi .ne v10 v15
  let v17 : BitVec 32 := Scalar.remsi v4 c53_i32
  let c0_i32_6 : BitVec 32 := 0#32
  let v18 : BitVec 1 := Scalar.cmpi .ne v17 c0_i32_6
  let v19 : BitVec 1 := Scalar.andi v16 v18
  let v5 : BitVec 32 := Scalar.divsi v4 c53_i32
  let c1_i32 : BitVec 32 := 1#32
  let v20 : BitVec 32 := Scalar.subi v5 c1_i32
  let v21 : BitVec 32 := Scalar.select v19 v20 v5
  let v396 : Index := Scalar.indexCast v21
  let c0_181 : Index := 0#32
  ![0, v396.toNat, 0]
def k0_cond3 (i : grid0.Coords) : BitVec 1 :=
  let arg0 : BitVec 32 := BitVec.ofNat 32 (i 0).val
  let c16_i32_9 : BitVec 32 := 16#32
  let v27 : BitVec 32 := Scalar.muli arg0 c16_i32_9
  let c1_i32_10 : BitVec 32 := 1#32
  let v28 : BitVec 32 := Scalar.addi v27 c1_i32_10
  let c2809_i32_19 : BitVec 32 := 2809#32
  let v48 : BitVec 1 := Scalar.cmpi .slt v28 c2809_i32_19
  let v49 : BitVec 32 := Scalar.extui v48
  let c0_i32_20 : BitVec 32 := 0#32
  let v50 : BitVec 1 := Scalar.cmpi .ne v49 c0_i32_20
  v50

def k0_off3 (i : grid0.Coords) : Fin 3 → Nat :=
  let c0_180 : Index := 0#32
  let arg0 : BitVec 32 := BitVec.ofNat 32 (i 0).val
  let c16_i32_9 : BitVec 32 := 16#32
  let v27 : BitVec 32 := Scalar.muli arg0 c16_i32_9
  let c1_i32_10 : BitVec 32 := 1#32
  let v28 : BitVec 32 := Scalar.addi v27 c1_i32_10
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c53_i32_11 : BitVec 32 := 53#32
  let c0_i32_14 : BitVec 32 := 0#32
  let v35 : BitVec 1 := Scalar.cmpi .sgt c53_i32_11 c0_i32_14
  let v36 : BitVec 32 := Scalar.extui v35
  let c0_i32_15 : BitVec 32 := 0#32
  let v37 : BitVec 1 := Scalar.cmpi .slt c53_i32_11 c0_i32_15
  let v38 : BitVec 32 := Scalar.extui v37
  let v39 : BitVec 32 := Scalar.subi v36 v38
  let v40 : BitVec 1 := Scalar.cmpi .ne v34 v39
  let v41 : BitVec 32 := Scalar.remsi v28 c53_i32_11
  let c0_i32_16 : BitVec 32 := 0#32
  let v42 : BitVec 1 := Scalar.cmpi .ne v41 c0_i32_16
  let v43 : BitVec 1 := Scalar.andi v40 v42
  let v29 : BitVec 32 := Scalar.divsi v28 c53_i32_11
  let c1_i32_17 : BitVec 32 := 1#32
  let v44 : BitVec 32 := Scalar.subi v29 c1_i32_17
  let v45 : BitVec 32 := Scalar.select v43 v44 v29
  let v396 : Index := Scalar.indexCast v45
  let c0_181 : Index := 0#32
  ![0, v396.toNat, 0]
def k0_cond4 (i : grid0.Coords) : BitVec 1 :=
  let arg0 : BitVec 32 := BitVec.ofNat 32 (i 0).val
  let c16_i32_21 : BitVec 32 := 16#32
  let v51 : BitVec 32 := Scalar.muli arg0 c16_i32_21
  let c2_i32 : BitVec 32 := 2#32
  let v52 : BitVec 32 := Scalar.addi v51 c2_i32
  let c2809_i32_30 : BitVec 32 := 2809#32
  let v72 : BitVec 1 := Scalar.cmpi .slt v52 c2809_i32_30
  let v73 : BitVec 32 := Scalar.extui v72
  let c0_i32_31 : BitVec 32 := 0#32
  let v74 : BitVec 1 := Scalar.cmpi .ne v73 c0_i32_31
  v74

def k0_off4 (i : grid0.Coords) : Fin 3 → Nat :=
  let c0_180 : Index := 0#32
  let arg0 : BitVec 32 := BitVec.ofNat 32 (i 0).val
  let c16_i32_21 : BitVec 32 := 16#32
  let v51 : BitVec 32 := Scalar.muli arg0 c16_i32_21
  let c2_i32 : BitVec 32 := 2#32
  let v52 : BitVec 32 := Scalar.addi v51 c2_i32
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c53_i32_22 : BitVec 32 := 53#32
  let c0_i32_25 : BitVec 32 := 0#32
  let v59 : BitVec 1 := Scalar.cmpi .sgt c53_i32_22 c0_i32_25
  let v60 : BitVec 32 := Scalar.extui v59
  let c0_i32_26 : BitVec 32 := 0#32
  let v61 : BitVec 1 := Scalar.cmpi .slt c53_i32_22 c0_i32_26
  let v62 : BitVec 32 := Scalar.extui v61
  let v63 : BitVec 32 := Scalar.subi v60 v62
  let v64 : BitVec 1 := Scalar.cmpi .ne v58 v63
  let v65 : BitVec 32 := Scalar.remsi v52 c53_i32_22
  let c0_i32_27 : BitVec 32 := 0#32
  let v66 : BitVec 1 := Scalar.cmpi .ne v65 c0_i32_27
  let v67 : BitVec 1 := Scalar.andi v64 v66
  let v53 : BitVec 32 := Scalar.divsi v52 c53_i32_22
  let c1_i32_28 : BitVec 32 := 1#32
  let v68 : BitVec 32 := Scalar.subi v53 c1_i32_28
  let v69 : BitVec 32 := Scalar.select v67 v68 v53
  let v396 : Index := Scalar.indexCast v69
  let c0_181 : Index := 0#32
  ![0, v396.toNat, 0]
def k0_cond5 (i : grid0.Coords) : BitVec 1 :=
  let arg0 : BitVec 32 := BitVec.ofNat 32 (i 0).val
  let c16_i32_32 : BitVec 32 := 16#32
  let v75 : BitVec 32 := Scalar.muli arg0 c16_i32_32
  let c3_i32 : BitVec 32 := 3#32
  let v76 : BitVec 32 := Scalar.addi v75 c3_i32
  let c2809_i32_41 : BitVec 32 := 2809#32
  let v96 : BitVec 1 := Scalar.cmpi .slt v76 c2809_i32_41
  let v97 : BitVec 32 := Scalar.extui v96
  let c0_i32_42 : BitVec 32 := 0#32
  let v98 : BitVec 1 := Scalar.cmpi .ne v97 c0_i32_42
  v98

def k0_off5 (i : grid0.Coords) : Fin 3 → Nat :=
  let c0_180 : Index := 0#32
  let arg0 : BitVec 32 := BitVec.ofNat 32 (i 0).val
  let c16_i32_32 : BitVec 32 := 16#32
  let v75 : BitVec 32 := Scalar.muli arg0 c16_i32_32
  let c3_i32 : BitVec 32 := 3#32
  let v76 : BitVec 32 := Scalar.addi v75 c3_i32
  let c0_i32_34 : BitVec 32 := 0#32
  let v78 : BitVec 1 := Scalar.cmpi .sgt v76 c0_i32_34
  let v79 : BitVec 32 := Scalar.extui v78
  let c0_i32_35 : BitVec 32 := 0#32
  let v80 : BitVec 1 := Scalar.cmpi .slt v76 c0_i32_35
  let v81 : BitVec 32 := Scalar.extui v80
  let v82 : BitVec 32 := Scalar.subi v79 v81
  let c53_i32_33 : BitVec 32 := 53#32
  let c0_i32_36 : BitVec 32 := 0#32
  let v83 : BitVec 1 := Scalar.cmpi .sgt c53_i32_33 c0_i32_36
  let v84 : BitVec 32 := Scalar.extui v83
  let c0_i32_37 : BitVec 32 := 0#32
  let v85 : BitVec 1 := Scalar.cmpi .slt c53_i32_33 c0_i32_37
  let v86 : BitVec 32 := Scalar.extui v85
  let v87 : BitVec 32 := Scalar.subi v84 v86
  let v88 : BitVec 1 := Scalar.cmpi .ne v82 v87
  let v89 : BitVec 32 := Scalar.remsi v76 c53_i32_33
  let c0_i32_38 : BitVec 32 := 0#32
  let v90 : BitVec 1 := Scalar.cmpi .ne v89 c0_i32_38
  let v91 : BitVec 1 := Scalar.andi v88 v90
  let v77 : BitVec 32 := Scalar.divsi v76 c53_i32_33
  let c1_i32_39 : BitVec 32 := 1#32
  let v92 : BitVec 32 := Scalar.subi v77 c1_i32_39
  let v93 : BitVec 32 := Scalar.select v91 v92 v77
  let v396 : Index := Scalar.indexCast v93
  let c0_181 : Index := 0#32
  ![0, v396.toNat, 0]
def k0_cond6 (i : grid0.Coords) : BitVec 1 :=
  let arg0 : BitVec 32 := BitVec.ofNat 32 (i 0).val
  let c16_i32_43 : BitVec 32 := 16#32
  let v99 : BitVec 32 := Scalar.muli arg0 c16_i32_43
  let c4_i32 : BitVec 32 := 4#32
  let v100 : BitVec 32 := Scalar.addi v99 c4_i32
  let c2809_i32_52 : BitVec 32 := 2809#32
  let v120 : BitVec 1 := Scalar.cmpi .slt v100 c2809_i32_52
  let v121 : BitVec 32 := Scalar.extui v120
  let c0_i32_53 : BitVec 32 := 0#32
  let v122 : BitVec 1 := Scalar.cmpi .ne v121 c0_i32_53
  v122

def k0_off6 (i : grid0.Coords) : Fin 3 → Nat :=
  let c0_180 : Index := 0#32
  let arg0 : BitVec 32 := BitVec.ofNat 32 (i 0).val
  let c16_i32_43 : BitVec 32 := 16#32
  let v99 : BitVec 32 := Scalar.muli arg0 c16_i32_43
  let c4_i32 : BitVec 32 := 4#32
  let v100 : BitVec 32 := Scalar.addi v99 c4_i32
  let c0_i32_45 : BitVec 32 := 0#32
  let v102 : BitVec 1 := Scalar.cmpi .sgt v100 c0_i32_45
  let v103 : BitVec 32 := Scalar.extui v102
  let c0_i32_46 : BitVec 32 := 0#32
  let v104 : BitVec 1 := Scalar.cmpi .slt v100 c0_i32_46
  let v105 : BitVec 32 := Scalar.extui v104
  let v106 : BitVec 32 := Scalar.subi v103 v105
  let c53_i32_44 : BitVec 32 := 53#32
  let c0_i32_47 : BitVec 32 := 0#32
  let v107 : BitVec 1 := Scalar.cmpi .sgt c53_i32_44 c0_i32_47
  let v108 : BitVec 32 := Scalar.extui v107
  let c0_i32_48 : BitVec 32 := 0#32
  let v109 : BitVec 1 := Scalar.cmpi .slt c53_i32_44 c0_i32_48
  let v110 : BitVec 32 := Scalar.extui v109
  let v111 : BitVec 32 := Scalar.subi v108 v110
  let v112 : BitVec 1 := Scalar.cmpi .ne v106 v111
  let v113 : BitVec 32 := Scalar.remsi v100 c53_i32_44
  let c0_i32_49 : BitVec 32 := 0#32
  let v114 : BitVec 1 := Scalar.cmpi .ne v113 c0_i32_49
  let v115 : BitVec 1 := Scalar.andi v112 v114
  let v101 : BitVec 32 := Scalar.divsi v100 c53_i32_44
  let c1_i32_50 : BitVec 32 := 1#32
  let v116 : BitVec 32 := Scalar.subi v101 c1_i32_50
  let v117 : BitVec 32 := Scalar.select v115 v116 v101
  let v396 : Index := Scalar.indexCast v117
  let c0_181 : Index := 0#32
  ![0, v396.toNat, 0]
def k0_cond7 (i : grid0.Coords) : BitVec 1 :=
  let arg0 : BitVec 32 := BitVec.ofNat 32 (i 0).val
  let c16_i32_54 : BitVec 32 := 16#32
  let v123 : BitVec 32 := Scalar.muli arg0 c16_i32_54
  let c5_i32 : BitVec 32 := 5#32
  let v124 : BitVec 32 := Scalar.addi v123 c5_i32
  let c2809_i32_63 : BitVec 32 := 2809#32
  let v144 : BitVec 1 := Scalar.cmpi .slt v124 c2809_i32_63
  let v145 : BitVec 32 := Scalar.extui v144
  let c0_i32_64 : BitVec 32 := 0#32
  let v146 : BitVec 1 := Scalar.cmpi .ne v145 c0_i32_64
  v146

def k0_off7 (i : grid0.Coords) : Fin 3 → Nat :=
  let c0_180 : Index := 0#32
  let arg0 : BitVec 32 := BitVec.ofNat 32 (i 0).val
  let c16_i32_54 : BitVec 32 := 16#32
  let v123 : BitVec 32 := Scalar.muli arg0 c16_i32_54
  let c5_i32 : BitVec 32 := 5#32
  let v124 : BitVec 32 := Scalar.addi v123 c5_i32
  let c0_i32_56 : BitVec 32 := 0#32
  let v126 : BitVec 1 := Scalar.cmpi .sgt v124 c0_i32_56
  let v127 : BitVec 32 := Scalar.extui v126
  let c0_i32_57 : BitVec 32 := 0#32
  let v128 : BitVec 1 := Scalar.cmpi .slt v124 c0_i32_57
  let v129 : BitVec 32 := Scalar.extui v128
  let v130 : BitVec 32 := Scalar.subi v127 v129
  let c53_i32_55 : BitVec 32 := 53#32
  let c0_i32_58 : BitVec 32 := 0#32
  let v131 : BitVec 1 := Scalar.cmpi .sgt c53_i32_55 c0_i32_58
  let v132 : BitVec 32 := Scalar.extui v131
  let c0_i32_59 : BitVec 32 := 0#32
  let v133 : BitVec 1 := Scalar.cmpi .slt c53_i32_55 c0_i32_59
  let v134 : BitVec 32 := Scalar.extui v133
  let v135 : BitVec 32 := Scalar.subi v132 v134
  let v136 : BitVec 1 := Scalar.cmpi .ne v130 v135
  let v137 : BitVec 32 := Scalar.remsi v124 c53_i32_55
  let c0_i32_60 : BitVec 32 := 0#32
  let v138 : BitVec 1 := Scalar.cmpi .ne v137 c0_i32_60
  let v139 : BitVec 1 := Scalar.andi v136 v138
  let v125 : BitVec 32 := Scalar.divsi v124 c53_i32_55
  let c1_i32_61 : BitVec 32 := 1#32
  let v140 : BitVec 32 := Scalar.subi v125 c1_i32_61
  let v141 : BitVec 32 := Scalar.select v139 v140 v125
  let v396 : Index := Scalar.indexCast v141
  let c0_181 : Index := 0#32
  ![0, v396.toNat, 0]
def k0_cond8 (i : grid0.Coords) : BitVec 1 :=
  let arg0 : BitVec 32 := BitVec.ofNat 32 (i 0).val
  let c16_i32_65 : BitVec 32 := 16#32
  let v147 : BitVec 32 := Scalar.muli arg0 c16_i32_65
  let c6_i32 : BitVec 32 := 6#32
  let v148 : BitVec 32 := Scalar.addi v147 c6_i32
  let c2809_i32_74 : BitVec 32 := 2809#32
  let v168 : BitVec 1 := Scalar.cmpi .slt v148 c2809_i32_74
  let v169 : BitVec 32 := Scalar.extui v168
  let c0_i32_75 : BitVec 32 := 0#32
  let v170 : BitVec 1 := Scalar.cmpi .ne v169 c0_i32_75
  v170

def k0_off8 (i : grid0.Coords) : Fin 3 → Nat :=
  let c0_180 : Index := 0#32
  let arg0 : BitVec 32 := BitVec.ofNat 32 (i 0).val
  let c16_i32_65 : BitVec 32 := 16#32
  let v147 : BitVec 32 := Scalar.muli arg0 c16_i32_65
  let c6_i32 : BitVec 32 := 6#32
  let v148 : BitVec 32 := Scalar.addi v147 c6_i32
  let c0_i32_67 : BitVec 32 := 0#32
  let v150 : BitVec 1 := Scalar.cmpi .sgt v148 c0_i32_67
  let v151 : BitVec 32 := Scalar.extui v150
  let c0_i32_68 : BitVec 32 := 0#32
  let v152 : BitVec 1 := Scalar.cmpi .slt v148 c0_i32_68
  let v153 : BitVec 32 := Scalar.extui v152
  let v154 : BitVec 32 := Scalar.subi v151 v153
  let c53_i32_66 : BitVec 32 := 53#32
  let c0_i32_69 : BitVec 32 := 0#32
  let v155 : BitVec 1 := Scalar.cmpi .sgt c53_i32_66 c0_i32_69
  let v156 : BitVec 32 := Scalar.extui v155
  let c0_i32_70 : BitVec 32 := 0#32
  let v157 : BitVec 1 := Scalar.cmpi .slt c53_i32_66 c0_i32_70
  let v158 : BitVec 32 := Scalar.extui v157
  let v159 : BitVec 32 := Scalar.subi v156 v158
  let v160 : BitVec 1 := Scalar.cmpi .ne v154 v159
  let v161 : BitVec 32 := Scalar.remsi v148 c53_i32_66
  let c0_i32_71 : BitVec 32 := 0#32
  let v162 : BitVec 1 := Scalar.cmpi .ne v161 c0_i32_71
  let v163 : BitVec 1 := Scalar.andi v160 v162
  let v149 : BitVec 32 := Scalar.divsi v148 c53_i32_66
  let c1_i32_72 : BitVec 32 := 1#32
  let v164 : BitVec 32 := Scalar.subi v149 c1_i32_72
  let v165 : BitVec 32 := Scalar.select v163 v164 v149
  let v396 : Index := Scalar.indexCast v165
  let c0_181 : Index := 0#32
  ![0, v396.toNat, 0]
def k0_cond9 (i : grid0.Coords) : BitVec 1 :=
  let arg0 : BitVec 32 := BitVec.ofNat 32 (i 0).val
  let c16_i32_76 : BitVec 32 := 16#32
  let v171 : BitVec 32 := Scalar.muli arg0 c16_i32_76
  let c7_i32 : BitVec 32 := 7#32
  let v172 : BitVec 32 := Scalar.addi v171 c7_i32
  let c2809_i32_85 : BitVec 32 := 2809#32
  let v192 : BitVec 1 := Scalar.cmpi .slt v172 c2809_i32_85
  let v193 : BitVec 32 := Scalar.extui v192
  let c0_i32_86 : BitVec 32 := 0#32
  let v194 : BitVec 1 := Scalar.cmpi .ne v193 c0_i32_86
  v194

def k0_off9 (i : grid0.Coords) : Fin 3 → Nat :=
  let c0_180 : Index := 0#32
  let arg0 : BitVec 32 := BitVec.ofNat 32 (i 0).val
  let c16_i32_76 : BitVec 32 := 16#32
  let v171 : BitVec 32 := Scalar.muli arg0 c16_i32_76
  let c7_i32 : BitVec 32 := 7#32
  let v172 : BitVec 32 := Scalar.addi v171 c7_i32
  let c0_i32_78 : BitVec 32 := 0#32
  let v174 : BitVec 1 := Scalar.cmpi .sgt v172 c0_i32_78
  let v175 : BitVec 32 := Scalar.extui v174
  let c0_i32_79 : BitVec 32 := 0#32
  let v176 : BitVec 1 := Scalar.cmpi .slt v172 c0_i32_79
  let v177 : BitVec 32 := Scalar.extui v176
  let v178 : BitVec 32 := Scalar.subi v175 v177
  let c53_i32_77 : BitVec 32 := 53#32
  let c0_i32_80 : BitVec 32 := 0#32
  let v179 : BitVec 1 := Scalar.cmpi .sgt c53_i32_77 c0_i32_80
  let v180 : BitVec 32 := Scalar.extui v179
  let c0_i32_81 : BitVec 32 := 0#32
  let v181 : BitVec 1 := Scalar.cmpi .slt c53_i32_77 c0_i32_81
  let v182 : BitVec 32 := Scalar.extui v181
  let v183 : BitVec 32 := Scalar.subi v180 v182
  let v184 : BitVec 1 := Scalar.cmpi .ne v178 v183
  let v185 : BitVec 32 := Scalar.remsi v172 c53_i32_77
  let c0_i32_82 : BitVec 32 := 0#32
  let v186 : BitVec 1 := Scalar.cmpi .ne v185 c0_i32_82
  let v187 : BitVec 1 := Scalar.andi v184 v186
  let v173 : BitVec 32 := Scalar.divsi v172 c53_i32_77
  let c1_i32_83 : BitVec 32 := 1#32
  let v188 : BitVec 32 := Scalar.subi v173 c1_i32_83
  let v189 : BitVec 32 := Scalar.select v187 v188 v173
  let v396 : Index := Scalar.indexCast v189
  let c0_181 : Index := 0#32
  ![0, v396.toNat, 0]
def k0_cond10 (i : grid0.Coords) : BitVec 1 :=
  let arg0 : BitVec 32 := BitVec.ofNat 32 (i 0).val
  let c16_i32_87 : BitVec 32 := 16#32
  let v195 : BitVec 32 := Scalar.muli arg0 c16_i32_87
  let c8_i32 : BitVec 32 := 8#32
  let v196 : BitVec 32 := Scalar.addi v195 c8_i32
  let c2809_i32_96 : BitVec 32 := 2809#32
  let v216 : BitVec 1 := Scalar.cmpi .slt v196 c2809_i32_96
  let v217 : BitVec 32 := Scalar.extui v216
  let c0_i32_97 : BitVec 32 := 0#32
  let v218 : BitVec 1 := Scalar.cmpi .ne v217 c0_i32_97
  v218

def k0_off10 (i : grid0.Coords) : Fin 3 → Nat :=
  let c0_180 : Index := 0#32
  let arg0 : BitVec 32 := BitVec.ofNat 32 (i 0).val
  let c16_i32_87 : BitVec 32 := 16#32
  let v195 : BitVec 32 := Scalar.muli arg0 c16_i32_87
  let c8_i32 : BitVec 32 := 8#32
  let v196 : BitVec 32 := Scalar.addi v195 c8_i32
  let c0_i32_89 : BitVec 32 := 0#32
  let v198 : BitVec 1 := Scalar.cmpi .sgt v196 c0_i32_89
  let v199 : BitVec 32 := Scalar.extui v198
  let c0_i32_90 : BitVec 32 := 0#32
  let v200 : BitVec 1 := Scalar.cmpi .slt v196 c0_i32_90
  let v201 : BitVec 32 := Scalar.extui v200
  let v202 : BitVec 32 := Scalar.subi v199 v201
  let c53_i32_88 : BitVec 32 := 53#32
  let c0_i32_91 : BitVec 32 := 0#32
  let v203 : BitVec 1 := Scalar.cmpi .sgt c53_i32_88 c0_i32_91
  let v204 : BitVec 32 := Scalar.extui v203
  let c0_i32_92 : BitVec 32 := 0#32
  let v205 : BitVec 1 := Scalar.cmpi .slt c53_i32_88 c0_i32_92
  let v206 : BitVec 32 := Scalar.extui v205
  let v207 : BitVec 32 := Scalar.subi v204 v206
  let v208 : BitVec 1 := Scalar.cmpi .ne v202 v207
  let v209 : BitVec 32 := Scalar.remsi v196 c53_i32_88
  let c0_i32_93 : BitVec 32 := 0#32
  let v210 : BitVec 1 := Scalar.cmpi .ne v209 c0_i32_93
  let v211 : BitVec 1 := Scalar.andi v208 v210
  let v197 : BitVec 32 := Scalar.divsi v196 c53_i32_88
  let c1_i32_94 : BitVec 32 := 1#32
  let v212 : BitVec 32 := Scalar.subi v197 c1_i32_94
  let v213 : BitVec 32 := Scalar.select v211 v212 v197
  let v396 : Index := Scalar.indexCast v213
  let c0_181 : Index := 0#32
  ![0, v396.toNat, 0]
def k0_cond11 (i : grid0.Coords) : BitVec 1 :=
  let arg0 : BitVec 32 := BitVec.ofNat 32 (i 0).val
  let c16_i32_98 : BitVec 32 := 16#32
  let v219 : BitVec 32 := Scalar.muli arg0 c16_i32_98
  let c9_i32 : BitVec 32 := 9#32
  let v220 : BitVec 32 := Scalar.addi v219 c9_i32
  let c2809_i32_107 : BitVec 32 := 2809#32
  let v240 : BitVec 1 := Scalar.cmpi .slt v220 c2809_i32_107
  let v241 : BitVec 32 := Scalar.extui v240
  let c0_i32_108 : BitVec 32 := 0#32
  let v242 : BitVec 1 := Scalar.cmpi .ne v241 c0_i32_108
  v242

def k0_off11 (i : grid0.Coords) : Fin 3 → Nat :=
  let c0_180 : Index := 0#32
  let arg0 : BitVec 32 := BitVec.ofNat 32 (i 0).val
  let c16_i32_98 : BitVec 32 := 16#32
  let v219 : BitVec 32 := Scalar.muli arg0 c16_i32_98
  let c9_i32 : BitVec 32 := 9#32
  let v220 : BitVec 32 := Scalar.addi v219 c9_i32
  let c0_i32_100 : BitVec 32 := 0#32
  let v222 : BitVec 1 := Scalar.cmpi .sgt v220 c0_i32_100
  let v223 : BitVec 32 := Scalar.extui v222
  let c0_i32_101 : BitVec 32 := 0#32
  let v224 : BitVec 1 := Scalar.cmpi .slt v220 c0_i32_101
  let v225 : BitVec 32 := Scalar.extui v224
  let v226 : BitVec 32 := Scalar.subi v223 v225
  let c53_i32_99 : BitVec 32 := 53#32
  let c0_i32_102 : BitVec 32 := 0#32
  let v227 : BitVec 1 := Scalar.cmpi .sgt c53_i32_99 c0_i32_102
  let v228 : BitVec 32 := Scalar.extui v227
  let c0_i32_103 : BitVec 32 := 0#32
  let v229 : BitVec 1 := Scalar.cmpi .slt c53_i32_99 c0_i32_103
  let v230 : BitVec 32 := Scalar.extui v229
  let v231 : BitVec 32 := Scalar.subi v228 v230
  let v232 : BitVec 1 := Scalar.cmpi .ne v226 v231
  let v233 : BitVec 32 := Scalar.remsi v220 c53_i32_99
  let c0_i32_104 : BitVec 32 := 0#32
  let v234 : BitVec 1 := Scalar.cmpi .ne v233 c0_i32_104
  let v235 : BitVec 1 := Scalar.andi v232 v234
  let v221 : BitVec 32 := Scalar.divsi v220 c53_i32_99
  let c1_i32_105 : BitVec 32 := 1#32
  let v236 : BitVec 32 := Scalar.subi v221 c1_i32_105
  let v237 : BitVec 32 := Scalar.select v235 v236 v221
  let v396 : Index := Scalar.indexCast v237
  let c0_181 : Index := 0#32
  ![0, v396.toNat, 0]
def k0_cond12 (i : grid0.Coords) : BitVec 1 :=
  let arg0 : BitVec 32 := BitVec.ofNat 32 (i 0).val
  let c16_i32_109 : BitVec 32 := 16#32
  let v243 : BitVec 32 := Scalar.muli arg0 c16_i32_109
  let c10_i32 : BitVec 32 := 10#32
  let v244 : BitVec 32 := Scalar.addi v243 c10_i32
  let c2809_i32_118 : BitVec 32 := 2809#32
  let v264 : BitVec 1 := Scalar.cmpi .slt v244 c2809_i32_118
  let v265 : BitVec 32 := Scalar.extui v264
  let c0_i32_119 : BitVec 32 := 0#32
  let v266 : BitVec 1 := Scalar.cmpi .ne v265 c0_i32_119
  v266

def k0_off12 (i : grid0.Coords) : Fin 3 → Nat :=
  let c0_180 : Index := 0#32
  let arg0 : BitVec 32 := BitVec.ofNat 32 (i 0).val
  let c16_i32_109 : BitVec 32 := 16#32
  let v243 : BitVec 32 := Scalar.muli arg0 c16_i32_109
  let c10_i32 : BitVec 32 := 10#32
  let v244 : BitVec 32 := Scalar.addi v243 c10_i32
  let c0_i32_111 : BitVec 32 := 0#32
  let v246 : BitVec 1 := Scalar.cmpi .sgt v244 c0_i32_111
  let v247 : BitVec 32 := Scalar.extui v246
  let c0_i32_112 : BitVec 32 := 0#32
  let v248 : BitVec 1 := Scalar.cmpi .slt v244 c0_i32_112
  let v249 : BitVec 32 := Scalar.extui v248
  let v250 : BitVec 32 := Scalar.subi v247 v249
  let c53_i32_110 : BitVec 32 := 53#32
  let c0_i32_113 : BitVec 32 := 0#32
  let v251 : BitVec 1 := Scalar.cmpi .sgt c53_i32_110 c0_i32_113
  let v252 : BitVec 32 := Scalar.extui v251
  let c0_i32_114 : BitVec 32 := 0#32
  let v253 : BitVec 1 := Scalar.cmpi .slt c53_i32_110 c0_i32_114
  let v254 : BitVec 32 := Scalar.extui v253
  let v255 : BitVec 32 := Scalar.subi v252 v254
  let v256 : BitVec 1 := Scalar.cmpi .ne v250 v255
  let v257 : BitVec 32 := Scalar.remsi v244 c53_i32_110
  let c0_i32_115 : BitVec 32 := 0#32
  let v258 : BitVec 1 := Scalar.cmpi .ne v257 c0_i32_115
  let v259 : BitVec 1 := Scalar.andi v256 v258
  let v245 : BitVec 32 := Scalar.divsi v244 c53_i32_110
  let c1_i32_116 : BitVec 32 := 1#32
  let v260 : BitVec 32 := Scalar.subi v245 c1_i32_116
  let v261 : BitVec 32 := Scalar.select v259 v260 v245
  let v396 : Index := Scalar.indexCast v261
  let c0_181 : Index := 0#32
  ![0, v396.toNat, 0]
def k0_cond13 (i : grid0.Coords) : BitVec 1 :=
  let arg0 : BitVec 32 := BitVec.ofNat 32 (i 0).val
  let c16_i32_120 : BitVec 32 := 16#32
  let v267 : BitVec 32 := Scalar.muli arg0 c16_i32_120
  let c11_i32 : BitVec 32 := 11#32
  let v268 : BitVec 32 := Scalar.addi v267 c11_i32
  let c2809_i32_129 : BitVec 32 := 2809#32
  let v288 : BitVec 1 := Scalar.cmpi .slt v268 c2809_i32_129
  let v289 : BitVec 32 := Scalar.extui v288
  let c0_i32_130 : BitVec 32 := 0#32
  let v290 : BitVec 1 := Scalar.cmpi .ne v289 c0_i32_130
  v290

def k0_off13 (i : grid0.Coords) : Fin 3 → Nat :=
  let c0_180 : Index := 0#32
  let arg0 : BitVec 32 := BitVec.ofNat 32 (i 0).val
  let c16_i32_120 : BitVec 32 := 16#32
  let v267 : BitVec 32 := Scalar.muli arg0 c16_i32_120
  let c11_i32 : BitVec 32 := 11#32
  let v268 : BitVec 32 := Scalar.addi v267 c11_i32
  let c0_i32_122 : BitVec 32 := 0#32
  let v270 : BitVec 1 := Scalar.cmpi .sgt v268 c0_i32_122
  let v271 : BitVec 32 := Scalar.extui v270
  let c0_i32_123 : BitVec 32 := 0#32
  let v272 : BitVec 1 := Scalar.cmpi .slt v268 c0_i32_123
  let v273 : BitVec 32 := Scalar.extui v272
  let v274 : BitVec 32 := Scalar.subi v271 v273
  let c53_i32_121 : BitVec 32 := 53#32
  let c0_i32_124 : BitVec 32 := 0#32
  let v275 : BitVec 1 := Scalar.cmpi .sgt c53_i32_121 c0_i32_124
  let v276 : BitVec 32 := Scalar.extui v275
  let c0_i32_125 : BitVec 32 := 0#32
  let v277 : BitVec 1 := Scalar.cmpi .slt c53_i32_121 c0_i32_125
  let v278 : BitVec 32 := Scalar.extui v277
  let v279 : BitVec 32 := Scalar.subi v276 v278
  let v280 : BitVec 1 := Scalar.cmpi .ne v274 v279
  let v281 : BitVec 32 := Scalar.remsi v268 c53_i32_121
  let c0_i32_126 : BitVec 32 := 0#32
  let v282 : BitVec 1 := Scalar.cmpi .ne v281 c0_i32_126
  let v283 : BitVec 1 := Scalar.andi v280 v282
  let v269 : BitVec 32 := Scalar.divsi v268 c53_i32_121
  let c1_i32_127 : BitVec 32 := 1#32
  let v284 : BitVec 32 := Scalar.subi v269 c1_i32_127
  let v285 : BitVec 32 := Scalar.select v283 v284 v269
  let v396 : Index := Scalar.indexCast v285
  let c0_181 : Index := 0#32
  ![0, v396.toNat, 0]
def k0_cond14 (i : grid0.Coords) : BitVec 1 :=
  let arg0 : BitVec 32 := BitVec.ofNat 32 (i 0).val
  let c16_i32_131 : BitVec 32 := 16#32
  let v291 : BitVec 32 := Scalar.muli arg0 c16_i32_131
  let c12_i32 : BitVec 32 := 12#32
  let v292 : BitVec 32 := Scalar.addi v291 c12_i32
  let c2809_i32_140 : BitVec 32 := 2809#32
  let v312 : BitVec 1 := Scalar.cmpi .slt v292 c2809_i32_140
  let v313 : BitVec 32 := Scalar.extui v312
  let c0_i32_141 : BitVec 32 := 0#32
  let v314 : BitVec 1 := Scalar.cmpi .ne v313 c0_i32_141
  v314

def k0_off14 (i : grid0.Coords) : Fin 3 → Nat :=
  let c0_180 : Index := 0#32
  let arg0 : BitVec 32 := BitVec.ofNat 32 (i 0).val
  let c16_i32_131 : BitVec 32 := 16#32
  let v291 : BitVec 32 := Scalar.muli arg0 c16_i32_131
  let c12_i32 : BitVec 32 := 12#32
  let v292 : BitVec 32 := Scalar.addi v291 c12_i32
  let c0_i32_133 : BitVec 32 := 0#32
  let v294 : BitVec 1 := Scalar.cmpi .sgt v292 c0_i32_133
  let v295 : BitVec 32 := Scalar.extui v294
  let c0_i32_134 : BitVec 32 := 0#32
  let v296 : BitVec 1 := Scalar.cmpi .slt v292 c0_i32_134
  let v297 : BitVec 32 := Scalar.extui v296
  let v298 : BitVec 32 := Scalar.subi v295 v297
  let c53_i32_132 : BitVec 32 := 53#32
  let c0_i32_135 : BitVec 32 := 0#32
  let v299 : BitVec 1 := Scalar.cmpi .sgt c53_i32_132 c0_i32_135
  let v300 : BitVec 32 := Scalar.extui v299
  let c0_i32_136 : BitVec 32 := 0#32
  let v301 : BitVec 1 := Scalar.cmpi .slt c53_i32_132 c0_i32_136
  let v302 : BitVec 32 := Scalar.extui v301
  let v303 : BitVec 32 := Scalar.subi v300 v302
  let v304 : BitVec 1 := Scalar.cmpi .ne v298 v303
  let v305 : BitVec 32 := Scalar.remsi v292 c53_i32_132
  let c0_i32_137 : BitVec 32 := 0#32
  let v306 : BitVec 1 := Scalar.cmpi .ne v305 c0_i32_137
  let v307 : BitVec 1 := Scalar.andi v304 v306
  let v293 : BitVec 32 := Scalar.divsi v292 c53_i32_132
  let c1_i32_138 : BitVec 32 := 1#32
  let v308 : BitVec 32 := Scalar.subi v293 c1_i32_138
  let v309 : BitVec 32 := Scalar.select v307 v308 v293
  let v396 : Index := Scalar.indexCast v309
  let c0_181 : Index := 0#32
  ![0, v396.toNat, 0]
def k0_cond15 (i : grid0.Coords) : BitVec 1 :=
  let arg0 : BitVec 32 := BitVec.ofNat 32 (i 0).val
  let c16_i32_142 : BitVec 32 := 16#32
  let v315 : BitVec 32 := Scalar.muli arg0 c16_i32_142
  let c13_i32 : BitVec 32 := 13#32
  let v316 : BitVec 32 := Scalar.addi v315 c13_i32
  let c2809_i32_151 : BitVec 32 := 2809#32
  let v336 : BitVec 1 := Scalar.cmpi .slt v316 c2809_i32_151
  let v337 : BitVec 32 := Scalar.extui v336
  let c0_i32_152 : BitVec 32 := 0#32
  let v338 : BitVec 1 := Scalar.cmpi .ne v337 c0_i32_152
  v338

def k0_off15 (i : grid0.Coords) : Fin 3 → Nat :=
  let c0_180 : Index := 0#32
  let arg0 : BitVec 32 := BitVec.ofNat 32 (i 0).val
  let c16_i32_142 : BitVec 32 := 16#32
  let v315 : BitVec 32 := Scalar.muli arg0 c16_i32_142
  let c13_i32 : BitVec 32 := 13#32
  let v316 : BitVec 32 := Scalar.addi v315 c13_i32
  let c0_i32_144 : BitVec 32 := 0#32
  let v318 : BitVec 1 := Scalar.cmpi .sgt v316 c0_i32_144
  let v319 : BitVec 32 := Scalar.extui v318
  let c0_i32_145 : BitVec 32 := 0#32
  let v320 : BitVec 1 := Scalar.cmpi .slt v316 c0_i32_145
  let v321 : BitVec 32 := Scalar.extui v320
  let v322 : BitVec 32 := Scalar.subi v319 v321
  let c53_i32_143 : BitVec 32 := 53#32
  let c0_i32_146 : BitVec 32 := 0#32
  let v323 : BitVec 1 := Scalar.cmpi .sgt c53_i32_143 c0_i32_146
  let v324 : BitVec 32 := Scalar.extui v323
  let c0_i32_147 : BitVec 32 := 0#32
  let v325 : BitVec 1 := Scalar.cmpi .slt c53_i32_143 c0_i32_147
  let v326 : BitVec 32 := Scalar.extui v325
  let v327 : BitVec 32 := Scalar.subi v324 v326
  let v328 : BitVec 1 := Scalar.cmpi .ne v322 v327
  let v329 : BitVec 32 := Scalar.remsi v316 c53_i32_143
  let c0_i32_148 : BitVec 32 := 0#32
  let v330 : BitVec 1 := Scalar.cmpi .ne v329 c0_i32_148
  let v331 : BitVec 1 := Scalar.andi v328 v330
  let v317 : BitVec 32 := Scalar.divsi v316 c53_i32_143
  let c1_i32_149 : BitVec 32 := 1#32
  let v332 : BitVec 32 := Scalar.subi v317 c1_i32_149
  let v333 : BitVec 32 := Scalar.select v331 v332 v317
  let v396 : Index := Scalar.indexCast v333
  let c0_181 : Index := 0#32
  ![0, v396.toNat, 0]
def k0_cond16 (i : grid0.Coords) : BitVec 1 :=
  let arg0 : BitVec 32 := BitVec.ofNat 32 (i 0).val
  let c16_i32_153 : BitVec 32 := 16#32
  let v339 : BitVec 32 := Scalar.muli arg0 c16_i32_153
  let c14_i32 : BitVec 32 := 14#32
  let v340 : BitVec 32 := Scalar.addi v339 c14_i32
  let c2809_i32_162 : BitVec 32 := 2809#32
  let v360 : BitVec 1 := Scalar.cmpi .slt v340 c2809_i32_162
  let v361 : BitVec 32 := Scalar.extui v360
  let c0_i32_163 : BitVec 32 := 0#32
  let v362 : BitVec 1 := Scalar.cmpi .ne v361 c0_i32_163
  v362

def k0_off16 (i : grid0.Coords) : Fin 3 → Nat :=
  let c0_180 : Index := 0#32
  let arg0 : BitVec 32 := BitVec.ofNat 32 (i 0).val
  let c16_i32_153 : BitVec 32 := 16#32
  let v339 : BitVec 32 := Scalar.muli arg0 c16_i32_153
  let c14_i32 : BitVec 32 := 14#32
  let v340 : BitVec 32 := Scalar.addi v339 c14_i32
  let c0_i32_155 : BitVec 32 := 0#32
  let v342 : BitVec 1 := Scalar.cmpi .sgt v340 c0_i32_155
  let v343 : BitVec 32 := Scalar.extui v342
  let c0_i32_156 : BitVec 32 := 0#32
  let v344 : BitVec 1 := Scalar.cmpi .slt v340 c0_i32_156
  let v345 : BitVec 32 := Scalar.extui v344
  let v346 : BitVec 32 := Scalar.subi v343 v345
  let c53_i32_154 : BitVec 32 := 53#32
  let c0_i32_157 : BitVec 32 := 0#32
  let v347 : BitVec 1 := Scalar.cmpi .sgt c53_i32_154 c0_i32_157
  let v348 : BitVec 32 := Scalar.extui v347
  let c0_i32_158 : BitVec 32 := 0#32
  let v349 : BitVec 1 := Scalar.cmpi .slt c53_i32_154 c0_i32_158
  let v350 : BitVec 32 := Scalar.extui v349
  let v351 : BitVec 32 := Scalar.subi v348 v350
  let v352 : BitVec 1 := Scalar.cmpi .ne v346 v351
  let v353 : BitVec 32 := Scalar.remsi v340 c53_i32_154
  let c0_i32_159 : BitVec 32 := 0#32
  let v354 : BitVec 1 := Scalar.cmpi .ne v353 c0_i32_159
  let v355 : BitVec 1 := Scalar.andi v352 v354
  let v341 : BitVec 32 := Scalar.divsi v340 c53_i32_154
  let c1_i32_160 : BitVec 32 := 1#32
  let v356 : BitVec 32 := Scalar.subi v341 c1_i32_160
  let v357 : BitVec 32 := Scalar.select v355 v356 v341
  let v396 : Index := Scalar.indexCast v357
  let c0_181 : Index := 0#32
  ![0, v396.toNat, 0]
def k0_cond17 (i : grid0.Coords) : BitVec 1 :=
  let arg0 : BitVec 32 := BitVec.ofNat 32 (i 0).val
  let c16_i32_164 : BitVec 32 := 16#32
  let v363 : BitVec 32 := Scalar.muli arg0 c16_i32_164
  let c15_i32 : BitVec 32 := 15#32
  let v364 : BitVec 32 := Scalar.addi v363 c15_i32
  let c2809_i32_173 : BitVec 32 := 2809#32
  let v384 : BitVec 1 := Scalar.cmpi .slt v364 c2809_i32_173
  let v385 : BitVec 32 := Scalar.extui v384
  let c0_i32_174 : BitVec 32 := 0#32
  let v386 : BitVec 1 := Scalar.cmpi .ne v385 c0_i32_174
  v386

def k0_off17 (i : grid0.Coords) : Fin 3 → Nat :=
  let c0_180 : Index := 0#32
  let arg0 : BitVec 32 := BitVec.ofNat 32 (i 0).val
  let c16_i32_164 : BitVec 32 := 16#32
  let v363 : BitVec 32 := Scalar.muli arg0 c16_i32_164
  let c15_i32 : BitVec 32 := 15#32
  let v364 : BitVec 32 := Scalar.addi v363 c15_i32
  let c0_i32_166 : BitVec 32 := 0#32
  let v366 : BitVec 1 := Scalar.cmpi .sgt v364 c0_i32_166
  let v367 : BitVec 32 := Scalar.extui v366
  let c0_i32_167 : BitVec 32 := 0#32
  let v368 : BitVec 1 := Scalar.cmpi .slt v364 c0_i32_167
  let v369 : BitVec 32 := Scalar.extui v368
  let v370 : BitVec 32 := Scalar.subi v367 v369
  let c53_i32_165 : BitVec 32 := 53#32
  let c0_i32_168 : BitVec 32 := 0#32
  let v371 : BitVec 1 := Scalar.cmpi .sgt c53_i32_165 c0_i32_168
  let v372 : BitVec 32 := Scalar.extui v371
  let c0_i32_169 : BitVec 32 := 0#32
  let v373 : BitVec 1 := Scalar.cmpi .slt c53_i32_165 c0_i32_169
  let v374 : BitVec 32 := Scalar.extui v373
  let v375 : BitVec 32 := Scalar.subi v372 v374
  let v376 : BitVec 1 := Scalar.cmpi .ne v370 v375
  let v377 : BitVec 32 := Scalar.remsi v364 c53_i32_165
  let c0_i32_170 : BitVec 32 := 0#32
  let v378 : BitVec 1 := Scalar.cmpi .ne v377 c0_i32_170
  let v379 : BitVec 1 := Scalar.andi v376 v378
  let v365 : BitVec 32 := Scalar.divsi v364 c53_i32_165
  let c1_i32_171 : BitVec 32 := 1#32
  let v380 : BitVec 32 := Scalar.subi v365 c1_i32_171
  let v381 : BitVec 32 := Scalar.select v379 v380 v365
  let v396 : Index := Scalar.indexCast v381
  let c0_181 : Index := 0#32
  ![0, v396.toNat, 0]
def k0_cond18 (i : grid0.Coords) : BitVec 1 :=
  let arg0 : BitVec 32 := BitVec.ofNat 32 (i 0).val
  let c175_i32 : BitVec 32 := 175#32
  let v387 : BitVec 1 := Scalar.cmpi .eq arg0 c175_i32
  let v388 : BitVec 32 := Scalar.extui v387
  let c0_i32_175 : BitVec 32 := 0#32
  let v389 : BitVec 1 := Scalar.cmpi .ne v388 c0_i32_175
  v389

def cc0_transform_0 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S2816) ![v2.toNat] S1.size (k0_off1_inb i 0)) numel1_S1
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_1 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S2816) ![v2.toNat] S1.size (k0_off1_inb i 1)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_2 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S2816) ![v2.toNat] S1.size (k0_off1_inb i 2)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_3 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S2816) ![v2.toNat] S1.size (k0_off1_inb i 3)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_4 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S2816) ![v2.toNat] S1.size (k0_off1_inb i 4)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_5 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S2816) ![v2.toNat] S1.size (k0_off1_inb i 5)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_6 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S2816) ![v2.toNat] S1.size (k0_off1_inb i 6)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_7 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S2816) ![v2.toNat] S1.size (k0_off1_inb i 7)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_8 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S2816) ![v2.toNat] S1.size (k0_off1_inb i 8)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_9 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S2816) ![v2.toNat] S1.size (k0_off1_inb i 9)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_10 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S2816) ![v2.toNat] S1.size (k0_off1_inb i 10)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_11 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S2816) ![v2.toNat] S1.size (k0_off1_inb i 11)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_12 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S2816) ![v2.toNat] S1.size (k0_off1_inb i 12)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_13 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S2816) ![v2.toNat] S1.size (k0_off1_inb i 13)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_14 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S2816) ![v2.toNat] S1.size (k0_off1_inb i 14)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_15 (k0_off1_inb : ∀ i : grid0.Coords, ∀ (r : Fin 16), ∀ a, (k0_off1 i (BitVec.ofNat 32 r.val)) a + S1.size a ≤ S2816.size a) (numel1_S1 : S1.numel = 1) (pf : pre0.Contents (Elt F)) (i : grid0.Coords) : Fin 4 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S2816) ![v2.toNat] S1.size (k0_off1_inb i 15)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x3x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x3x32x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x3x32x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x32x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x3x32x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x32x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x32x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x3x32x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x3x32x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x3x32x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x3x32x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S3x64x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FoldReferenceIdeal.lean ====
abbrev S2816 : Shape := ⟨1, ![2816]⟩
abbrev S10000x3072 : Shape := ⟨2, ![10000, 3072]⟩
abbrev S32 : Shape := ⟨1, ![32]⟩
abbrev S32x1 : Shape := ⟨2, ![32, 1]⟩
abbrev S53 : Shape := ⟨1, ![53]⟩
abbrev S1x53 : Shape := ⟨2, ![1, 53]⟩
abbrev S32x53 : Shape := ⟨2, ![32, 53]⟩
abbrev S2809 : Shape := ⟨1, ![2809]⟩
abbrev S_ : Shape := ⟨0, ![]⟩
abbrev S2809x1 : Shape := ⟨2, ![2809, 1]⟩
abbrev S1 : Shape := ⟨1, ![1]⟩
abbrev S1x1 : Shape := ⟨2, ![1, 1]⟩
abbrev S2809x3072 : Shape := ⟨2, ![2809, 3072]⟩
abbrev S3072x2809 : Shape := ⟨2, ![3072, 2809]⟩
abbrev S3x32x32x53x53 : Shape := ⟨5, ![3, 32, 32, 53, 53]⟩
abbrev S3x84x84 : Shape := ⟨3, ![3, 84, 84]⟩
abbrev S32x1x53x1 : Shape := ⟨4, ![32, 1, 53, 1]⟩
abbrev S1x32x1x53 : Shape := ⟨4, ![1, 32, 1, 53]⟩
abbrev S32x32x53x53 : Shape := ⟨4, ![32, 32, 53, 53]⟩
abbrev S32x32x53x53x1 : Shape := ⟨5, ![32, 32, 53, 53, 1]⟩
abbrev S32x32x53x53x2 : Shape := ⟨5, ![32, 32, 53, 53, 2]⟩
abbrev S3x64x64 : Shape := ⟨3, ![3, 64, 64]⟩
abbrev S12288 : Shape := ⟨1, ![12288]⟩

abbrev nBuf : Space → Nat
  | .hbm => 72
  | .vmem => 0
  | .smem => 0
  | _ => 0

abbrev bufTy : (tb : Table) → Fin (tcTables nBuf tb) → BufTy
  | .hbm, ⟨0, _⟩ => ⟨S2816, .i32⟩
  | .hbm, ⟨1, _⟩ => ⟨S10000x3072, .f32⟩
  | .hbm, ⟨2, _⟩ => ⟨S32, .i32⟩
  | .hbm, ⟨3, _⟩ => ⟨S32x1, .i32⟩
  | .hbm, ⟨4, _⟩ => ⟨S53, .i32⟩
  | .hbm, ⟨5, _⟩ => ⟨S1x53, .i32⟩
  | .hbm, ⟨6, _⟩ => ⟨S32x53, .i32⟩
  | .hbm, ⟨7, _⟩ => ⟨S32x53, .i32⟩
  | .hbm, ⟨8, _⟩ => ⟨S32x53, .i32⟩
  | .hbm, ⟨9, _⟩ => ⟨S32, .i32⟩
  | .hbm, ⟨10, _⟩ => ⟨S32x1, .i32⟩
  | .hbm, ⟨11, _⟩ => ⟨S53, .i32⟩
  | .hbm, ⟨12, _⟩ => ⟨S1x53, .i32⟩
  | .hbm, ⟨13, _⟩ => ⟨S32x53, .i32⟩
  | .hbm, ⟨14, _⟩ => ⟨S32x53, .i32⟩
  | .hbm, ⟨15, _⟩ => ⟨S32x53, .i32⟩
  | .hbm, ⟨16, _⟩ => ⟨S2809, .i32⟩
  | .hbm, ⟨17, _⟩ => ⟨S_, .i32⟩
  | .hbm, ⟨18, _⟩ => ⟨S2809, .i32⟩
  | .hbm, ⟨19, _⟩ => ⟨S2809, .i1⟩
  | .hbm, ⟨20, _⟩ => ⟨S_, .i32⟩
  | .hbm, ⟨21, _⟩ => ⟨S2809, .i32⟩
  | .hbm, ⟨22, _⟩ => ⟨S2809, .i32⟩
  | .hbm, ⟨23, _⟩ => ⟨S2809, .i32⟩
  | .hbm, ⟨24, _⟩ => ⟨S2809x1, .i32⟩
  | .hbm, ⟨25, _⟩ => ⟨S1, .i32⟩
  | .hbm, ⟨26, _⟩ => ⟨S_, .i32⟩
  | .hbm, ⟨27, _⟩ => ⟨S2809x1, .i32⟩
  | .hbm, ⟨28, _⟩ => ⟨S2809x1, .i1⟩
  | .hbm, ⟨29, _⟩ => ⟨S1x1, .i32⟩
  | .hbm, ⟨30, _⟩ => ⟨S2809x1, .i32⟩
  | .hbm, ⟨31, _⟩ => ⟨S2809x1, .i1⟩
  | .hbm, ⟨32, _⟩ => ⟨S2809x1, .i1⟩
  | .hbm, ⟨33, _⟩ => ⟨S_, .i1⟩
  | .hbm, ⟨34, _⟩ => ⟨S2809, .i1⟩
  | .hbm, ⟨35, _⟩ => ⟨S2809x3072, .f32⟩
  | .hbm, ⟨36, _⟩ => ⟨S2809x3072, .i1⟩
  | .hbm, ⟨37, _⟩ => ⟨S_, .f32⟩
  | .hbm, ⟨38, _⟩ => ⟨S2809x3072, .f32⟩
  | .hbm, ⟨39, _⟩ => ⟨S2809x3072, .f32⟩
  | .hbm, ⟨40, _⟩ => ⟨S3072x2809, .f32⟩
  | .hbm, ⟨41, _⟩ => ⟨S3x32x32x53x53, .f32⟩
  | .hbm, ⟨42, _⟩ => ⟨S_, .f32⟩
  | .hbm, ⟨43, _⟩ => ⟨S3x84x84, .f32⟩
  | .hbm, ⟨44, _⟩ => ⟨S32x1x53x1, .i32⟩
  | .hbm, ⟨45, _⟩ => ⟨S1x32x1x53, .i32⟩
  | .hbm, ⟨46, _⟩ => ⟨S_, .i32⟩
  | .hbm, ⟨47, _⟩ => ⟨S32x1x53x1, .i32⟩
  | .hbm, ⟨48, _⟩ => ⟨S32x1x53x1, .i1⟩
  | .hbm, ⟨49, _⟩ => ⟨S_, .i32⟩
  | .hbm, ⟨50, _⟩ => ⟨S32x1x53x1, .i32⟩
  | .hbm, ⟨51, _⟩ => ⟨S32x1x53x1, .i32⟩
  | .hbm, ⟨52, _⟩ => ⟨S32x1x53x1, .i32⟩
  | .hbm, ⟨53, _⟩ => ⟨S_, .i32⟩
  | .hbm, ⟨54, _⟩ => ⟨S1x32x1x53, .i32⟩
  | .hbm, ⟨55, _⟩ => ⟨S1x32x1x53, .i1⟩
  | .hbm, ⟨56, _⟩ => ⟨S_, .i32⟩
  | .hbm, ⟨57, _⟩ => ⟨S1x32x1x53, .i32⟩
  | .hbm, ⟨58, _⟩ => ⟨S1x32x1x53, .i32⟩
  | .hbm, ⟨59, _⟩ => ⟨S1x32x1x53, .i32⟩
  | .hbm, ⟨60, _⟩ => ⟨S32x32x53x53, .i32⟩
  | .hbm, ⟨61, _⟩ => ⟨S32x32x53x53, .i32⟩
  | .hbm, ⟨62, _⟩ => ⟨S32x32x53x53x1, .i32⟩
  | .hbm, ⟨63, _⟩ => ⟨S32x32x53x53x1, .i32⟩
  | .hbm, ⟨64, _⟩ => ⟨S32x32x53x53x2, .i32⟩
  | .hbm, ⟨65, _⟩ => ⟨S3x84x84, .f32⟩
  | .hbm, ⟨66, _⟩ => ⟨S3x64x64, .f32⟩
  | .hbm, ⟨67, _⟩ => ⟨S12288, .f32⟩
  | .hbm, ⟨68, _⟩ => ⟨S_, .f32⟩
  | .hbm, ⟨69, _⟩ => ⟨S_, .f32⟩
  | .hbm, ⟨70, _⟩ => ⟨S3x64x64, .f32⟩
  | .hbm, ⟨71, _⟩ => ⟨S3x64x64, .f32⟩
  | _, _ => ⟨S2816, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c : Ref sig .tc := ⟨.hbm, 46, rfl⟩
abbrev main_v21 : Ref sig .tc := ⟨.hbm, 47, rfl⟩
abbrev main_v22 : Ref sig .tc := ⟨.hbm, 48, rfl⟩
abbrev main_c_0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_1 : Ref sig .tc := ⟨.hbm, 53, rfl⟩
abbrev main_v26 : Ref sig .tc := ⟨.hbm, 54, rfl⟩
abbrev main_v27 : Ref sig .tc := ⟨.hbm, 55, rfl⟩
abbrev main_c_2 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩

abbrev nD : Nat := 1
abbrev τ : Topo := Topo.v7x

variable {F : FTy → Type} [FloatOps F]
-- ==== Windows.lean ====
abbrev S64x64x3 : Shape := ⟨3, ![64, 64, 3]⟩
abbrev S3x64x64 : Shape := ⟨3, ![3, 64, 64]⟩
abbrev S_ : Shape := ⟨0, ![]⟩
abbrev S3x84x84 : Shape := ⟨3, ![3, 84, 84]⟩
abbrev S3072x53x53 : Shape := ⟨3, ![3072, 53, 53]⟩
abbrev S32x3x88x53 : Shape := ⟨4, ![32, 3, 88, 53]⟩
abbrev S3x84x53 : Shape := ⟨3, ![3, 84, 53]⟩
abbrev S1x3x84x53 : Shape := ⟨4, ![1, 3, 84, 53]⟩
abbrev S32x53x53 : Shape := ⟨3, ![32, 53, 53]⟩
abbrev S32x1x53x53 : Shape := ⟨4, ![32, 1, 53, 53]⟩

abbrev nBuf : Space → Nat
  | .hbm => 6
  | .vmem => 2
  | .smem => 0
  | _ => 0

abbrev bufTy : (tb : Table) → Fin (tcTables nBuf tb) → BufTy
  | .hbm, ⟨0, _⟩ => ⟨S64x64x3, .f32⟩
  | .hbm, ⟨1, _⟩ => ⟨S3x64x64, .f32⟩
  | .hbm, ⟨2, _⟩ => ⟨S_, .i32⟩
  | .hbm, ⟨3, _⟩ => ⟨S_, .f32⟩
  | .hbm, ⟨4, _⟩ => ⟨S3x84x84, .f32⟩
  | .hbm, ⟨5, _⟩ => ⟨S3072x53x53, .f32⟩
  | .local _ .vmem, ⟨0, _⟩ => ⟨S3x84x84, .f32⟩
  | .local _ .vmem, ⟨1, _⟩ => ⟨S32x3x88x53, .f32⟩
  | _, _ => ⟨S64x64x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_scratch0 : Ref sig .tc := ⟨.vmem, 1, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S3x84x84 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== WindowsReferenceIdeal.lean ====
abbrev S64x64x3 : Shape := ⟨3, ![64, 64, 3]⟩
abbrev S3x64x64 : Shape := ⟨3, ![3, 64, 64]⟩
abbrev S_ : Shape := ⟨0, ![]⟩
abbrev S3x84x84 : Shape := ⟨3, ![3, 84, 84]⟩
abbrev S32 : Shape := ⟨1, ![32]⟩
abbrev S32x1 : Shape := ⟨2, ![32, 1]⟩
abbrev S53 : Shape := ⟨1, ![53]⟩
abbrev S1x53 : Shape := ⟨2, ![1, 53]⟩
abbrev S32x53 : Shape := ⟨2, ![32, 53]⟩
abbrev S32x1x53x1 : Shape := ⟨4, ![32, 1, 53, 1]⟩
abbrev S1x32x1x53 : Shape := ⟨4, ![1, 32, 1, 53]⟩
abbrev S32x32x53x53 : Shape := ⟨4, ![32, 32, 53, 53]⟩
abbrev S32x32x53x53x1 : Shape := ⟨5, ![32, 32, 53, 53, 1]⟩
abbrev S32x32x53x53x2 : Shape := ⟨5, ![32, 32, 53, 53, 2]⟩
abbrev S3x32x32x53x53 : Shape := ⟨5, ![3, 32, 32, 53, 53]⟩
abbrev S3072x53x53 : Shape := ⟨3, ![3072, 53, 53]⟩

abbrev nBuf : Space → Nat
  | .hbm => 42
  | .vmem => 0
  | .smem => 0
  | _ => 0

abbrev bufTy : (tb : Table) → Fin (tcTables nBuf tb) → BufTy
  | .hbm, ⟨0, _⟩ => ⟨S64x64x3, .f32⟩
  | .hbm, ⟨1, _⟩ => ⟨S3x64x64, .f32⟩
  | .hbm, ⟨2, _⟩ => ⟨S_, .i32⟩
  | .hbm, ⟨3, _⟩ => ⟨S_, .f32⟩
  | .hbm, ⟨4, _⟩ => ⟨S3x84x84, .f32⟩
  | .hbm, ⟨5, _⟩ => ⟨S32, .i32⟩
  | .hbm, ⟨6, _⟩ => ⟨S32x1, .i32⟩
  | .hbm, ⟨7, _⟩ => ⟨S53, .i32⟩
  | .hbm, ⟨8, _⟩ => ⟨S1x53, .i32⟩
  | .hbm, ⟨9, _⟩ => ⟨S32x53, .i32⟩
  | .hbm, ⟨10, _⟩ => ⟨S32x53, .i32⟩
  | .hbm, ⟨11, _⟩ => ⟨S32x53, .i32⟩
  | .hbm, ⟨12, _⟩ => ⟨S32, .i32⟩
  | .hbm, ⟨13, _⟩ => ⟨S32x1, .i32⟩
  | .hbm, ⟨14, _⟩ => ⟨S53, .i32⟩
  | .hbm, ⟨15, _⟩ => ⟨S1x53, .i32⟩
  | .hbm, ⟨16, _⟩ => ⟨S32x53, .i32⟩
  | .hbm, ⟨17, _⟩ => ⟨S32x53, .i32⟩
  | .hbm, ⟨18, _⟩ => ⟨S32x53, .i32⟩
  | .hbm, ⟨19, _⟩ => ⟨S32x1x53x1, .i32⟩
  | .hbm, ⟨20, _⟩ => ⟨S1x32x1x53, .i32⟩
  | .hbm, ⟨21, _⟩ => ⟨S_, .i32⟩
  | .hbm, ⟨22, _⟩ => ⟨S32x1x53x1, .i32⟩
  | .hbm, ⟨23, _⟩ => ⟨S32x1x53x1, .i1⟩
  | .hbm, ⟨24, _⟩ => ⟨S_, .i32⟩
  | .hbm, ⟨25, _⟩ => ⟨S32x1x53x1, .i32⟩
  | .hbm, ⟨26, _⟩ => ⟨S32x1x53x1, .i32⟩
  | .hbm, ⟨27, _⟩ => ⟨S32x1x53x1, .i32⟩
  | .hbm, ⟨28, _⟩ => ⟨S_, .i32⟩
  | .hbm, ⟨29, _⟩ => ⟨S1x32x1x53, .i32⟩
  | .hbm, ⟨30, _⟩ => ⟨S1x32x1x53, .i1⟩
  | .hbm, ⟨31, _⟩ => ⟨S_, .i32⟩
  | .hbm, ⟨32, _⟩ => ⟨S1x32x1x53, .i32⟩
  | .hbm, ⟨33, _⟩ => ⟨S1x32x1x53, .i32⟩
  | .hbm, ⟨34, _⟩ => ⟨S1x32x1x53, .i32⟩
  | .hbm, ⟨35, _⟩ => ⟨S32x32x53x53, .i32⟩
  | .hbm, ⟨36, _⟩ => ⟨S32x32x53x53, .i32⟩
  | .hbm, ⟨37, _⟩ => ⟨S32x32x53x53x1, .i32⟩
  | .hbm, ⟨38, _⟩ => ⟨S32x32x53x53x1, .i32⟩
  | .hbm, ⟨39, _⟩ => ⟨S32x32x53x53x2, .i32⟩
  | .hbm, ⟨40, _⟩ => ⟨S3x32x32x53x53, .f32⟩
  | .hbm, ⟨41, _⟩ => ⟨S3072x53x53, .f32⟩
  | _, _ => ⟨S64x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_2 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== Proof.BodyB.lean ====
/-
  The frame of `Kernel`. The body is run once at symbolic operands; what it leaves in the two result buffers is not named, since
  at the last grid point the block of keys overhangs its array and the words past the end are not known. The block of queries and
  the block of keys are named, so both argument arrays are read back unchanged.
-/
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The body, run once -/

set_option maxHeartbeats 4000000 in
/-- The body hands back both inputs as it found them and the two result buffers at some contents, whether or not the point resets them. -/
theorem kernelRun (c : Dev nD) (i : grid0.Coords)
    (arg1 : Memref sig .tc .vmem S3072x2816 .f32) (harg1 : arg1.IsWhole) (arg2 : Memref sig .tc .vmem S256x3072 .f32) (harg2 : arg2.IsWhole)
    (arg3 : Memref sig .tc .vmem S22x8x128 .i32) (harg3 : arg3.IsWhole) (arg4 : Memref sig .tc .vmem S22x8x128 .f32) (harg4 : arg4.IsWhole)
    (X0 : Vec F S3072x2816 .f32) (X1 : Vec F S256x3072 .f32) (E : Set ℕ) (K : PUnit → sProp 𝕄) :
    iprop((owns (c : Thread nD τ) arg1 fullShare X0 ∗ owns (c : Thread nD τ) arg2 fullShare X1
            ∗ (∃ X, owns (c : Thread nD τ) arg3 fullShare X) ∗ (∃ X, owns (c : Thread nD τ) arg4 fullShare X))
          ∗ (iprop(owns (c : Thread nD τ) arg1 fullShare X0 ∗ owns (c : Thread nD τ) arg2 fullShare X1
            ∗ (∃ X, owns (c : Thread nD τ) arg3 fullShare X) ∗ (∃ X, owns (c : Thread nD τ) arg4 fullShare X)) -∗ K ⟨⟩))
      ⊢ wp frame (wpE (defs₀ (F := F)) Variants.none c none) E
          (cc0__dist_argmin_kernel i arg1 harg1 arg2 harg2 arg3 harg3 arg4 harg4) K := by
  unfold owns
  iintro ⟨⟨⟨%f0, %hf0, H0⟩, ⟨%f1, %hf1, H1⟩, ⟨%X2, %f2, -, H2⟩, ⟨%X3, %f3, -, H3⟩⟩, Hk⟩
  by_cases hi : (Scalar.cmpi .ne (Scalar.extui (Scalar.cmpi .eq (BitVec.ofNat 32 (i 0).val) 0#32)) 0#32 = 1#1)
  all_goals
    sl_exec_parts
    sl_step
    iapply Hk
    isplitl [H0]
    · iexists f0; isplitr; · ipureintro; exact hf0
      iexact H0
    isplitl [H1]
    · iexists f1; isplitr; · ipureintro; exact hf1
      iexact H1
    isplitl [H2]
    · iexists _, _; isplitr; swap; · iexact H2
      ipureintro; rfl
    · iexists _, _; isplitr; swap; · iexact H3
      ipureintro; rfl

/-! ## The proof data and the body obligation -/

/-- The two results are forgotten. -/
def forgets0 : Fin 4 → Bool := ![false, false, true, true]

/-- The block of keys at point `t`, filled out past the array's end with a word that nothing reads. -/
def keys (c : Dev nD) (t : Fin cfg0.N) : Vec F S256x3072 .f32 :=
  win0_1.fill (grid0.coords t) (fun _ => Scalar.ofBits .f32 0#32) (iblk m c 1 t)

/-- The proof data on core `c`: the arrays as launched, the two inputs' blocks in place after the body, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => keys m c t
    | ⟨2, _⟩ => Pipeline.Dat.unnamed (cfg := cfg0) 2 t
    | ⟨3, _⟩ => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]

/-- The body finds the block of queries, -/
theorem before_0 (c : Dev nD) (t : Fin cfg0.N) (d) : (dats m 0 c).before 0 t d = iblk m c 0 t :=
  before0_0_of m (dats m 0 c) rfl (fun _ => rfl) t d
/-- and the block of keys just fetched, any words `d` past the array's end. -/
theorem before_1 (c : Dev nD) (t : Fin cfg0.N) (d) : (dats m 0 c).before 1 t d = win0_1.fill (grid0.coords t) d (iblk m c 1 t) := by
  unfold Dat.before; rw [if_pos (fetch0_1 t)]; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ forgets0 := fun t => by
  rw [bigSep_W0, bigSep_W0, defs₀_row, show forgets0 0 = false from rfl, show forgets0 1 = false from rfl,
    show forgets0 2 = true from rfl, show forgets0 3 = true from rfl]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, H2, H3⟩
  rw [before_0 m c t d0, before_1 m c t d1]
  iapply (kernelRun (F := F) c (grid0.coords t) _ _ _ _ _ _ _ _ (iblk m c 0 t) (win0_1.fill (grid0.coords t) d1 (iblk m c 1 t)) Set.univ _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) (keys m c t)))
    rw [show win0_1.cut (grid0.coords t) (keys m c t) = iblk m c 1 t from win0_1.cut_fill _ _ _]
    try iexact H1
  isplitl [H2]; · iexact H2
  iexact H3

/-! ## The launch -/

-- the launch theorem's implicit arguments are found by unfolding plain definitions in a metavariable's type
set_option backward.isDefEq.respectTransparency.types false in
/-- Every execution ends, the arrays of the two inputs at their launch contents and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

variable {m ρ}

theorem final_arg0 {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0) :=
  Pipeline.RDat.FramePost.arr_in h c 0 rfl

theorem final_arg1 {r : PUnit × MemSt nD τ sig (Elt F)}
    (h : Pipeline.RDat.FramePost (cfgs 0) (fun c => (dats (F := F) m 0 c).toRForget forgets0) (V m) r) (c : Dev nD) :
    r.2.mem ((c : Thread nD τ).loc main_arg1) = m ((c : Thread nD τ).loc main_arg1) :=
  Pipeline.RDat.FramePost.arr_in h c 1 rfl

end Cert.Kernel.Hand

end
-- ==== Proof.RunI.lean ====
/-
  The body of the kernel `KernelIdeal` prints, run at symbolic operands, once where the first grid point resets the two
  result buffers and once where it does not, and what it leaves in them as functions of the index.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

/-! ## What one point leaves -/

theorem inbQ (c : Fin 22) : ∀ a, (![0, 128 * c.val] : Fin 2 → ℕ) a + S3072x128.size a ≤ S3072x2816.size a := by
  intro a; fin_cases a
  · exact Nat.le_refl _
  · show 128 * c.val + 128 ≤ 2816; omega

theorem inbS (c : Fin 22) : ∀ a, (![c.val, 0, 0] : Fin 3 → ℕ) a + S1x8x128.size a ≤ S22x8x128.size a := by
  intro a; fin_cases a
  · show c.val + 1 ≤ 22; omega
  · exact Nat.le_refl _
  · exact Nat.le_refl _

/-- The `c`-th group of 128 query columns; -/
def colsAt (X0 : Vec F S3072x2816 .f32) (c : Fin 22) : Vec F S3072x128 .f32 :=
  VecWindow.window X0 ![0, 128 * c.val] S3072x128.size (inbQ c)

/-- the `c`-th plane of a result buffer. -/
def planeAt {e : EltTy} (M : Vec F S22x8x128 e) (c : Fin 22) : Vec F S1x8x128 e :=
  VecWindow.window M ![c.val, 0, 0] S1x8x128.size (inbS c)

/-- The running minimum's plane after a point, from the block of keys, the group of queries and the plane before. -/
def minPlane (i : grid0.Coords) (X1 : Vec F S256x3072 .f32) (q : Vec F S3072x128 .f32) (prev : Vec F S1x8x128 .f32) : Vec F S1x8x128 .f32 :=
  k0_pay18 (k0_pay17 i X1 q prev)

/-- The running index's plane after a point. -/
def idxPlane (i : grid0.Coords) (X1 : Vec F S256x3072 .f32) (q : Vec F S3072x128 .f32) (prev : Vec F S1x8x128 .f32)
    (old : Vec F S1x8x128 .i32) : Vec F S1x8x128 .i32 :=
  k0_pay19 (F := F) (k0_pay14 i X1 q) (k0_pay16 i X1 q prev) old

/-- A place of a result buffer, within its plane. -/
def inPlane (y : S22x8x128.Idx) : S1x8x128.Idx := fun a => match a with
  | ⟨0, _⟩ => ⟨0, Nat.one_pos⟩
  | ⟨1, _⟩ => y 1
  | ⟨2, _⟩ => y 2

/-- Both buffers after a point. -/
def minStep (i : grid0.Coords) (X0 : Vec F S3072x2816 .f32) (X1 : Vec F S256x3072 .f32) (M : Vec F S22x8x128 .f32) : Vec F S22x8x128 .f32 :=
  fun y => minPlane i X1 (colsAt X0 (y 0)) (planeAt M (y 0)) (inPlane y)
def idxStep (i : grid0.Coords) (X0 : Vec F S3072x2816 .f32) (X1 : Vec F S256x3072 .f32) (M : Vec F S22x8x128 .f32)
    (I : Vec F S22x8x128 .i32) : Vec F S22x8x128 .i32 :=
  fun y => idxPlane i X1 (colsAt X0 (y 0)) (planeAt M (y 0)) (planeAt I (y 0)) (inPlane y)

theorem emb_zero (n : ℕ) (hn : n < 22) (inb : ∀ a, (![n, 0, 0] : Fin 3 → ℕ) a + S1x8x128.size a ≤ S22x8x128.size a) (x : S1x8x128.Idx) :
    ((Rect.unit (s := S22x8x128) ![n, 0, 0] S1x8x128.size inb).emb x : S22x8x128.Idx) 0 = (⟨n, hn⟩ : Fin 22) := by
  apply Fin.ext
  show n + 1 * (x 0).val = n
  have : (x 0).val < 1 := (x 0).isLt
  omega

theorem emb_inPlane (n : ℕ) (inb : ∀ a, (![n, 0, 0] : Fin 3 → ℕ) a + S1x8x128.size a ≤ S22x8x128.size a) (x : S1x8x128.Idx) :
    inPlane ((Rect.unit (s := S22x8x128) ![n, 0, 0] S1x8x128.size inb).emb x) = x := by
  funext a
  apply Fin.ext
  fin_cases a
  · have : (x 0).val < 1 := (x 0).isLt
    show 0 = (x 0).val
    omega
  · show 0 + 1 * (x 1).val = (x 1).val
    omega
  · show 0 + 1 * (x 2).val = (x 2).val
    omega

/-- What is stored in one plane of the running minimum agrees with `minStep` there; -/
theorem piece_min (i : grid0.Coords) (X0 : Vec F S3072x2816 .f32) (X1 : Vec F S256x3072 .f32) (M : Vec F S22x8x128 .f32)
    (n : ℕ) (hn : n < 22) (inb : ∀ a, (![n, 0, 0] : Fin 3 → ℕ) a + S1x8x128.size a ≤ S22x8x128.size a)
    (w : S1x8x128.Idx → Elt F .f32) (hw : w = minPlane i X1 (colsAt X0 ⟨n, hn⟩) (planeAt M ⟨n, hn⟩)) (x : S1x8x128.Idx) :
    w x = minStep i X0 X1 M ((Rect.unit (s := S22x8x128) ![n, 0, 0] S1x8x128.size inb).emb x) := by
  unfold minStep
  rw [emb_zero n hn inb x, emb_inPlane n inb x, hw]

/-- likewise of the running index. -/
theorem piece_idx (i : grid0.Coords) (X0 : Vec F S3072x2816 .f32) (X1 : Vec F S256x3072 .f32) (M : Vec F S22x8x128 .f32) (I : Vec F S22x8x128 .i32)
    (n : ℕ) (hn : n < 22) (inb : ∀ a, (![n, 0, 0] : Fin 3 → ℕ) a + S1x8x128.size a ≤ S22x8x128.size a)
    (w : S1x8x128.Idx → Elt F .i32) (hw : w = idxPlane i X1 (colsAt X0 ⟨n, hn⟩) (planeAt M ⟨n, hn⟩) (planeAt I ⟨n, hn⟩)) (x : S1x8x128.Idx) :
    w x = idxStep i X0 X1 M I ((Rect.unit (s := S22x8x128) ![n, 0, 0] S1x8x128.size inb).emb x) := by
  unfold idxStep
  rw [emb_zero n hn inb x, emb_inPlane n inb x, hw]

set_option maxHeartbeats 4000000 in
theorem runLater (c : Dev nD) (i : grid0.Coords) (hi : ¬ (Scalar.cmpi .ne (Scalar.extui (Scalar.cmpi .eq (BitVec.ofNat 32 (i 0).val) 0#32)) 0#32 = 1#1))
    (arg1 : Memref sig .tc .vmem S3072x2816 .f32) (harg1 : arg1.IsWhole) (arg2 : Memref sig .tc .vmem S256x3072 .f32) (harg2 : arg2.IsWhole)
    (arg3 : Memref sig .tc .vmem S22x8x128 .i32) (harg3 : arg3.IsWhole) (arg4 : Memref sig .tc .vmem S22x8x128 .f32) (harg4 : arg4.IsWhole)
    (X0 : Vec F S3072x2816 .f32) (X1 : Vec F S256x3072 .f32) (I : Vec F S22x8x128 .i32) (M : Vec F S22x8x128 .f32)
    (E : Set ℕ) (K : PUnit → sProp 𝕄) :
    iprop((owns (c : Thread nD τ) arg1 fullShare X0 ∗ owns (c : Thread nD τ) arg2 fullShare X1
            ∗ owns (c : Thread nD τ) arg3 fullShare I ∗ owns (c : Thread nD τ) arg4 fullShare M)
          ∗ (iprop(owns (c : Thread nD τ) arg1 fullShare X0 ∗ owns (c : Thread nD τ) arg2 fullShare X1
            ∗ owns (c : Thread nD τ) arg3 fullShare (idxStep i X0 X1 M I) ∗ owns (c : Thread nD τ) arg4 fullShare (minStep i X0 X1 M)) -∗ K ⟨⟩))
      ⊢ wp frame (wpE (defs₀ (F := F)) Variants.none c none) E
          (cc0__dist_argmin_kernel i arg1 harg1 arg2 harg2 arg3 harg3 arg4 harg4) K := by
  unfold owns
  iintro ⟨⟨⟨%f0, %hf0, H0⟩, ⟨%f1, %hf1, H1⟩, ⟨%f2, %hf2, H2⟩, ⟨%f3, %hf3, H3⟩⟩, Hk⟩
  sl_exec_parts
  sl_step
  iapply Hk
  subst hf0 hf1 hf2 hf3
  isplitl [H0]
  · iexists f0; isplitr; · ipureintro; rfl
    iexact H0
  isplitl [H1]
  · iexists f1; isplitr; · ipureintro; rfl
    iexact H1
  isplitl [H2]
  · iexists _; isplitr; swap; · iexact H2
    ipureintro
    sl_unfold_words
    rw [View.readAt_full arg2.view f1 inb_S256x3072_S256x3072_0_0]
    funext y
    refine View.read_writes_apply_of_pieces _ _ _ _ ?_ y (View.cover_of_tiled (s := S22x8x128) _ ![1, 8, 128] rfl y)
    simp only [List.forall_mem_cons]
    repeat' apply And.intro
    all_goals first | exact fun p hp => absurd hp List.not_mem_nil | skip
    all_goals intro x
    all_goals refine piece_idx i _ _ _ _ _ (by decide) _ _ ?_ x
    all_goals unfold idxPlane
    all_goals dsimp only [k0_pay1, k0_pay2, k0_pay3, k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177]
    all_goals rfl
  · iexists _; isplitr; swap; · iexact H3
    ipureintro
    sl_unfold_words
    rw [View.readAt_full arg2.view f1 inb_S256x3072_S256x3072_0_0]
    funext y
    refine View.read_writes_apply_of_pieces _ _ _ _ ?_ y (View.cover_of_tiled (s := S22x8x128) _ ![1, 8, 128] rfl y)
    simp only [List.forall_mem_cons]
    repeat' apply And.intro
    all_goals first | exact fun p hp => absurd hp List.not_mem_nil | skip
    all_goals intro x
    all_goals refine piece_min i _ _ _ _ (by decide) _ _ ?_ x
    all_goals unfold minPlane
    all_goals dsimp only [k0_pay1, k0_pay2, k0_pay3, k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177]
    all_goals rfl

/-- One store of the whole buffer is all there is to read. -/
theorem read_reset {s : Shape} {e : EltTy} {κ : Kind} {sp : Space} (v : View sig κ sp s e) (f : v.ty.Contents (Elt F)) (off : Fin s.rank → ℕ)
    (inb : ∀ a, off a + s.size a ≤ s.size a) (h : ∀ a, off a = 0) (Z : s.Idx → Elt F e) :
    v.read (Elt F) (v.writes (Elt F) f [⟨Rect.unit off s.size inb, Z⟩]) = Z := by
  funext y
  have he : (Rect.unit off s.size inb).emb y = y := Rect.emb_unit_full inb y
  refine View.read_writes_apply_of_pieces v _ Z _ (fun p hp x => ?_) y ⟨_, List.mem_singleton.mpr rfl, ?_⟩
  · obtain rfl := List.mem_singleton.mp hp
    exact congrArg Z (Rect.emb_unit_full inb x).symm
  · exact (Rect.mem_set_unit (inb := inb)).mpr fun a => by have := inb a; have := (y a).isLt; have := h a; omega

set_option maxHeartbeats 4000000 in
theorem runFirst (c : Dev nD) (i : grid0.Coords) (hi : (Scalar.cmpi .ne (Scalar.extui (Scalar.cmpi .eq (BitVec.ofNat 32 (i 0).val) 0#32)) 0#32 = 1#1))
    (arg1 : Memref sig .tc .vmem S3072x2816 .f32) (harg1 : arg1.IsWhole) (arg2 : Memref sig .tc .vmem S256x3072 .f32) (harg2 : arg2.IsWhole)
    (arg3 : Memref sig .tc .vmem S22x8x128 .i32) (harg3 : arg3.IsWhole) (arg4 : Memref sig .tc .vmem S22x8x128 .f32) (harg4 : arg4.IsWhole)
    (X0 : Vec F S3072x2816 .f32) (X1 : Vec F S256x3072 .f32) (I : Vec F S22x8x128 .i32) (M : Vec F S22x8x128 .f32)
    (E : Set ℕ) (K : PUnit → sProp 𝕄) :
    iprop((owns (c : Thread nD τ) arg1 fullShare X0 ∗ owns (c : Thread nD τ) arg2 fullShare X1
            ∗ owns (c : Thread nD τ) arg3 fullShare I ∗ owns (c : Thread nD τ) arg4 fullShare M)
          ∗ (iprop(owns (c : Thread nD τ) arg1 fullShare X0 ∗ owns (c : Thread nD τ) arg2 fullShare X1
            ∗ owns (c : Thread nD τ) arg3 fullShare (idxStep i X0 X1 k0_pay6 k0_pay7) ∗ owns (c : Thread nD τ) arg4 fullShare (minStep i X0 X1 k0_pay6)) -∗ K ⟨⟩))
      ⊢ wp frame (wpE (defs₀ (F := F)) Variants.none c none) E
          (cc0__dist_argmin_kernel i arg1 harg1 arg2 harg2 arg3 harg3 arg4 harg4) K := by
  unfold owns
  iintro ⟨⟨⟨%f0, %hf0, H0⟩, ⟨%f1, %hf1, H1⟩, ⟨%f2, %hf2, H2⟩, ⟨%f3, %hf3, H3⟩⟩, Hk⟩
  set_option sl_exec.stopBefore "k0_part2" in sl_exec_parts
  generalize hg2 : View.writes _ _ f2 _ = g2
  generalize hg3 : View.writes _ _ f3 _ = g3
  have hr2 : k0_pay7 = View.read (Elt F) arg3.view g2 := by
    rw [← hg2]; exact (read_reset (F := F) (s := S22x8x128) arg3.view f2 ![0, 0, 0] inb_S22x8x128_S22x8x128_0_0_0 (by decide) k0_pay7).symm
  have hr3 : k0_pay6 = View.read (Elt F) arg4.view g3 := by
    rw [← hg3]; exact (read_reset (F := F) (s := S22x8x128) arg4.view f3 ![0, 0, 0] inb_S22x8x128_S22x8x128_0_0_0 (by decide) k0_pay6).symm
  sl_exec_parts
  sl_step
  iapply Hk
  subst hf0 hf1
  rw [hr2, hr3]
  isplitl [H0]
  · iexists f0; isplitr; · ipureintro; rfl
    iexact H0
  isplitl [H1]
  · iexists f1; isplitr; · ipureintro; rfl
    iexact H1
  isplitl [H2]
  · iexists _; isplitr; swap; · iexact H2
    ipureintro
    sl_unfold_words
    rw [View.readAt_full arg2.view f1 inb_S256x3072_S256x3072_0_0]
    rw [View.readCov_fill _ _ _ _ _ (by decide), hr3]
    funext y
    refine View.read_writes_apply_of_pieces _ _ _ _ ?_ y (View.cover_of_tiled (s := S22x8x128) _ ![1, 8, 128] rfl y)
    simp only [List.forall_mem_cons]
    repeat' apply And.intro
    all_goals first | exact fun p hp => absurd hp List.not_mem_nil | skip
    all_goals intro x
    all_goals refine piece_idx i _ _ _ _ _ (by decide) _ _ ?_ x
    all_goals unfold idxPlane
    all_goals dsimp only [k0_pay1, k0_pay2, k0_pay3, k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177]
    all_goals rfl
  · iexists _; isplitr; swap; · iexact H3
    ipureintro
    sl_unfold_words
    rw [View.readAt_full arg2.view f1 inb_S256x3072_S256x3072_0_0]
    rw [View.readCov_fill _ _ _ _ _ (by decide), hr3]
    funext y
    refine View.read_writes_apply_of_pieces _ _ _ _ ?_ y (View.cover_of_tiled (s := S22x8x128) _ ![1, 8, 128] rfl y)
    simp only [List.forall_mem_cons]
    repeat' apply And.intro
    all_goals first | exact fun p hp => absurd hp List.not_mem_nil | skip
    all_goals intro x
    all_goals refine piece_min i _ _ _ _ (by decide) _ _ ?_ x
    all_goals unfold minPlane
    all_goals dsimp only [k0_pay1, k0_pay2, k0_pay3, k0_pay4, k0_pay5, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177]
    all_goals rfl

end Cert.KernelIdeal.Hand
end
-- ==== Proof.Argmin.lean ====
/-
  The least entry of a list of extended reals and the first place it stands at: what makes a place the first least one, why there is
  only one, and a search that goes through the list in blocks of 256 and keeps the least value so far and its place.
-/
module

public import Idealize.ShloMosaic.PureOps.Float
public import Idealize.ShloMosaic.PureOps.Reduce
public import Idealize.ShloMosaic.Lib.WordCmp
public import Mathlib.Data.EReal.Operations
public import Mathlib.Data.Finset.Fold
public import Mathlib.Data.Fintype.Basic

@[expose] public section

namespace Cert.Argmin

open Idealize.ShloMosaic

/-- `J` is the first place of the least entry of `d`. -/
def First {n : ℕ} (d : Fin n → EReal) (J : ℕ) : Prop :=
  ∃ h : J < n, (∀ j, d ⟨J, h⟩ ≤ d j) ∧ ∀ j : Fin n, j.val < J → d ⟨J, h⟩ < d j

theorem First.unique {n : ℕ} {d : Fin n → EReal} {J J' : ℕ} (h : First d J) (h' : First d J') : J = J' := by
  obtain ⟨hn, hle, hlt⟩ := h
  obtain ⟨hn', hle', hlt'⟩ := h'
  rcases lt_trichotomy J J' with hJ | hJ | hJ
  · exact absurd (hle ⟨J', hn'⟩) (not_le.mpr (hlt' ⟨J, hn⟩ hJ))
  · exact hJ
  · exact absurd (hle' ⟨J, hn⟩) (not_le.mpr (hlt ⟨J', hn'⟩ hJ))

/-- Adding one finite value to every entry moves no place. -/
theorem First.add {n : ℕ} {d : Fin n → EReal} {J : ℕ} (h : First d J) (a : ℝ) : First (fun j => (a : EReal) + d j) J := by
  obtain ⟨hn, hle, hlt⟩ := h
  refine ⟨hn, fun j => add_le_add le_rfl (hle j), fun j hj => ?_⟩
  exact EReal.add_lt_add_left_coe (hlt j hj) a

/-- The signed minimum of two words of small naturals is the word of the least. -/
theorem minsi_ofNat {a b : ℕ} (ha : a < 2 ^ 31) (hb : b < 2 ^ 31) :
    IntOp.minsi (BitVec.ofNat 32 a) (BitVec.ofNat 32 b) = BitVec.ofNat 32 (min a b) := by
  have e : ∀ n : ℕ, n < 2 ^ 31 → (BitVec.ofNat 32 n).toInt = n := fun n hn => by
    exact WordCmp.toInt_ofNat_of_lt hn
  unfold IntOp.minsi
  rw [BitVec.slt_eq_decide, e a ha, e b hb]
  rcases lt_or_ge a b with h | h
  · rw [if_pos (by simpa using h), min_eq_left h.le]
  · rw [if_neg (by simpa using h), min_eq_right h]

theorem fold_minsi_ofNat {ι : Type} (s : Finset ι) (b : ℕ) (hb : b < 2 ^ 31) (g : ι → ℕ) (hg : ∀ x, g x < 2 ^ 31) :
    s.fold IntOp.minsi (BitVec.ofNat 32 b) (fun x => BitVec.ofNat 32 (g x)) = BitVec.ofNat 32 (s.fold min b g) ∧ s.fold min b g < 2 ^ 31 := by
  classical
  induction s using Finset.induction_on with
  | empty => exact ⟨rfl, hb⟩
  | insert x s hx ih =>
    rw [Finset.fold_insert hx, Finset.fold_insert hx, ih.1, minsi_ofNat (hg x) ih.2]
    exact ⟨rfl, lt_of_le_of_lt (min_le_left _ _) (hg x)⟩

/-- A minimum below its starting value is attained. -/
theorem fold_min_attained {ι α : Type} [LinearOrder α] (s : Finset ι) (b : α) (f : ι → α) (h : s.fold min b f < b) : ∃ x ∈ s, f x = s.fold min b f := by
  obtain hb | ⟨x, hx, hle⟩ := Finset.fold_min_le (s.fold min b f) |>.mp le_rfl
  · exact absurd h (not_lt.mpr hb)
  · exact ⟨x, hx, le_antisymm hle ((Finset.le_fold_min _).mp le_rfl |>.2 x hx)⟩

/-- In a block whose least entry is below `⊤`, the least number among the places of the least entry is its first place. -/
theorem block_first (f : Fin 256 → EReal) (b : ℕ) (hb : b + 256 ≤ 2 ^ 30) (hlt : Finset.univ.fold min ⊤ f < ⊤) :
    ∃ r : Fin 256, f r = Finset.univ.fold min ⊤ f ∧ (∀ r' < r, Finset.univ.fold min ⊤ f < f r')
      ∧ Finset.univ.fold IntOp.minsi 2147483647#32
          (fun r => if f r = Finset.univ.fold min ⊤ f then BitVec.ofNat 32 (b + r.val) else 1073741824#32) = BitVec.ofNat 32 (b + r.val) := by
  have hle : ∀ r, Finset.univ.fold min ⊤ f ≤ f r := fun r => ((Finset.le_fold_min _).mp le_rfl).2 r (Finset.mem_univ r)
  obtain ⟨r₀, -, h₀⟩ := fold_min_attained _ _ _ hlt
  generalize hL : Finset.univ.fold min ⊤ f = L at *
  let g : Fin 256 → ℕ := fun r => if f r = L then b + r.val else 2 ^ 30
  have hg : ∀ r, g r < 2 ^ 31 := fun r => by dsimp only [g]; split <;> omega
  have hw : (fun r : Fin 256 => if f r = L then BitVec.ofNat 32 (b + r.val) else 1073741824#32) = fun r => BitVec.ofNat 32 (g r) := by
    funext r; dsimp only [g]; split <;> rfl
  rw [hw, show (2147483647#32 : BitVec 32) = BitVec.ofNat 32 (2 ^ 31 - 1) from rfl, (fold_minsi_ofNat _ _ (by omega) g hg).1]
  have hm : Finset.univ.fold min (2 ^ 31 - 1) g ≤ g r₀ := ((Finset.le_fold_min _).mp le_rfl).2 r₀ (Finset.mem_univ r₀)
  have hg₀ : g r₀ = b + r₀.val := if_pos h₀
  obtain ⟨r, -, hr⟩ := fold_min_attained Finset.univ (2 ^ 31 - 1) g (by omega)
  have hfr : f r = L := by
    by_contra hne
    have : g r = 2 ^ 30 := if_neg hne
    omega
  have hgr : g r = b + r.val := if_pos hfr
  refine ⟨r, hfr, fun r' hr' => lt_of_le_of_ne (hle r') fun he => ?_, by rw [← hr, hgr]⟩
  have h1 : g r' = b + r'.val := if_pos he.symm
  have h2 : Finset.univ.fold min (2 ^ 31 - 1) g ≤ g r' := ((Finset.le_fold_min _).mp le_rfl).2 r' (Finset.mem_univ r')
  have h3 : r'.val < r.val := hr'
  omega

/-- The search's state after the first `n` entries: `M` is at most each of them, and `I` is the word of the first place at which `M` stands, or of
    place 0 while nothing below `⊤` has been met. -/
def Best (d : ℕ → EReal) (n : ℕ) (M : EReal) (I : BitVec 32) : Prop :=
  (∀ j < n, M ≤ d j) ∧ ∃ J : ℕ, I = BitVec.ofNat 32 J ∧ ((M = ⊤ ∧ J = 0) ∨ (M < ⊤ ∧ J < n ∧ d J = M ∧ ∀ j < J, M < d j))

theorem best_start (d : ℕ → EReal) : Best d 0 ⊤ 0#32 := ⟨fun j hj => absurd hj (Nat.not_lt_zero j), 0, rfl, .inl ⟨rfl, rfl⟩⟩

/-- One block more. -/
theorem Best.step {d : ℕ → EReal} {n : ℕ} {M : EReal} {I : BitVec 32} (h : Best d n M I) (hn : n + 256 ≤ 2 ^ 30) (f : Fin 256 → EReal)
    (hf : ∀ r : Fin 256, f r = d (n + r.val)) :
    Best d (n + 256)
      (if Finset.univ.fold min ⊤ f < M then Finset.univ.fold min ⊤ f else M)
      (if Finset.univ.fold min ⊤ f < M then Finset.univ.fold IntOp.minsi 2147483647#32
          (fun r => if f r = Finset.univ.fold min ⊤ f then BitVec.ofNat 32 (n + r.val) else 1073741824#32) else I) := by
  obtain ⟨hle, J, hI, hJ⟩ := h
  have hfle : ∀ r, Finset.univ.fold min ⊤ f ≤ f r := fun r => ((Finset.le_fold_min _).mp le_rfl).2 r (Finset.mem_univ r)
  have hblk : ∀ j, (h1 : n ≤ j) → (h2 : j < n + 256) → d j = f ⟨j - n, by omega⟩ := fun j h1 h2 => by
    have e : j = n + (j - n) := by omega
    rw [hf]; exact congrArg d e
  by_cases hlt : Finset.univ.fold min ⊤ f < M
  · rw [if_pos hlt, if_pos hlt]
    obtain ⟨r, hr, hbef, hw⟩ := block_first f n hn (lt_of_lt_of_le hlt le_top)
    refine ⟨fun j hj => ?_, n + r.val, hw, .inr ⟨lt_of_lt_of_le hlt le_top, by omega, by rw [← hf, hr], fun j hj => ?_⟩⟩
    · rcases lt_or_ge j n with h1 | h1
      · exact hlt.le.trans (hle j h1)
      · rw [hblk j h1 hj]; exact hfle _
    · rcases lt_or_ge j n with h1 | h1
      · exact lt_of_lt_of_le hlt (hle j h1)
      · rw [hblk j h1 (by omega)]
        exact hbef ⟨j - n, by omega⟩ (Fin.lt_def.mpr (by simp only; omega))
  · rw [if_neg hlt, if_neg hlt]
    refine ⟨fun j hj => ?_, J, hI, ?_⟩
    · rcases lt_or_ge j n with h1 | h1
      · exact hle j h1
      · rw [hblk j h1 hj]; exact (not_lt.mp hlt).trans (hfle _)
    · rcases hJ with hJ | ⟨h1, h2, h3, h4⟩
      · exact .inl hJ
      · exact .inr ⟨h1, by omega, h3, h4⟩

/-- The search over a list of `n` entries, continued with `⊤`, ends at the first place of the least entry. -/
theorem Best.first {n N : ℕ} (hn : 0 < n) (hN : n ≤ N) (d : Fin n → EReal) {M : EReal} {I : BitVec 32}
    (h : Best (fun j => if hj : j < n then d ⟨j, hj⟩ else ⊤) N M I) : ∃ J, I = BitVec.ofNat 32 J ∧ First d J := by
  obtain ⟨hle, J, hI, hJ⟩ := h
  have hle' : ∀ j : Fin n, M ≤ d j := fun j => by
    have := hle j.val (lt_of_lt_of_le j.isLt hN)
    simp only [dif_pos j.isLt] at this
    exact this
  refine ⟨J, hI, ?_⟩
  rcases hJ with ⟨hM, rfl⟩ | ⟨hM, hJN, hdJ, hbef⟩
  · refine ⟨hn, fun j => ?_, fun j hj => absurd hj (Nat.not_lt_zero _)⟩
    exact (le_top.trans (hM ▸ hle' j : ⊤ ≤ d j))
  · have hJn : J < n := by
      by_contra hne
      simp only [dif_neg hne] at hdJ
      exact absurd hM (by rw [← hdJ]; exact lt_irrefl _)
    simp only [dif_pos hJn] at hdJ
    refine ⟨hJn, fun j => by rw [hdJ]; exact hle' j, fun j hj => ?_⟩
    have := hbef j.val hj
    simp only [dif_pos j.isLt] at this
    rw [hdJ]; exact this

end Cert.Argmin
-- ==== Proof.Score.lean ====
/-
  The scores the kernel `KernelIdeal` prints ranks the keys by, over the extended reals, and its running minimum and index: read at an index, and
  joined to the search of `Argmin`.
-/
module

public import proofs.«01_k».proof.Proof.RunI
public import proofs.«01_k».proof.Proof.Argmin
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-! ## The block of keys -/

theorem coords_val : ∀ t : Fin grid0.N, ((grid0.coords t) 0).val = t.val := by decide +kernel
theorem index_zero : ∀ t : Fin grid0.N, win0_1.index t 0 = t.val ∧ win0_1.index t 1 = 0 := by decide +kernel
theorem xsize_rows : ∀ t : Fin grid0.N, win0_1.xsize (grid0.coords t) 0 = min 256 (10000 - 256 * t.val) ∧ win0_1.xsize (grid0.coords t) 1 = 3072 := by
  decide +kernel

/-- The keys as launched. -/
def Kf (c : Dev nD) : Vec Ideal S10000x3072 .f32 := V m c main_arg1
/-- The queries as launched, one per column. -/
def Qf (c : Dev nD) : Vec Ideal S3072x2816 .f32 := V m c main_arg0

/-- A row of the block within the array is that row of the array. -/
theorem fill_row (c : Dev nD) (t : Fin cfg0.N) (d : Vec Ideal S256x3072 .f32) (r : Fin 256) (h : 256 * t.val + r.val < 10000) (k : Fin 3072) :
    win0_1.fill (grid0.coords t) d (iblk m c 1 t) (ix2 r k) = Kf m c (ix2 ⟨256 * t.val + r.val, h⟩ k) := by
  have hm : win0_1.moved (grid0.coords t) (ix2 r k) = true := (win0_1.moved_iff _ _).mpr fun a => by
    fin_cases a
    · refine lt_of_lt_of_eq ?_ (xsize_rows t).1.symm
      show r.val < _
      have := r.isLt
      omega
    · refine lt_of_lt_of_eq ?_ (xsize_rows t).2.symm
      exact k.isLt
  unfold Pipeline.Window.fill
  rw [dif_pos hm]
  unfold iblk Kf
  refine congrArg (V m c main_arg1) (funext fun a => Fin.ext ?_)
  fin_cases a
  · show win0_1.index t 0 * 256 + 1 * r.val = 256 * t.val + r.val
    rw [(index_zero t).1]; omega
  · show win0_1.index t 1 * 3072 + 1 * k.val = k.val
    rw [(index_zero t).2]; omega

/-- The block of queries is all of them. -/
theorem iblk_zero (c : Dev nD) (t : Fin cfg0.N) : iblk m c 0 t = Qf m c := by
  unfold iblk Qf
  funext j
  refine congrArg (V m c main_arg0) (funext fun a => Fin.ext ?_)
  fin_cases a
  · show 0 * 3072 + 1 * (j 0).val = (j 0).val
    omega
  · show 0 * 2816 + 1 * (j 1).val = (j 1).val
    omega

/-! ## The payloads, read at an index -/

theorem score_at (i : grid0.Coords) (X1 : Vec Ideal S256x3072 .f32) (q : Vec Ideal S3072x128 .f32) (r : Fin 256) (l : Fin 128) :
    k0_pay11 i X1 q (ix2 r l)
      = Scalar.select (IntOp.cmpi .slt (IntOp.addi (Scalar.muli (BitVec.ofNat 32 (i 0).val) 256#32) (BitVec.ofNat 32 r.val)) 10000#32)
          (∑ x, X1 (ix2 r x) * X1 (ix2 r x) - Ideal.ofBits .f32 1073741824#32 * ∑ k, X1 (ix2 r k) * q (ix2 k l))
          (Ideal.ofBits .f32 2139095040#32) := by
  pointwise [k0_pay11, k0_pay8, k0_pay9, k0_pay10]

theorem rowid_at (i : grid0.Coords) (r : Fin 256) (l : Fin 128) :
    k0_pay9 i (ix2 r l) = IntOp.addi (Scalar.muli (BitVec.ofNat 32 (i 0).val) 256#32) (BitVec.ofNat 32 r.val) := by
  pointwise [k0_pay9]

theorem min_at (i : grid0.Coords) (X1 : Vec Ideal S256x3072 .f32) (q : Vec Ideal S3072x128 .f32) (prev : Vec Ideal S1x8x128 .f32)
    (s : Fin 8) (l : Fin 128) :
    minPlane i X1 q prev (ix3 0 s l)
      = (let lmin := Finset.univ.fold min (Ideal.ofBits .f32 2139095040#32) (fun x => k0_pay11 i X1 q (ix2 x l))
         if lmin < prev (ix3 0 s l) then lmin else prev (ix3 0 s l)) := by
  pointwise [minPlane, k0_pay12, k0_pay13, k0_pay14, k0_pay15, k0_pay16, k0_pay17, k0_pay18, k0_pay19]

theorem idx_at (i : grid0.Coords) (X1 : Vec Ideal S256x3072 .f32) (q : Vec Ideal S3072x128 .f32) (prev : Vec Ideal S1x8x128 .f32)
    (old : Vec Ideal S1x8x128 .i32) (s : Fin 8) (l : Fin 128) :
    idxPlane i X1 q prev old (ix3 0 s l)
      = (let lmin := Finset.univ.fold min (Ideal.ofBits .f32 2139095040#32) (fun x => k0_pay11 i X1 q (ix2 x l))
         if lmin < prev (ix3 0 s l) then Finset.univ.fold IntOp.minsi 2147483647#32
           (fun x => if k0_pay11 i X1 q (ix2 x l) = lmin then k0_pay9 i (ix2 x l) else 1073741824#32)
         else old (ix3 0 s l)) := by
  pointwise [idxPlane, k0_pay12, k0_pay13, k0_pay14, k0_pay15, k0_pay16, k0_pay17, k0_pay18, k0_pay19]

theorem top_word : Ideal.ofBits .f32 2139095040#32 = (⊤ : EReal) := by simp [Ideal.ofBits, Ideal.ieee]

theorem colsAt_at (X0 : Vec Ideal S3072x2816 .f32) (ch : Fin 22) (k : Fin 3072) (l : Fin 128) :
    colsAt X0 ch (ix2 k l) = X0 (ix2 k ⟨128 * ch.val + l.val, by omega⟩) := by
  unfold colsAt VecWindow.window
  refine congrArg X0 (funext fun a => Fin.ext ?_)
  fin_cases a
  · show 0 + 1 * k.val = k.val
    omega
  · show 128 * ch.val + 1 * l.val = 128 * ch.val + l.val
    omega

theorem planeAt_at {e : EltTy} (M : Vec Ideal S22x8x128 e) (ch : Fin 22) (s : Fin 8) (l : Fin 128) :
    planeAt M ch (ix3 0 s l) = M (ix3 ch s l) := by
  unfold planeAt VecWindow.window
  refine congrArg M (funext fun a => Fin.ext ?_)
  fin_cases a
  · show ch.val + 1 * 0 = ch.val
    omega
  · show 0 + 1 * s.val = s.val
    omega
  · show 0 + 1 * l.val = l.val
    omega

theorem inPlane_at (ch : Fin 22) (s : Fin 8) (l : Fin 128) : inPlane (ix3 ch s l : S22x8x128.Idx) = ix3 0 s l := by
  funext a
  fin_cases a <;> rfl

/-! ## The ranking of the keys -/

/-- The score of key `n` against query `j`: the key's sum of squares less twice their product. The kernel ranks the keys by it. -/
def rank (K : Vec Ideal S10000x3072 .f32) (Q : Vec Ideal S3072x2816 .f32) (j : Fin 2816) (n : Fin 10000) : EReal :=
  ∑ x, K (ix2 n x) * K (ix2 n x) - Ideal.ofBits .f32 1073741824#32 * ∑ k, K (ix2 n k) * Q (ix2 k j)

/-- The scores, continued by `⊤`. -/
def ranks (K : Vec Ideal S10000x3072 .f32) (Q : Vec Ideal S3072x2816 .f32) (j : Fin 2816) (n : ℕ) : EReal :=
  if h : n < 10000 then rank K Q j ⟨n, h⟩ else ⊤

/-- The query in lane `l` of group `ch`. -/
def col (ch : Fin 22) (l : Fin 128) : Fin 2816 := ⟨128 * ch.val + l.val, by omega⟩

theorem row_word (t r : ℕ) : IntOp.addi (Scalar.muli (BitVec.ofNat 32 t) 256#32) (BitVec.ofNat 32 r) = BitVec.ofNat 32 (256 * t + r) := by
  show BitVec.ofNat 32 t * BitVec.ofNat 32 256 + BitVec.ofNat 32 r = _
  rw [← BitVec.ofNat_mul, ← BitVec.ofNat_add, Nat.mul_comm]

theorem row_below {n : ℕ} (h : n < 2 ^ 31) : IntOp.cmpi .slt (BitVec.ofNat 32 n) 10000#32 = if n < 10000 then 1#1 else 0#1 := by
  show BitVec.ofBool ((BitVec.ofNat 32 n).slt (BitVec.ofNat 32 10000)) = _
  rw [BitVec.slt_eq_decide, WordCmp.toInt_ofNat_of_lt h, WordCmp.toInt_ofNat_of_lt (by decide)]
  by_cases hn : n < 10000
  · rw [if_pos hn, decide_eq_true (by exact_mod_cast hn)]; rfl
  · rw [if_neg hn, decide_eq_false (by exact_mod_cast hn)]; rfl

/-- The masked score of a row of the block at point `t`, whatever stands past the array's end. -/
theorem score_row (c : Dev nD) (t : Fin cfg0.N) (d : Vec Ideal S256x3072 .f32) (ch : Fin 22) (r : Fin 256) (l : Fin 128) :
    k0_pay11 (grid0.coords t) (win0_1.fill (grid0.coords t) d (iblk m c 1 t)) (colsAt (Qf m c) ch) (ix2 r l)
      = ranks (Kf m c) (Qf m c) (col ch l) (256 * t.val + r.val) := by
  have ht : t.val < 40 := t.isLt
  rw [score_at, coords_val, row_word, row_below (by omega), top_word]
  unfold ranks rank
  by_cases h : 256 * t.val + r.val < 10000
  · rw [if_pos h, dif_pos h]
    simp only [fill_row m c t d r h, colsAt_at]
    rfl
  · rw [if_neg h, dif_neg h]
    rfl

/-- So nothing the body leaves depends on what stands past the array's end. -/
theorem score_tail (c : Dev nD) (t : Fin cfg0.N) (d d' : Vec Ideal S256x3072 .f32) (ch : Fin 22) :
    k0_pay11 (grid0.coords t) (win0_1.fill (grid0.coords t) d (iblk m c 1 t)) (colsAt (Qf m c) ch)
      = k0_pay11 (grid0.coords t) (win0_1.fill (grid0.coords t) d' (iblk m c 1 t)) (colsAt (Qf m c) ch) := by
  funext j
  obtain ⟨r, l, rfl⟩ : ∃ (r : Fin 256) (l : Fin 128), j = ix2 r l := ⟨j 0, j 1, (ix2_eta j).symm⟩
  rw [score_row, score_row]

theorem minStep_tail (c : Dev nD) (t : Fin cfg0.N) (d d' : Vec Ideal S256x3072 .f32) (M : Vec Ideal S22x8x128 .f32) :
    minStep (grid0.coords t) (Qf m c) (win0_1.fill (grid0.coords t) d (iblk m c 1 t)) M
      = minStep (grid0.coords t) (Qf m c) (win0_1.fill (grid0.coords t) d' (iblk m c 1 t)) M := by
  funext y
  simp only [minStep, minPlane, k0_pay17, k0_pay16, k0_pay13, k0_pay12, score_tail m c t d d' (y 0)]

theorem idxStep_tail (c : Dev nD) (t : Fin cfg0.N) (d d' : Vec Ideal S256x3072 .f32) (M : Vec Ideal S22x8x128 .f32) (I : Vec Ideal S22x8x128 .i32) :
    idxStep (grid0.coords t) (Qf m c) (win0_1.fill (grid0.coords t) d (iblk m c 1 t)) M I
      = idxStep (grid0.coords t) (Qf m c) (win0_1.fill (grid0.coords t) d' (iblk m c 1 t)) M I := by
  funext y
  simp only [idxStep, idxPlane, k0_pay14, k0_pay16, k0_pay13, k0_pay12, score_tail m c t d d' (y 0)]

/-! ## The two result buffers over the points -/

/-- The block of keys at point `t`, filled out past the array's end with a word that no result depends on. -/
def keys (c : Dev nD) (t : Fin cfg0.N) : Vec Ideal S256x3072 .f32 :=
  win0_1.fill (grid0.coords t) (fun _ => (0 : EReal)) (iblk m c 1 t)

/-- The running minimum before point `n`, -/
def minAt (c : Dev nD) : ℕ → Vec Ideal S22x8x128 .f32
  | 0 => k0_pay6 (F := Ideal)
  | n + 1 => if h : n < cfg0.N then minStep (grid0.coords ⟨n, h⟩) (Qf m c) (keys m c ⟨n, h⟩) (minAt c n) else minAt c n

/-- and the running index. -/
def idxAt (c : Dev nD) : ℕ → Vec Ideal S22x8x128 .i32
  | 0 => k0_pay7
  | n + 1 => if h : n < cfg0.N then idxStep (grid0.coords ⟨n, h⟩) (Qf m c) (keys m c ⟨n, h⟩) (minAt m c n) (idxAt c n) else idxAt c n

theorem minAt_succ (c : Dev nD) (t : Fin cfg0.N) :
    minAt m c (t.val + 1) = minStep (grid0.coords t) (Qf m c) (keys m c t) (minAt m c t.val) := dif_pos t.isLt
theorem idxAt_succ (c : Dev nD) (t : Fin cfg0.N) :
    idxAt m c (t.val + 1) = idxStep (grid0.coords t) (Qf m c) (keys m c t) (minAt m c t.val) (idxAt m c t.val) := dif_pos t.isLt

/-- Before point `n` every lane of the two buffers is the search over the first `256 n` scores. -/
theorem best_at (c : Dev nD) (ch : Fin 22) (s : Fin 8) (l : Fin 128) (n : ℕ) (hn : n ≤ cfg0.N) :
    Argmin.Best (ranks (Kf m c) (Qf m c) (col ch l)) (256 * n) (minAt m c n (ix3 ch s l)) (idxAt m c n (ix3 ch s l)) := by
  induction n with
  | zero =>
    have h6 : minAt m c 0 (ix3 ch s l) = ⊤ := top_word
    have h7 : idxAt m c 0 (ix3 ch s l) = 0#32 := rfl
    rw [h6, h7]
    exact Argmin.best_start _
  | succ n ih =>
    have hlt : n < 40 := hn
    have hb := (ih (by omega)).step (by omega)
      (fun x => k0_pay11 (grid0.coords ⟨n, hn⟩) (keys m c ⟨n, hn⟩) (colsAt (Qf m c) ch) (ix2 x l)) fun r => score_row m c ⟨n, hn⟩ _ ch r l
    have hmin : minAt m c (n + 1) (ix3 ch s l) = minPlane (grid0.coords ⟨n, hn⟩) (keys m c ⟨n, hn⟩) (colsAt (Qf m c) ch) (planeAt (minAt m c n) ch) (ix3 0 s l) := by
      rw [minAt_succ m c ⟨n, hn⟩, ← inPlane_at ch s l]; rfl
    have hidx : idxAt m c (n + 1) (ix3 ch s l)
        = idxPlane (grid0.coords ⟨n, hn⟩) (keys m c ⟨n, hn⟩) (colsAt (Qf m c) ch) (planeAt (minAt m c n) ch) (planeAt (idxAt m c n) ch) (ix3 0 s l) := by
      rw [idxAt_succ m c ⟨n, hn⟩, ← inPlane_at ch s l]; rfl
    rw [hmin, hidx, min_at, idx_at, top_word, planeAt_at, planeAt_at]
    simp only [rowid_at, coords_val, row_word]
    exact hb

/-- After the last point the index is the first place of the least score. -/
theorem idx_first (c : Dev nD) (ch : Fin 22) (s : Fin 8) (l : Fin 128) :
    ∃ J, idxAt m c 40 (ix3 ch s l) = BitVec.ofNat 32 J ∧ Argmin.First (rank (Kf m c) (Qf m c) (col ch l)) J :=
  (best_at m c ch s l 40 le_rfl).first (by decide) (by decide) _

end Cert.KernelIdeal.Hand
end
-- ==== Proof.BodyI.lean ====
/-
  The launch of the kernel `KernelIdeal` prints, over the extended reals: at every grid point the body takes the running minimum and index to the
  next ones (`Score`), so after the launch the index array holds the last ones.
-/
module

public import proofs.«01_k».proof.Proof.Score
public import Idealize.ShloMosaic.Lib.Pipeline.Frame
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable (m : (ℓ : Loc nD τ sig) → Buf (Elt Ideal) ℓ) (ρ : Dev nD → PrngReg)

/-! ## The proof data and the body obligation -/

/-- The proof data on core `c`: the arrays as launched, the two inputs' blocks in place after the body, the two results the next running
    minimum and index. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => keys m c t
    | ⟨2, _⟩ => idxAt m c (t.val + 1)
    | ⟨3, _⟩ => minAt m c (t.val + 1)
  Φ _ := Pipeline.ΦA spec0 c
  q _ := fullShare
  owed _ := 0

theorem A_eq (c : Dev nD) (w : Fin cfg0.W) : (dats m 0 c).A w = V m c (Pipeline.arrRef spec0 w) := by dsimp only [dats]

/-- The body finds the block of queries, -/
theorem before_0 (c : Dev nD) (t : Fin cfg0.N) (d) : (dats m 0 c).before 0 t d = iblk m c 0 t :=
  before0_0_of m (dats m 0 c) rfl (fun _ => rfl) t d
/-- the block of keys just fetched, any words `d` past the array's end, -/
theorem before_1 (c : Dev nD) (t : Fin cfg0.N) (d) : (dats m 0 c).before 1 t d = win0_1.fill (grid0.coords t) d (iblk m c 1 t) := by
  unfold Dat.before; rw [if_pos (fetch0_1 t)]; rfl
/-- and, past the first point, what the point before left in the two results. -/
theorem before_2 (c : Dev nD) (t : Fin cfg0.N) (ht : t.val ≠ 0) (d) : (dats m 0 c).before 2 t d = idxAt m c t.val := by
  have hN : t.val < 40 := t.isLt
  rw [Dat.before_out_kept (dats m 0 c) 2 rfl t ht
    (by rw [← Bool.not_eq_true]; exact fun h => absurd ((flush0_2 _).mp h) (by show ¬ (t.val - 1) % 40 = 39; omega))
    (fun _ => rfl) (fun _ _ => rfl) d]
  show idxAt m c (t.val - 1 + 1) = _
  rw [Nat.sub_add_cancel (Nat.pos_of_ne_zero ht)]
theorem before_3 (c : Dev nD) (t : Fin cfg0.N) (ht : t.val ≠ 0) (d) : (dats m 0 c).before 3 t d = minAt m c t.val := by
  have hN : t.val < 40 := t.isLt
  rw [Dat.before_out_kept (dats m 0 c) 3 rfl t ht
    (by rw [← Bool.not_eq_true]; exact fun h => absurd ((flush0_3 _).mp h) (by show ¬ (t.val - 1) % 40 = 39; omega))
    (fun _ => rfl) (fun _ _ => rfl) d]
  show minAt m c (t.val - 1 + 1) = _
  rw [Nat.sub_add_cancel (Nat.pos_of_ne_zero ht)]

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The reset happens at the first point and nowhere else. -/
theorem resets_iff : ∀ t : Fin grid0.N,
    (Scalar.cmpi .ne (Scalar.extui (Scalar.cmpi .eq (BitVec.ofNat 32 ((grid0.coords t) 0).val) 0#32)) 0#32 = 1#1) ↔ t.val = 0 := by
  decide +kernel

/-- What the body finds in the two results at a later point it takes to the next, the words past the array's end any. -/
theorem idx_next (c : Dev nD) (t : Fin cfg0.N) (d) :
    idxStep (grid0.coords t) (iblk m c 0 t) (win0_1.fill (grid0.coords t) d (iblk m c 1 t)) (minAt m c t.val) (idxAt m c t.val) = idxAt m c (t.val + 1) := by
  rw [iblk_zero, idxAt_succ]; exact idxStep_tail m c t _ _ _ _
theorem min_next (c : Dev nD) (t : Fin cfg0.N) (d) :
    minStep (grid0.coords t) (iblk m c 0 t) (win0_1.fill (grid0.coords t) d (iblk m c 1 t)) (minAt m c t.val) = minAt m c (t.val + 1) := by
  rw [iblk_zero, minAt_succ]; exact minStep_tail m c t _ _ _

theorem body_obligation (c : Dev nD) :
    BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1]
  by_cases ht : t.val = 0
  · rw [Dat.before_out_reset (dats m 0 c) 2 rfl t (.inl ht) d2, Dat.before_out_reset (dats m 0 c) 3 rfl t (.inl ht) d3]
    iapply (runFirst (F := Ideal) c (grid0.coords t) ((resets_iff t).mpr ht) _ _ _ _ _ _ _ _ (iblk m c 0 t)
      (win0_1.fill (grid0.coords t) d1 (iblk m c 1 t)) d2 d3 Set.univ _)
    isplitl [H0 H1 H2 H3]
    · isplitl [H0]; · iexact H0
      isplitl [H1]; · iexact H1
      isplitl [H2]; · iexact H2
      iexact H3
    rw [show (k0_pay7 : Vec Ideal S22x8x128 .i32) = idxAt m c t.val by rw [ht]; rfl,
      show k0_pay6 (F := Ideal) = minAt m c t.val by rw [ht]; rfl, idx_next, min_next]
    iintro ⟨H0, H1, H2, H3⟩
    isplitl [HΦ]; · iexact HΦ
    isplitl [Ho]; · iexact Ho
    isplitl [H0]; · iexact H0
    isplitl [H1]
    · iexists d1
      change _ ⊢ owns (c : Thread nD τ) (st0_1 t) fullShare (win0_1.fill (grid0.coords t) d1 (win0_1.cut (grid0.coords t) (keys m c t)))
      rw [show win0_1.cut (grid0.coords t) (keys m c t) = iblk m c 1 t from win0_1.cut_fill _ _ _]
      try iexact H1
    isplitl [H2]; · iexact H2
    iexact H3
  · rw [before_2 m c t ht d2, before_3 m c t ht d3]
    iapply (runLater (F := Ideal) c (grid0.coords t) (fun h => ht ((resets_iff t).mp h)) _ _ _ _ _ _ _ _ (iblk m c 0 t)
      (win0_1.fill (grid0.coords t) d1 (iblk m c 1 t)) (idxAt m c t.val) (minAt m c t.val) Set.univ _)
    isplitl [H0 H1 H2 H3]
    · isplitl [H0]; · iexact H0
      isplitl [H1]; · iexact H1
      isplitl [H2]; · iexact H2
      iexact H3
    rw [idx_next, min_next]
    iintro ⟨H0, H1, H2, H3⟩
    isplitl [HΦ]; · iexact HΦ
    isplitl [Ho]; · iexact Ho
    isplitl [H0]; · iexact H0
    isplitl [H1]
    · iexists d1
      change _ ⊢ owns (c : Thread nD τ) (st0_1 t) fullShare (win0_1.fill (grid0.coords t) d1 (win0_1.cut (grid0.coords t) (keys m c t)))
      rw [show win0_1.cut (grid0.coords t) (keys m c t) = iblk m c 1 t from win0_1.cut_fill _ _ _]
      try iexact H1
    isplitl [H2]; · iexact H2
    iexact H3

/-! ## The launch -/

-- the launch theorem's implicit arguments are found by unfolding plain definitions in a metavariable's type
set_option backward.isDefEq.respectTransparency.types false in
/-- Every execution ends, the arrays at the library's final contents and every counter at zero. -/
theorem run_main :
    θ_run defs (onTc (τ := τ) (main (F := Ideal))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Hand
end
-- ==== Proof.RefRun.lean ====
/-
  The run of the reference `ReferenceIdeal` prints: every buffer ends at the fold of the program's operations over the launch contents, so the
  result is one term of the queries and the keys (`out`) and the two arguments stay as they were.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## The result as a term -/

/-- The squared norm of every query, as a column. -/
def qsq (Q : FVec F S3072x2816 .f32) : FVec F S2816x1 .f32 :=
  broadcastInDim S2816x1 ![0] bcast_S2816_S2816x1_0
    (Host.reduceAdd
      (mulf (transpose S2816x3072 [1, 0] Q transposes_S3072x2816_S2816x3072_1_0) (transpose S2816x3072 [1, 0] Q transposes_S3072x2816_S2816x3072_1_0))
      (constant S_ .f32 0x00000000#32) reducesTo_S2816x3072_S2816_d1 h_S_)

/-- The squared norm of every key, as a row. -/
def ksq (K : FVec F S10000x3072 .f32) : FVec F S1x10000 .f32 :=
  broadcastInDim S1x10000 ![1] bcast_S10000_S1x10000_1
    (Host.reduceAdd (mulf K K) (constant S_ .f32 0x00000000#32) reducesTo_S10000x3072_S10000_d1 h_S_)

/-- The product of every query with every key. -/
def dots (Q : FVec F S3072x2816 .f32) (K : FVec F S10000x3072 .f32) : FVec F S2816x10000 .f32 :=
  Host.dotGeneral dot_S2816x3072_S3072x10000_S2816x10000_1_0_0_1_n_n none
    (transpose S2816x3072 [1, 0] Q transposes_S3072x2816_S2816x3072_1_0) (transpose S3072x10000 [1, 0] K transposes_S10000x3072_S3072x10000_1_0)

/-- The squared distance of every query to every key, as the reference computes it. -/
def dists (Q : FVec F S3072x2816 .f32) (K : FVec F S10000x3072 .f32) : FVec F S2816x10000 .f32 :=
  addf
    (subf (broadcastInDim S2816x10000 ![0, 1] bcast_S2816x1_S2816x10000_0_1 (qsq Q))
      (mulf (broadcastInDim S2816x10000 ![] bcast_S_S2816x10000 (constant S_ .f32 0x40000000#32)) (dots Q K)))
    (broadcastInDim S2816x10000 ![0, 1] bcast_S1x10000_S2816x10000_0_1 (ksq K))

/-- The two parts of a family of pairs. Functions of their own: to take a part of a pair written out, Lean would work the pair out. -/
def firsts {ι α β : Type} (p : ι → α × β) (i : ι) : α := (p i).1
def seconds {ι α β : Type} (p : ι → α × β) (i : ι) : β := (p i).2
theorem seconds_at {ι α β : Type} (p : ι → α × β) (i : ι) : seconds p i = (p i).2 := rfl

/-- The least entry of every row as the reference's search finds it, -/
def pickVal (D : FVec F S2816x10000 .f32) (I : IVec S2816x10000 32) (d : FVec F S_ .f32) (i : IVec S_ 32) : FVec F S2816 .f32 :=
  firsts (Host.argReduce reducer_argmin_f32_i32 D I d i reducesTo_S2816x10000_S2816_d1 h_S_)

/-- and its place. -/
def pickIdx (D : FVec F S2816x10000 .f32) (I : IVec S2816x10000 32) (d : FVec F S_ .f32) (i : IVec S_ 32) : IVec S2816 32 :=
  seconds (Host.argReduce reducer_argmin_f32_i32 D I d i reducesTo_S2816x10000_S2816_d1 h_S_)

/-- The reference's result, `g` in the place of the search. -/
def outBy (g : FVec F S2816x10000 .f32 → IVec S2816x10000 32 → FVec F S_ .f32 → IVec S_ 32 → IVec S2816 32)
    (Q : FVec F S3072x2816 .f32) (K : FVec F S10000x3072 .f32) : IVec S22x8x128 32 :=
  broadcastInDim S22x8x128 ![0, 1, 2] bcast_S22x1x128_S22x8x128_0_1_2
    (shapeCast S22x1x128
      (g (dists Q K) (iotaInDim S2816x10000 32 1) (constant S_ .f32 0x7F800000#32) (constantI S_ 32 0#32)) shapeCasts_S2816_S22x1x128)

/-- The reference's result. -/
abbrev out (Q : FVec F S3072x2816 .f32) (K : FVec F S10000x3072 .f32) : IVec S22x8x128 32 := outBy pickIdx Q K

/-! ## The run -/

section
-- the two results of the search stay variables where the fold is read: nothing then computes them
variable (f : FVec F S2816x10000 .f32 → IVec S2816x10000 32 → FVec F S_ .f32 → IVec S_ 32 → FVec F S2816 .f32)
  (g : FVec F S2816x10000 .f32 → IVec S2816x10000 32 → FVec F S_ .f32 → IVec S_ 32 → IVec S2816 32)

/-- The operations of the function `argmin` on the argument `a` and one call's buffers. -/
abbrev argOps (a : TRef sig ⟨S2816x10000, .f32⟩) (φ : fn_argmin.Bufs) : List (HloOp τ sig (Elt F)) :=
  [ TRef.nullary φ.v0 (iotaInDim S2816x10000 32 1),
    TRef.nullary φ.cst (constant S_ .f32 0x7F800000#32),
    TRef.nullary φ.c (constantI S_ 32 0#32),
    TRef.quaternary a φ.v0 φ.cst φ.c φ.v1_0 f,
    TRef.quaternary a φ.v0 φ.cst φ.c φ.v1_1 g ]

/-- The program's operations before the call of `argmin`, -/
abbrev ops₁ : List (HloOp τ sig (Elt F)) :=
  [ unary main_arg0 main_v0 ((transpose S2816x3072 [1, 0] · transposes_S3072x2816_S2816x3072_1_0) : (⟨S3072x2816, .f32⟩ : BufTy).Contents (Elt F) → (⟨S2816x3072, .f32⟩ : BufTy).Contents (Elt F)),
    binary main_v0 main_v0 main_v1 (mulf : (⟨S2816x3072, .f32⟩ : BufTy).Contents (Elt F) → (⟨S2816x3072, .f32⟩ : BufTy).Contents (Elt F) → (⟨S2816x3072, .f32⟩ : BufTy).Contents (Elt F)),
    nullary main_cst (constant S_ .f32 0x00000000#32),
    binary main_v1 main_cst main_v2 ((fun x v => Host.reduceAdd x v reducesTo_S2816x3072_S2816_d1 h_S_) : (⟨S2816x3072, .f32⟩ : BufTy).Contents (Elt F) → (⟨S_, .f32⟩ : BufTy).Contents (Elt F) → (⟨S2816, .f32⟩ : BufTy).Contents (Elt F)),
    unary main_v2 main_v3 (broadcastInDim S2816x1 ![0] bcast_S2816_S2816x1_0 : (⟨S2816, .f32⟩ : BufTy).Contents (Elt F) → (⟨S2816x1, .f32⟩ : BufTy).Contents (Elt F)),
    binary main_arg1 main_arg1 main_v4 (mulf : (⟨S10000x3072, .f32⟩ : BufTy).Contents (Elt F) → (⟨S10000x3072, .f32⟩ : BufTy).Contents (Elt F) → (⟨S10000x3072, .f32⟩ : BufTy).Contents (Elt F)),
    nullary main_cst_0 (constant S_ .f32 0x00000000#32),
    binary main_v4 main_cst_0 main_v5 ((fun x v => Host.reduceAdd x v reducesTo_S10000x3072_S10000_d1 h_S_) : (⟨S10000x3072, .f32⟩ : BufTy).Contents (Elt F) → (⟨S_, .f32⟩ : BufTy).Contents (Elt F) → (⟨S10000, .f32⟩ : BufTy).Contents (Elt F)),
    unary main_v5 main_v6 (broadcastInDim S1x10000 ![1] bcast_S10000_S1x10000_1 : (⟨S10000, .f32⟩ : BufTy).Contents (Elt F) → (⟨S1x10000, .f32⟩ : BufTy).Contents (Elt F)),
    unary main_arg1 main_v7 ((transpose S3072x10000 [1, 0] · transposes_S10000x3072_S3072x10000_1_0) : (⟨S10000x3072, .f32⟩ : BufTy).Contents (Elt F) → (⟨S3072x10000, .f32⟩ : BufTy).Contents (Elt F)),
    binary main_v0 main_v7 main_v8 ((fun l r => Host.dotGeneral dot_S2816x3072_S3072x10000_S2816x10000_1_0_0_1_n_n none l r) : (⟨S2816x3072, .f32⟩ : BufTy).Contents (Elt F) → (⟨S3072x10000, .f32⟩ : BufTy).Contents (Elt F) → (⟨S2816x10000, .f32⟩ : BufTy).Contents (Elt F)),
    nullary main_cst_1 (constant S_ .f32 0x40000000#32),
    unary main_cst_1 main_v9 (broadcastInDim S2816x10000 ![] bcast_S_S2816x10000 : (⟨S_, .f32⟩ : BufTy).Contents (Elt F) → (⟨S2816x10000, .f32⟩ : BufTy).Contents (Elt F)),
    binary main_v9 main_v8 main_v10 (mulf : (⟨S2816x10000, .f32⟩ : BufTy).Contents (Elt F) → (⟨S2816x10000, .f32⟩ : BufTy).Contents (Elt F) → (⟨S2816x10000, .f32⟩ : BufTy).Contents (Elt F)),
    unary main_v3 main_v11 (broadcastInDim S2816x10000 ![0, 1] bcast_S2816x1_S2816x10000_0_1 : (⟨S2816x1, .f32⟩ : BufTy).Contents (Elt F) → (⟨S2816x10000, .f32⟩ : BufTy).Contents (Elt F)),
    binary main_v11 main_v10 main_v12 (subf : (⟨S2816x10000, .f32⟩ : BufTy).Contents (Elt F) → (⟨S2816x10000, .f32⟩ : BufTy).Contents (Elt F) → (⟨S2816x10000, .f32⟩ : BufTy).Contents (Elt F)),
    unary main_v6 main_v13 (broadcastInDim S2816x10000 ![0, 1] bcast_S1x10000_S2816x10000_0_1 : (⟨S1x10000, .f32⟩ : BufTy).Contents (Elt F) → (⟨S2816x10000, .f32⟩ : BufTy).Contents (Elt F)),
    binary main_v12 main_v13 main_v14 (addf : (⟨S2816x10000, .f32⟩ : BufTy).Contents (Elt F) → (⟨S2816x10000, .f32⟩ : BufTy).Contents (Elt F) → (⟨S2816x10000, .f32⟩ : BufTy).Contents (Elt F)) ]

/-- those after it, -/
abbrev ops₂ : List (HloOp τ sig (Elt F)) :=
  [ reshape main_v15 main_v16 (rfl : (.i32 : EltTy) = .i32) shapeCasts_S2816_S22x1x128,
    unary main_v16 main_v17 (broadcastInDim S22x8x128 ![0, 1, 2] bcast_S22x1x128_S22x8x128_0_1_2 : (⟨S22x1x128, .i32⟩ : BufTy).Contents (Elt F) → (⟨S22x8x128, .i32⟩ : BufTy).Contents (Elt F)) ]

/-- and all of them, in order. -/
abbrev opsBy : List (HloOp τ sig (Elt F)) := ops₁ ++ (argOps f g (.of main_v14) main_call0 ++ ops₂)

theorem outBy_eq (V : Valuation τ sig (Elt F)) :
    after (opsBy f g) V (main_v17 : DevRef τ sig) = outBy g (V (main_arg0 : DevRef τ sig)) (V (main_arg1 : DevRef τ sig)) := by
  simp only [opsBy, ops₁, ops₂, argOps, List.cons_append, List.nil_append]
  after_results_simp
  rfl

theorem arg0_eq (V : Valuation τ sig (Elt F)) : after (opsBy f g) V (main_arg0 : DevRef τ sig) = V (main_arg0 : DevRef τ sig) := by
  simp only [opsBy, ops₁, ops₂, argOps, List.cons_append, List.nil_append, after_cons, after_nil]
  rfl

theorem arg1_eq (V : Valuation τ sig (Elt F)) : after (opsBy f g) V (main_arg1 : DevRef τ sig) = V (main_arg1 : DevRef τ sig) := by
  simp only [opsBy, ops₁, ops₂, argOps, List.cons_append, List.nil_append, after_cons, after_nil]
  rfl

theorem ops_sub : (opsBy f g : List (HloOp τ sig (Elt F))).Forall fun op => op.bufs ⊆ tcRefs τ sig :=
  ⟨unary_bufs_sub .., binary_bufs_sub .., nullary_bufs_sub .., binary_bufs_sub .., unary_bufs_sub .., binary_bufs_sub ..,
    nullary_bufs_sub .., binary_bufs_sub .., unary_bufs_sub .., unary_bufs_sub .., binary_bufs_sub .., nullary_bufs_sub ..,
    unary_bufs_sub .., binary_bufs_sub .., unary_bufs_sub .., binary_bufs_sub .., unary_bufs_sub .., binary_bufs_sub ..,
    nullary_bufs_sub .., nullary_bufs_sub .., nullary_bufs_sub .., quaternary_bufs_sub .., quaternary_bufs_sub ..,
    reshape_bufs_sub .., unary_bufs_sub ..⟩

end

theorem arg_eq (a : TRef sig ⟨S2816x10000, .f32⟩) (φ : fn_argmin.Bufs) :
    fn_argmin.body (F := F) a φ = seq (argOps pickVal pickIdx a φ) := rfl

/-- The program's operations, in order. -/
abbrev ops : List (HloOp τ sig (Elt F)) := opsBy pickVal pickIdx

theorem main_eq (c : Dev nD) : main (F := F) c = seq ops := by
  rw [seq_append, seq_append, ← arg_eq]
  rfl

theorem no_scoped_refs : (Finset.univ.filter fun b : Ref sig .tc => b.isScoped) = ∅ := by decide
theorem no_scoped_sems : (Finset.univ.filter fun sm : SemLoc sig => sm.isScoped .tc) = ∅ := by decide

/-- Every execution ends with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq no_scoped_refs no_scoped_sems defs main (fun _ => ops) main_eq (fun _ => ops_sub pickVal pickIdx) m ρ

/-- Every execution ends with the result at `out` of the arguments as launched, the arguments as launched and every counter at zero. -/
theorem run_out (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v17)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v17).trans (outBy_eq _ _ _), (h c main_arg0).trans (arg0_eq _ _ _), (h c main_arg1).trans (arg1_eq _ _ _)⟩,
      sem_eq_zero_of_no_sems (by decide) r.2⟩)
    (run_main m ρ)

end Cert.ReferenceIdeal.Hand
end
-- ==== Proof.RefValue.lean ====
/-
  The reference's result over the extended reals, read at an index: the word of the first place of the least distance.
-/
module

public import proofs.«01_k».proof.Proof.RefRun
public import proofs.«01_k».proof.Proof.Argmin
public import Idealize.ShloMosaic.Lib.Pointwise
public import Idealize.ShloMosaic.PureOps.Ideal.Laws

@[expose] public section

set_option maxRecDepth 16384

noncomputable section

namespace Cert.Argmin

open Idealize.ShloMosaic

/-- A left fold that keeps the lesser pair, on equal values the one of the smaller word: what it ends with is the starting pair or one of the
    list's, its value at most all of them, and its number at most those of equal value. -/
theorem foldl_least (f : EReal × BitVec 32 → EReal × BitVec 32 → EReal × BitVec 32)
    (hf : ∀ (a b : EReal) (i j : ℕ), i < 2 ^ 31 → j < 2 ^ 31 →
      f (a, BitVec.ofNat 32 i) (b, BitVec.ofNat 32 j) = if a < b ∨ (a = b ∧ i < j) then (a, BitVec.ofNat 32 i) else (b, BitVec.ofNat 32 j))
    (L : List (EReal × ℕ)) (hL : ∀ p ∈ L, p.2 < 2 ^ 31) (v : EReal) (i : ℕ) (hi : i < 2 ^ 31) :
    ∃ p ∈ (v, i) :: L, (L.map fun p => (p.1, BitVec.ofNat 32 p.2)).foldl f (v, BitVec.ofNat 32 i) = (p.1, BitVec.ofNat 32 p.2)
      ∧ ∀ q ∈ (v, i) :: L, p.1 ≤ q.1 ∧ (p.1 = q.1 → p.2 ≤ q.2) := by
  induction L generalizing v i with
  | nil => exact ⟨(v, i), by simp, rfl, fun q hq => by simp at hq; subst hq; exact ⟨le_rfl, fun _ => le_rfl⟩⟩
  | cons b L ih =>
    have hb := hL b (by simp)
    have hL' : ∀ p ∈ L, p.2 < 2 ^ 31 := fun p hp => hL p (by simp [hp])
    rw [List.map_cons, List.foldl_cons, hf _ _ _ _ hi hb]
    by_cases h : v < b.1 ∨ (v = b.1 ∧ i < b.2)
    · rw [if_pos h]
      obtain ⟨p, hp, he, hle⟩ := ih hL' v i hi
      refine ⟨p, ?_, he, fun q hq => ?_⟩
      · rcases List.mem_cons.mp hp with rfl | hp <;> simp [*]
      · rcases List.mem_cons.mp hq with rfl | hq
        · exact hle _ (by simp)
        rcases List.mem_cons.mp hq with rfl | hq
        · have hv := hle (v, i) (by simp)
          rcases h with h | ⟨h, h'⟩
          · exact ⟨hv.1.trans h.le, fun e => absurd (e ▸ hv.1 : q.1 ≤ v) (not_le.mpr h)⟩
          · exact ⟨h ▸ hv.1, fun e => (hv.2 (e.trans h.symm)).trans h'.le⟩
        · exact hle q (by simp [hq])
    · rw [if_neg h]
      have h1 : b.1 ≤ v := not_lt.mp fun hh => h (.inl hh)
      have h2 : b.1 = v → b.2 ≤ i := fun e => not_lt.mp fun hh => h (.inr ⟨e.symm, hh⟩)
      obtain ⟨p, hp, he, hle⟩ := ih hL' b.1 b.2 hb
      refine ⟨p, ?_, he, fun q hq => ?_⟩
      · exact List.mem_cons_of_mem _ hp
      · rcases List.mem_cons.mp hq with rfl | hq
        · have hv := hle b (by simp)
          refine ⟨hv.1.trans h1, fun e => ?_⟩
          have e' : b.1 = v := le_antisymm h1 ((show v = p.1 from e.symm).trans_le hv.1)
          exact (hv.2 (e.trans e'.symm)).trans (h2 e')
        · exact hle q hq

/-- The reduction of the pairs (entry, place) of each row by such a fold, from the pair of `⊤` and place 0, ends at the first place of the row's least
    entry. -/
theorem reduce_first {n₀ n₁ : ℕ} {u : Shape} (hpos : 0 < n₁) (hn : n₁ < 2 ^ 31) (h : (⟨2, ![n₀, n₁]⟩ : Shape).ReducesTo [1] ⟨1, ![n₀]⟩) (hu : 0 < u.numel)
    (f : EReal × BitVec 32 → EReal × BitVec 32 → EReal × BitVec 32)
    (hf : ∀ (a b : EReal) (i j : ℕ), i < 2 ^ 31 → j < 2 ^ 31 →
      f (a, BitVec.ofNat 32 i) (b, BitVec.ofNat 32 j) = if a < b ∨ (a = b ∧ i < j) then (a, BitVec.ofNat 32 i) else (b, BitVec.ofNat 32 j))
    (D : (⟨2, ![n₀, n₁]⟩ : Shape).Idx → EReal) (I : (⟨2, ![n₀, n₁]⟩ : Shape).Idx → BitVec 32) (hI : ∀ i, I i = BitVec.ofNat 32 (i 1).val)
    (d : u.Idx → EReal) (hd : ∀ i, d i = ⊤) (z : u.Idx → BitVec 32) (hz : ∀ i, z i = BitVec.ofNat 32 0) (j : Fin n₀) :
    ∃ J, (Host.reduce2 f D I d z h hu (ix1 j)).2 = BitVec.ofNat 32 J ∧ First (fun n => D (ix2 j n)) J := by
  let L : List (EReal × ℕ) := ((List.finRange (⟨2, ![n₀, n₁]⟩ : Shape).numel).filter fun n => h.drop ((⟨2, ![n₀, n₁]⟩ : Shape).rowMajor.symm n) = ix1 j).map
    fun n => (D ((⟨2, ![n₀, n₁]⟩ : Shape).rowMajor.symm n), ((⟨2, ![n₀, n₁]⟩ : Shape).rowMajor.symm n 1).val)
  have hfib : Host.argReduceFiber D I h (ix1 j) = L.map fun p => (p.1, BitVec.ofNat 32 p.2) := by
    rw [Host.argReduceFiber, List.map_map]
    exact List.map_congr_left fun n _ => Prod.ext rfl (hI _)
  have mem : ∀ p : EReal × ℕ, p ∈ L ↔ ∃ n : Fin n₁, p = (D (ix2 j n), n.val) := fun p => by
    simp only [L, List.mem_map, List.mem_filter, List.mem_finRange, true_and, decide_eq_true_eq]
    constructor
    · rintro ⟨n, hn, rfl⟩
      obtain ⟨k, hk⟩ := (h.fiber_r2_a1 _ _).mp hn
      rw [← hk]
      exact ⟨k, rfl⟩
    · rintro ⟨k, rfl⟩
      refine ⟨(⟨2, ![n₀, n₁]⟩ : Shape).rowMajor (ix2 j k), ?_, ?_⟩
      · rw [Equiv.symm_apply_apply]
        exact (h.fiber_r2_a1 _ _).mpr ⟨k, rfl⟩
      · rw [Equiv.symm_apply_apply]
        rfl
  obtain ⟨p, hp, he, hle⟩ := foldl_least f hf L
    (fun p hp => by obtain ⟨n, rfl⟩ := (mem p).mp hp; exact lt_trans n.isLt hn) ⊤ 0 (by norm_num)
  refine ⟨p.2, ?_, ?_⟩
  · rw [Host.reduce2_eq_foldl_fiber, hfib, hd, hz, he]
  · have hrow : ∀ n : Fin n₁, p.1 ≤ D (ix2 j n) ∧ (p.1 = D (ix2 j n) → p.2 ≤ n.val) := fun n =>
      hle (D (ix2 j n), n.val) (List.mem_cons_of_mem _ ((mem _).mpr ⟨n, rfl⟩))
    rcases List.mem_cons.mp hp with rfl | hp
    · exact ⟨hpos, fun n => le_top.trans (hrow n).1, fun n hn => absurd hn (Nat.not_lt_zero _)⟩
    · obtain ⟨n, rfl⟩ := (mem p).mp hp
      exact ⟨n.isLt, fun n' => (hrow n').1, fun n' hn' => lt_of_le_of_ne (hrow n').1 fun e => absurd ((hrow n').2 e) (not_le.mpr hn')⟩

end Cert.Argmin

namespace Cert.ReferenceIdeal.Hand

open Cert.ReferenceIdeal Cert.ReferenceIdeal.Gen
open Idealize.ShloMosaic Idealize.ShloMosaic.TcCoe

/-! ## The distances -/

/-- The squared norm of the query in column `j`. -/
def qnorm (Q : FVec Ideal S3072x2816 .f32) (j : Fin 2816) : EReal := ∑ k : Fin 3072, Q (ix2 k j) * Q (ix2 k j)

theorem dists_at (Q : FVec Ideal S3072x2816 .f32) (K : FVec Ideal S10000x3072 .f32) (j : Fin 2816) (n : Fin 10000) :
    dists Q K (ix2 j n) = qnorm Q j - Ideal.ofBits .f32 1073741824#32 * (∑ k : Fin 3072, Q (ix2 k j) * K (ix2 n k)) + ∑ k : Fin 3072, K (ix2 n k) * K (ix2 n k) := by
  pointwise [dists, qsq, ksq, dots, qnorm]

/-! ## The search -/

theorem top_word : Ideal.ofBits .f32 2139095040#32 = ⊤ := by simp [Ideal.ofBits, Ideal.ieee]

theorem slt_word {i j : ℕ} (hi : i < 2 ^ 31) (hj : j < 2 ^ 31) : IntOp.cmpi .slt (BitVec.ofNat 32 i) (BitVec.ofNat 32 j) = if i < j then 1#1 else 0#1 := by
  rw [WordCmp.cmpi_slt_ofNat hi hj]
  by_cases h : i < j <;> simp [h]

/-- The search's step keeps the lesser pair, on equal values the one of the smaller place. -/
theorem reducer_at (a b : EReal) (i j : ℕ) (hi : i < 2 ^ 31) (hj : j < 2 ^ 31) :
    reducer_argmin_f32_i32 (F := Ideal) (a, BitVec.ofNat 32 i) (b, BitVec.ofNat 32 j)
      = if a < b ∨ (a = b ∧ i < j) then (a, BitVec.ofNat 32 i) else (b, BitVec.ofNat 32 j) := by
  unfold reducer_argmin_f32_i32
  simp only [slt_word hi hj, Ideal.cmpf_def, Ideal.cmp]
  by_cases h1 : a < b <;> by_cases h2 : a = b <;> by_cases h3 : i < j <;>
    simp [h1, h2, h3, IntOp.ori, IntOp.andi, Scalar.select]

theorem pickIdx_eq (D : FVec Ideal S2816x10000 .f32) (I : IVec S2816x10000 32) (d : FVec Ideal S_ .f32) (i : IVec S_ 32) (j : S2816.Idx) :
    pickIdx D I d i j = seconds (Host.reduce2 (reducer_argmin_f32_i32 (F := Ideal)) D I d i reducesTo_S2816x10000_S2816_d1 h_S_) j :=
  congrArg (fun p => seconds p j) (Ideal.argReduce_eq_reduce2 (φ := .f32) (reducer_argmin_f32_i32 (F := Ideal)) D I d i reducesTo_S2816x10000_S2816_d1 h_S_)

theorem iota_at (i : S2816x10000.Idx) : iotaInDim S2816x10000 32 1 i = BitVec.ofNat 32 (i 1).val := rfl
theorem start_at (i : S_.Idx) : constant (F := Ideal) S_ .f32 0x7F800000#32 i = ⊤ := top_word

/-- The search for row `j` ends at the first place of its least entry. -/
theorem pickIdx_first (D : FVec Ideal S2816x10000 .f32) (I : IVec S2816x10000 32) (hI : ∀ i, I i = BitVec.ofNat 32 (i 1).val)
    (d : FVec Ideal S_ .f32) (hd : ∀ i, d i = (⊤ : EReal)) (z : IVec S_ 32) (hz : ∀ i, z i = BitVec.ofNat 32 0) (j : Fin 2816) :
    ∃ J, pickIdx D I d z (ix1 j) = BitVec.ofNat 32 J ∧ Argmin.First (fun n => D (ix2 j n)) J := by
  rw [pickIdx_eq, seconds_at]
  exact Argmin.reduce_first (n₀ := 2816) (n₁ := 10000) (by norm_num) (by norm_num) reducesTo_S2816x10000_S2816_d1 h_S_
    (reducer_argmin_f32_i32 (F := Ideal)) reducer_at D I hI d hd z hz j

/-- The reference's result, read at an index. -/
theorem out_at (Q : FVec Ideal S3072x2816 .f32) (K : FVec Ideal S10000x3072 .f32) (ch : Fin 22) (s : Fin 8) (l : Fin 128) :
    out Q K (ix3 ch s l) = pickIdx (dists Q K) (iotaInDim S2816x10000 32 1) (constant S_ .f32 0x7F800000#32) (constantI S_ 32 0#32)
      (ix1 ⟨128 * ch.val + l.val, by omega⟩) := by
  unfold out outBy
  generalize pickIdx (dists Q K) (iotaInDim S2816x10000 32 1) (constant S_ .f32 0x7F800000#32) (constantI S_ 32 0#32) = g
  pointwise
  exact congrArg (fun n => g (ix1 n)) (Fin.ext (by show ch.val * 128 + l.val = 128 * ch.val + l.val; omega))

end Cert.ReferenceIdeal.Hand
end
-- ==== Proof.Value.lean ====
/-
  The two programs end with one index array: the kernel's is the first place of the least score, the reference's the first place of the least
  distance, and a query's distances are its scores and the query's own squared norm, which is finite where the queries are.
-/
module

public import proofs.«01_k».proof.Proof.BodyI
public import proofs.«01_k».proof.Proof.RefValue
public import proofs.«01_k».proof.Proof.Gen.Pre_finite_queries

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

/-! ## What the kernel leaves in the index array -/

section
variable (m : (ℓ : Loc nD τ sig) → Buf (Elt Ideal) ℓ)

/-- The last point. -/
abbrev lastPt : Fin cfg0.N := ⟨39, by decide⟩

theorem flush_last {t : Fin cfg0.N} (h : (cfg0.win 2).flush t = true) : t = lastPt := by
  have h1 := (flush0_2 t).mp h
  have h2 : t.val < 40 := t.isLt
  exact Fin.ext (by show t.val = 39; omega)

/-- The index window's block is the whole array, so the array ends at what its one block out, that of the last point, holds. -/
theorem arr_of_after (c : Dev nD) (D : Dat τ (Elt Ideal) Unit ℕ (UR sig nD τ) ℕ cfg0 c) (X : Vec Ideal S22x8x128 .i32) (h : D.after 2 lastPt = X) :
    D.arrAt 2 cfg0.N = X := by
  have e : ∀ y : S22x8x128.Idx, ((cfg0.win 2).blk lastPt).view.emb y = y := fun y => funext fun a => Fin.ext (by
    fin_cases a
    · show 0 * 22 + 1 * (y 0).val = (y 0).val
      omega
    · show 0 * 8 + 1 * (y 1).val = (y 1).val
      omega
    · show 0 * 128 + 1 * (y 2).val = (y 2).val
      omega)
  funext i
  have hd := D.arrAt_emb_eq_flushed 2 (fun t t' ht ht' hne => absurd ((flush_last ht).trans (flush_last ht').symm) hne) lastPt ((flush0_2 lastPt).mpr rfl) i
  rw [e i] at hd
  rw [hd]
  show D.after 2 lastPt _ = X i
  rw [h]
  rfl

theorem arr_idx (c : Dev nD) : (dats m 0 c).arrAt 2 cfg0.N = idxAt m c 40 := by
  have h : (dats m 0 c).after 2 lastPt = idxAt m c (lastPt.val + 1) := by dsimp only [dats]
  generalize hn : lastPt.val + 1 = n at h
  obtain rfl : n = 40 := hn.symm
  exact arr_of_after c (dats m 0 c) _ h
end

/-! ## The two searches meet -/

/-- Where the precondition holds every query entry is a real number, -/
theorem query_real (Q : FVec Ideal S3072x2816 .f32) (K : FVec Ideal S10000x3072 .f32) (h : Cert.Pre_finite_queries.fn Q K = fun _ => 1#1)
    (i : S3072x2816.Idx) : ∃ a : ℝ, Q i = ((a : ℝ) : EReal) := by
  have h1 : Ideal.cmp .olt (max (Q i) (-(Q i) : EReal)) (Ideal.ofBits .f32 2139095040#32) = 1#1 := congrFun h i
  have hlt : max (Q i : EReal) (-(Q i) : EReal) < ⊤ := by
    rw [Cert.ReferenceIdeal.Hand.top_word] at h1
    by_contra hne
    simp [Ideal.cmp, hne] at h1
  have hne : (Q i : EReal) ≠ ⊤ := fun e => absurd (lt_of_le_of_lt (le_max_left _ _) hlt) (by rw [e]; exact lt_irrefl _)
  have hne' : (Q i : EReal) ≠ ⊥ := fun e => absurd (lt_of_le_of_lt (le_max_right _ _) hlt) (by rw [e]; simp)
  exact ⟨(Q i : EReal).toReal, (EReal.coe_toReal hne hne').symm⟩

theorem coe_sum {ι : Type} (s : Finset ι) (f : ι → ℝ) : ((∑ k ∈ s, f k : ℝ) : EReal) = ∑ k ∈ s, (f k : EReal) := by
  classical
  induction s using Finset.induction_on with
  | empty => simp
  | insert x s hx ih => rw [Finset.sum_insert hx, Finset.sum_insert hx, EReal.coe_add, ih]

/-- so a query's squared norm is one too. -/
theorem norm_real (Q : FVec Ideal S3072x2816 .f32) (hQ : ∀ i, ∃ a : ℝ, Q i = ((a : ℝ) : EReal)) (j : Fin 2816) :
    ∃ a : ℝ, Cert.ReferenceIdeal.Hand.qnorm Q j = ((a : ℝ) : EReal) := by
  choose f hf using hQ
  refine ⟨∑ k : Fin 3072, f (ix2 k j) * f (ix2 k j), ?_⟩
  unfold Cert.ReferenceIdeal.Hand.qnorm
  rw [coe_sum]
  exact Finset.sum_congr rfl fun k _ => by rw [hf, EReal.coe_mul]

/-- A query's distances are its squared norm and its scores. -/
theorem dist_rank (Q : FVec Ideal S3072x2816 .f32) (K : FVec Ideal S10000x3072 .f32) (j : Fin 2816) (n : Fin 10000) :
    Cert.ReferenceIdeal.Hand.dists Q K (ix2 j n) = Cert.ReferenceIdeal.Hand.qnorm Q j + rank K Q j n := by
  rw [Cert.ReferenceIdeal.Hand.dists_at]
  unfold rank
  rw [sub_eq_add_neg, sub_eq_add_neg, add_assoc, add_comm (-_)]
  simp only [mul_comm (Q _)]

/-- The kernel's index array is the reference's result, the queries finite. -/
theorem idx_eq_out (m : (ℓ : Loc nD τ sig) → Buf (Elt Ideal) ℓ) (c : Dev nD)
    (h : Cert.Pre_finite_queries.fn (F := Ideal) (Qf m c) (Kf m c) = fun _ => 1#1) : idxAt m c 40 = Cert.ReferenceIdeal.Hand.out (F := Ideal) (Qf m c) (Kf m c) := by
  funext y
  obtain ⟨ch, s, l, rfl⟩ : ∃ (ch : Fin 22) (s : Fin 8) (l : Fin 128), y = ix3 ch s l := ⟨y 0, y 1, y 2, (ix3_eta y).symm⟩
  obtain ⟨J, hJ, hfirst⟩ := idx_first m c ch s l
  obtain ⟨a, ha⟩ := norm_real (Qf m c) (query_real _ _ h) (col ch l)
  obtain ⟨J', hJ', hfirst'⟩ := Cert.ReferenceIdeal.Hand.pickIdx_first (Cert.ReferenceIdeal.Hand.dists (F := Ideal) (Qf m c) (Kf m c)) _
    Cert.ReferenceIdeal.Hand.iota_at _ Cert.ReferenceIdeal.Hand.start_at (constantI Cert.ReferenceIdeal.S_ 32 0#32) (fun _ => rfl) (col ch l)
  have e : (fun n => Cert.ReferenceIdeal.Hand.dists (F := Ideal) (Qf m c) (Kf m c) (ix2 (col ch l) n)) = fun n => (a : EReal) + rank (Kf m c) (Qf m c) (col ch l) n :=
    funext fun n => by rw [dist_rank, ha]
  rw [e] at hfirst'
  rw [hJ, (hfirst.add a).unique hfirst', ← hJ']
  exact (Cert.ReferenceIdeal.Hand.out_at _ _ ch s l).symm

/-! ## The run -/

/-- Every execution of the kernel ends with the index array at the last running index, the arguments as launched and every counter at zero. -/
theorem run_idx (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v0_0) = idxAt m c 40
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨((h.1 c).1 2).trans (arr_idx m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩, h.2⟩)
    (run_main m ρ)

end Cert.KernelIdeal.Hand
end
-- ==== Proof.FoldRunI.lean ====
/-
  The body of the kernel `FoldIdeal` prints, run at symbolic operands: sixteen patches one after the other, each added
  to its band of the accumulator, and what that leaves.
-/
module

public import proofs.«01_k».proof.Proof.Gen.FoldIdeal.Launch
public import proofs.«01_k».proof.Proof.Gen.FoldIdeal.Skeleton
public import Idealize.ShloMosaic.Lib.Pipeline.Frame
public import Idealize.ShloMosaic.Lib.Tactic
public import Idealize.ShloMosaic.Lib.VecWindow
public import Idealize.ShloMosaic.Lib.WritesUnit

@[expose] public section

set_option maxRecDepth 16384

noncomputable section

namespace Cert.FoldIdeal.Hand

open Cert.FoldIdeal Cert.FoldIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-! ## One patch -/

/-- The number of the `t`-th patch of grid point `i`, as the kernel computes it, -/
def numW (i : grid0.Coords) (t : BitVec 32) : BitVec 32 := Scalar.addi (Scalar.muli (BitVec.ofNat 32 (i 0).val) 16#32) t

/-- its row of the grid of positions, by the division that rounds down, -/
def rowW (q : BitVec 32) : BitVec 32 :=
  Scalar.select
    (Scalar.andi
      (Scalar.cmpi .ne (Scalar.subi (Scalar.extui (Scalar.cmpi .sgt q 0#32)) (Scalar.extui (Scalar.cmpi .slt q 0#32)))
        (Scalar.subi (Scalar.extui (Scalar.cmpi .sgt 53#32 0#32)) (Scalar.extui (Scalar.cmpi .slt 53#32 0#32))))
      (Scalar.cmpi .ne (Scalar.remsi q 53#32) 0#32))
    (Scalar.subi (Scalar.divsi q 53#32) 1#32) (Scalar.divsi q 53#32)

/-- and its column. -/
def colW (q : BitVec 32) : BitVec 32 := Scalar.subi q (Scalar.muli (rowW q) 53#32)

/-- A patch laid on 128 lanes, turned by `j` lanes, and added to what a band held. -/
def addTurned (j : BitVec 32) (X : Vec F S1x3x32x32 .f32) (B : Vec F S3x32x128 .f32) : FVec F S3x32x128 .f32 :=
  shapeCast S3x32x128
    (addf B (dynamicRotate 2 j none
      (concatenate S3x32x128 2
        [⟨S3x32x32, shapeCast S3x32x32 X shapeCasts_S1x3x32x32_S3x32x32⟩,
         ⟨S3x32x96, broadcast S3x32x96 (Scalar.sitofp (F := F) .f32 0#32)⟩]
        concatenates_S3x32x32_S3x32x96_S3x32x128_d2) rotates_S3x32x128_d2))
    shapeCasts_S3x32x128_S3x32x128

/-- The accumulator after one conditional addition. -/
def bandStep (b : BitVec 1) (off : Fin 3 → ℕ) (inb : b = 1#1 → ∀ a, off a + S3x32x128.size a ≤ S3x84x128.size a)
    (pay : Vec F S1x3x32x32 .f32 → Vec F S3x32x128 .f32 → FVec F S3x32x128 .f32)
    (X : Vec F S1x3x32x32 .f32) (A : Vec F S3x84x128 .f32) : Vec F S3x84x128 .f32 :=
  if h : b = 1#1 then VecWindow.put A off S3x32x128.size (pay X (VecWindow.window A off S3x32x128.size (inb h))) else A

/-- One conditional addition: the patch read, the band read and stored. -/
theorem step {α : Type} (k : Prog (TpuEff nD τ sig (Elt F) Λ₀ .tc) α) (c : Dev nD) (b : BitVec 1) (off : Fin 3 → ℕ) (inb : b = 1#1 → ∀ a, off a + S3x32x128.size a ≤ S3x84x128.size a)
    (pay : Vec F S1x3x32x32 .f32 → Vec F S3x32x128 .f32 → FVec F S3x32x128 .f32)
    (arg : Memref sig .tc .vmem S1x3x32x32 .f32) (acc : Memref sig .tc .vmem S3x84x128 .f32)
    (X : Vec F S1x3x32x32 .f32) (A : Vec F S3x84x128 .f32) (E : Set ℕ) (K : α → sProp 𝕄) :
    owns (c : Thread nD τ) arg fullShare X
      ⊢ iprop(owns (c : Thread nD τ) acc fullShare A
          -∗ (iprop(owns (c : Thread nD τ) arg fullShare X ∗ owns (c : Thread nD τ) acc fullShare (bandStep b off inb pay X A)) -∗ wp frame (wpE (defs₀ (F := F)) Variants.none c none) E k K)
          -∗ wp frame (wpE (defs₀ (F := F)) Variants.none c none) E
            (if h : b = 1#1 then do
              let v390 : Vec F S1x3x32x32 .f32 ← Prog.lift (.load arg (Rect.unit (s := S1x3x32x32) ![0, 0, 0, 0] S1x3x32x32.size inb_S1x3x32x32_S1x3x32x32_0_0_0_0).toLoadRect (View.loadsAt_vmem h_S1x3x32x32))
              let v397 : Vec F S3x32x128 .f32 ← Prog.lift (.load acc (Rect.unit (s := S3x84x128) off S3x32x128.size (inb h)).toLoadRect (View.loadsAt_vmem h_S3x32x128))
              let v400 : Vec F S3x32x128 .f32 ← Prog.lift (.load acc (Rect.unit (s := S3x84x128) off S3x32x128.size (inb h)).toLoadRect (View.loadsAt_vmem h_S3x32x128))
              Prog.lift (.store acc (Rect.unit (s := S3x84x128) off S3x32x128.size (inb h)) (pay v390 v397) Finset.univ (View.stores_vmem_bits_univ h_S3x32x128 rfl) (.inl rfl))
              k
            else do
              k) K) := by
  unfold owns
  iintro ⟨%f0, %hf0, H0⟩ ⟨%f1, %hf1, H1⟩ Hk
  by_cases h : b = 1#1
  · rw [dif_pos h]
    sl_exec
    iapply Hk
    isplitl [H0]
    · iexists f0; isplitr; · ipureintro; exact hf0
      iexact H0
    · iexists _; isplitr; swap; · iexact H1
      ipureintro
      subst hf0 hf1
      unfold bandStep
      rw [dif_pos h]
      sl_unfold_words
      funext y
      rw [View.read_writes_cons_unit _ _ _ _ _ y rfl, View.readAt_full, View.readAt_unit _ _ _ rfl (inb h)]
      rfl
  · rw [dif_neg h]
    iapply Hk
    isplitl [H0]
    · iexists f0; isplitr; · ipureintro; exact hf0
      iexact H0
    · iexists f1; isplitr; swap; · iexact H1
      ipureintro
      unfold bandStep
      rw [dif_neg h]; exact hf1

/-- The reset of the accumulator at the first point. -/
theorem stepReset {α : Type} (k : Prog (TpuEff nD τ sig (Elt F) Λ₀ .tc) α) (c : Dev nD) (b : BitVec 1) (Z : Vec F S3x84x128 .f32) (acc : Memref sig .tc .vmem S3x84x128 .f32)
    (A : Vec F S3x84x128 .f32) (E : Set ℕ) (K : α → sProp 𝕄) :
    owns (c : Thread nD τ) acc fullShare A
      ⊢ iprop((owns (c : Thread nD τ) acc fullShare (if b = 1#1 then Z else A) -∗ wp frame (wpE (defs₀ (F := F)) Variants.none c none) E k K)
          -∗ wp frame (wpE (defs₀ (F := F)) Variants.none c none) E
            (if h : b = 1#1 then do
              let v391 : Vec F S3x84x128 .f32 ← Prog.lift (.load acc (Rect.unit (s := S3x84x128) ![0, 0, 0] S3x84x128.size inb_S3x84x128_S3x84x128_0_0_0).toLoadRect (View.loadsAt_vmem h_S3x84x128))
              Prog.lift (.store acc (Rect.unit (s := S3x84x128) ![0, 0, 0] S3x84x128.size inb_S3x84x128_S3x84x128_0_0_0) Z Finset.univ (View.stores_vmem_bits_univ h_S3x84x128 rfl) (.inl rfl))
              k
            else do
              k) K) := by
  unfold owns
  iintro ⟨%f1, %hf1, H1⟩ Hk
  by_cases h : b = 1#1
  · rw [dif_pos h]
    sl_exec
    iapply Hk
    iexists _; isplitr; swap; · iexact H1
    ipureintro
    rw [if_pos h]
    sl_unfold_words
    funext y
    rw [View.read_writes_cons_unit _ _ _ _ _ y rfl, dif_pos (fun a => ⟨by fin_cases a <;> exact Nat.zero_le _, by
      have := (y a).isLt; fin_cases a <;> simpa using this⟩)]
    refine congrArg Z (funext fun a => Fin.ext ?_)
    fin_cases a <;> rfl
  · rw [dif_neg h]
    iapply Hk
    iexists f1; isplitr; swap; · iexact H1
    ipureintro
    rw [if_neg h]; exact hf1

/-- The crop divided by its largest entry, stored at the last point. -/
theorem stepOut {α : Type} (k : Prog (TpuEff nD τ sig (Elt F) Λ₀ .tc) α) (c : Dev nD) (b : BitVec 1) (pay : Vec F S3x64x64 .f32 → FVec F S3x64x64 .f32)
    (out : Memref sig .tc .vmem S3x64x64 .f32) (acc : Memref sig .tc .vmem S3x84x128 .f32)
    (O : Vec F S3x64x64 .f32) (A : Vec F S3x84x128 .f32) (E : Set ℕ) (K : α → sProp 𝕄) :
    owns (c : Thread nD τ) out fullShare O
      ⊢ iprop(owns (c : Thread nD τ) acc fullShare A
          -∗ (iprop(owns (c : Thread nD τ) out fullShare (if b = 1#1 then pay (VecWindow.window A ![0, 10, 10] S3x64x64.size inb_S3x84x128_S3x64x64_0_10_10) else O)
              ∗ owns (c : Thread nD τ) acc fullShare A) -∗ wp frame (wpE (defs₀ (F := F)) Variants.none c none) E k K)
          -∗ wp frame (wpE (defs₀ (F := F)) Variants.none c none) E
            (if h : b = 1#1 then do
              let v390 : Vec F S3x64x64 .f32 ← Prog.lift (.load acc (Rect.unit (s := S3x84x128) ![0, 10, 10] S3x64x64.size inb_S3x84x128_S3x64x64_0_10_10).toLoadRect (View.loadsAt_vmem h_S3x64x64))
              let v397 : Vec F S3x64x64 .f32 ← Prog.lift (.load out (Rect.unit (s := S3x64x64) ![0, 0, 0] S3x64x64.size inb_S3x64x64_S3x64x64_0_0_0).toLoadRect (View.loadsAt_vmem h_S3x64x64))
              Prog.lift (.store out (Rect.unit (s := S3x64x64) ![0, 0, 0] S3x64x64.size inb_S3x64x64_S3x64x64_0_0_0) (pay v390) Finset.univ (View.stores_vmem_bits_univ h_S3x64x64 rfl) (.inl rfl))
              k
            else do
              k) K) := by
  unfold owns
  iintro ⟨%f0, %hf0, H0⟩ ⟨%f1, %hf1, H1⟩ Hk
  by_cases h : b = 1#1
  · rw [dif_pos h]
    sl_exec
    iapply Hk
    isplitl [H0]
    · iexists _; isplitr; swap; · iexact H0
      ipureintro
      subst hf0 hf1
      rw [if_pos h]
      sl_unfold_words
      funext y
      rw [View.read_writes_cons_unit _ _ _ _ _ y rfl, dif_pos (fun a => ⟨by fin_cases a <;> exact Nat.zero_le _, by
        have := (y a).isLt; fin_cases a <;> simpa using this⟩), View.readAt_unit _ _ _ rfl inb_S3x84x128_S3x64x64_0_10_10]
      refine congrArg (pay _) (funext fun a => Fin.ext ?_)
      fin_cases a <;> rfl
    · iexists f1; isplitr; · ipureintro; exact hf1
      iexact H1
  · rw [dif_neg h]
    iapply Hk
    isplitl [H0]
    · iexists f0; isplitr; swap; · iexact H0
      ipureintro; rw [if_neg h]; exact hf0
    · iexists f1; isplitr; · ipureintro; exact hf1
      iexact H1

/-! ## The whole body -/

/-- One of the sixteen additions of grid point `i`. -/
def addNth (i : grid0.Coords) (t : Fin 16) (X : Vec F S1x3x32x32 .f32) (A : Vec F S3x84x128 .f32) : Vec F S3x84x128 .f32 :=
  match t with
  | 0 => bandStep (k0_cond2 i) (k0_off2 i) (k0_off2_inb i) (addTurned (colW (numW i 0#32))) X A
  | 1 => bandStep (k0_cond3 i) (k0_off3 i) (k0_off3_inb i) (addTurned (colW (numW i 1#32))) X A
  | 2 => bandStep (k0_cond4 i) (k0_off4 i) (k0_off4_inb i) (addTurned (colW (numW i 2#32))) X A
  | 3 => bandStep (k0_cond5 i) (k0_off5 i) (k0_off5_inb i) (addTurned (colW (numW i 3#32))) X A
  | 4 => bandStep (k0_cond6 i) (k0_off6 i) (k0_off6_inb i) (addTurned (colW (numW i 4#32))) X A
  | 5 => bandStep (k0_cond7 i) (k0_off7 i) (k0_off7_inb i) (addTurned (colW (numW i 5#32))) X A
  | 6 => bandStep (k0_cond8 i) (k0_off8 i) (k0_off8_inb i) (addTurned (colW (numW i 6#32))) X A
  | 7 => bandStep (k0_cond9 i) (k0_off9 i) (k0_off9_inb i) (addTurned (colW (numW i 7#32))) X A
  | 8 => bandStep (k0_cond10 i) (k0_off10 i) (k0_off10_inb i) (addTurned (colW (numW i 8#32))) X A
  | 9 => bandStep (k0_cond11 i) (k0_off11 i) (k0_off11_inb i) (addTurned (colW (numW i 9#32))) X A
  | 10 => bandStep (k0_cond12 i) (k0_off12 i) (k0_off12_inb i) (addTurned (colW (numW i 10#32))) X A
  | 11 => bandStep (k0_cond13 i) (k0_off13 i) (k0_off13_inb i) (addTurned (colW (numW i 11#32))) X A
  | 12 => bandStep (k0_cond14 i) (k0_off14 i) (k0_off14_inb i) (addTurned (colW (numW i 12#32))) X A
  | 13 => bandStep (k0_cond15 i) (k0_off15 i) (k0_off15_inb i) (addTurned (colW (numW i 13#32))) X A
  | 14 => bandStep (k0_cond16 i) (k0_off16 i) (k0_off16_inb i) (addTurned (colW (numW i 14#32))) X A
  | 15 => bandStep (k0_cond17 i) (k0_off17 i) (k0_off17_inb i) (addTurned (colW (numW i 15#32))) X A
  | ⟨_ + 16, h⟩ => absurd h (Nat.not_lt.2 (Nat.le_add_left _ _))

/-- The accumulator after the first `n` additions. -/
def addFirst (i : grid0.Coords) (X : Fin 16 → Vec F S1x3x32x32 .f32) (A : Vec F S3x84x128 .f32) : (n : ℕ) → Vec F S3x84x128 .f32
  | 0 => A
  | n + 1 => if h : n < 16 then addNth i ⟨n, h⟩ (X ⟨n, h⟩) (addFirst i X A n) else addFirst i X A n

/-- Whether the point is the first, as the kernel computes it. -/
def atFirst (i : grid0.Coords) : BitVec 1 := Scalar.cmpi .ne (Scalar.extui (Scalar.cmpi .eq (BitVec.ofNat 32 (i 0).val) 0#32) : BitVec 32) 0#32

/-- The accumulator after a point. -/
def accAfter (i : grid0.Coords) (X : Fin 16 → Vec F S1x3x32x32 .f32) (A : Vec F S3x84x128 .f32) : Vec F S3x84x128 .f32 :=
  addFirst i X (if atFirst i = 1#1 then k0_pay2 else A) 16

/-- The result's buffer after a point. -/
def outAfter (i : grid0.Coords) (X : Fin 16 → Vec F S1x3x32x32 .f32) (A : Vec F S3x84x128 .f32) (O : Vec F S3x64x64 .f32) : Vec F S3x64x64 .f32 :=
  if k0_cond18 i = 1#1 then k0_pay1 (VecWindow.window (accAfter i X A) ![0, 10, 10] S3x64x64.size inb_S3x84x128_S3x64x64_0_10_10) else O

set_option maxHeartbeats 4000000 in
theorem run (c : Dev nD) (i : grid0.Coords) (arg1 : Memref sig .tc .smem S2816 .i32) (harg1 : arg1.IsWhole)
    (arg2 : Memref sig .tc .vmem S1x3x32x32 .f32) (harg2 : arg2.IsWhole) (arg3 : Memref sig .tc .vmem S1x3x32x32 .f32) (harg3 : arg3.IsWhole) (arg4 : Memref sig .tc .vmem S1x3x32x32 .f32) (harg4 : arg4.IsWhole) (arg5 : Memref sig .tc .vmem S1x3x32x32 .f32) (harg5 : arg5.IsWhole) (arg6 : Memref sig .tc .vmem S1x3x32x32 .f32) (harg6 : arg6.IsWhole) (arg7 : Memref sig .tc .vmem S1x3x32x32 .f32) (harg7 : arg7.IsWhole) (arg8 : Memref sig .tc .vmem S1x3x32x32 .f32) (harg8 : arg8.IsWhole) (arg9 : Memref sig .tc .vmem S1x3x32x32 .f32) (harg9 : arg9.IsWhole) (arg10 : Memref sig .tc .vmem S1x3x32x32 .f32) (harg10 : arg10.IsWhole) (arg11 : Memref sig .tc .vmem S1x3x32x32 .f32) (harg11 : arg11.IsWhole) (arg12 : Memref sig .tc .vmem S1x3x32x32 .f32) (harg12 : arg12.IsWhole) (arg13 : Memref sig .tc .vmem S1x3x32x32 .f32) (harg13 : arg13.IsWhole) (arg14 : Memref sig .tc .vmem S1x3x32x32 .f32) (harg14 : arg14.IsWhole) (arg15 : Memref sig .tc .vmem S1x3x32x32 .f32) (harg15 : arg15.IsWhole) (arg16 : Memref sig .tc .vmem S1x3x32x32 .f32) (harg16 : arg16.IsWhole) (arg17 : Memref sig .tc .vmem S1x3x32x32 .f32) (harg17 : arg17.IsWhole)
    (arg18 : Memref sig .tc .vmem S3x64x64 .f32) (harg18 : arg18.IsWhole) (arg19 : Memref sig .tc .vmem S3x84x128 .f32) (harg19 : arg19.IsWhole)
    (X : Fin 16 → Vec F S1x3x32x32 .f32) (O : Vec F S3x64x64 .f32) (A : Vec F S3x84x128 .f32) (E : Set ℕ) (K : PUnit → sProp 𝕄) :
    iprop((owns (c : Thread nD τ) arg2 fullShare (X 0) ∗ owns (c : Thread nD τ) arg3 fullShare (X 1) ∗ owns (c : Thread nD τ) arg4 fullShare (X 2) ∗ owns (c : Thread nD τ) arg5 fullShare (X 3) ∗ owns (c : Thread nD τ) arg6 fullShare (X 4) ∗ owns (c : Thread nD τ) arg7 fullShare (X 5) ∗ owns (c : Thread nD τ) arg8 fullShare (X 6) ∗ owns (c : Thread nD τ) arg9 fullShare (X 7) ∗ owns (c : Thread nD τ) arg10 fullShare (X 8) ∗ owns (c : Thread nD τ) arg11 fullShare (X 9) ∗ owns (c : Thread nD τ) arg12 fullShare (X 10) ∗ owns (c : Thread nD τ) arg13 fullShare (X 11) ∗ owns (c : Thread nD τ) arg14 fullShare (X 12) ∗ owns (c : Thread nD τ) arg15 fullShare (X 13) ∗ owns (c : Thread nD τ) arg16 fullShare (X 14) ∗ owns (c : Thread nD τ) arg17 fullShare (X 15)
            ∗ owns (c : Thread nD τ) arg18 fullShare O ∗ owns (c : Thread nD τ) arg19 fullShare A)
          ∗ (iprop(owns (c : Thread nD τ) arg2 fullShare (X 0) ∗ owns (c : Thread nD τ) arg3 fullShare (X 1) ∗ owns (c : Thread nD τ) arg4 fullShare (X 2) ∗ owns (c : Thread nD τ) arg5 fullShare (X 3) ∗ owns (c : Thread nD τ) arg6 fullShare (X 4) ∗ owns (c : Thread nD τ) arg7 fullShare (X 5) ∗ owns (c : Thread nD τ) arg8 fullShare (X 6) ∗ owns (c : Thread nD τ) arg9 fullShare (X 7) ∗ owns (c : Thread nD τ) arg10 fullShare (X 8) ∗ owns (c : Thread nD τ) arg11 fullShare (X 9) ∗ owns (c : Thread nD τ) arg12 fullShare (X 10) ∗ owns (c : Thread nD τ) arg13 fullShare (X 11) ∗ owns (c : Thread nD τ) arg14 fullShare (X 12) ∗ owns (c : Thread nD τ) arg15 fullShare (X 13) ∗ owns (c : Thread nD τ) arg16 fullShare (X 14) ∗ owns (c : Thread nD τ) arg17 fullShare (X 15)
            ∗ owns (c : Thread nD τ) arg18 fullShare (outAfter i X A O) ∗ owns (c : Thread nD τ) arg19 fullShare (accAfter i X A)) -∗ K ⟨⟩))
      ⊢ wp frame (wpE (defs₀ (F := F)) Variants.none c none) E
          (cc0__fold_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [cc0__fold_kernel_eq_skeleton]
  unfold cc0__fold_kernel_skel
  iintro ⟨⟨H2, H3, H4, H5, H6, H7, H8, H9, H10, H11, H12, H13, H14, H15, H16, H17, H18, H19⟩, Hk⟩
  irw [wp_bind, k0_part1_eq_skeleton]
  unfold k0_part1_skel
  dsimp only
  iapply (stepReset (F := F)) $$ H19
  iintro H19
  iapply (step (F := F)) $$ H2 H19
  iintro ⟨H2, H19⟩
  sl_step
  irw [wp_bind, k0_part2_eq_skeleton]
  unfold k0_part2_skel
  dsimp only
  iapply (step (F := F)) $$ H3 H19
  iintro ⟨H3, H19⟩
  iapply (step (F := F)) $$ H4 H19
  iintro ⟨H4, H19⟩
  sl_step
  irw [wp_bind, k0_part3_eq_skeleton]
  unfold k0_part3_skel
  dsimp only
  iapply (step (F := F)) $$ H5 H19
  iintro ⟨H5, H19⟩
  sl_step
  irw [wp_bind, k0_part4_eq_skeleton]
  unfold k0_part4_skel
  dsimp only
  iapply (step (F := F)) $$ H6 H19
  iintro ⟨H6, H19⟩
  iapply (step (F := F)) $$ H7 H19
  iintro ⟨H7, H19⟩
  sl_step
  irw [wp_bind, k0_part5_eq_skeleton]
  unfold k0_part5_skel
  dsimp only
  iapply (step (F := F)) $$ H8 H19
  iintro ⟨H8, H19⟩
  sl_step
  irw [wp_bind, k0_part6_eq_skeleton]
  unfold k0_part6_skel
  dsimp only
  iapply (step (F := F)) $$ H9 H19
  iintro ⟨H9, H19⟩
  iapply (step (F := F)) $$ H10 H19
  iintro ⟨H10, H19⟩
  sl_step
  irw [wp_bind, k0_part7_eq_skeleton]
  unfold k0_part7_skel
  dsimp only
  iapply (step (F := F)) $$ H11 H19
  iintro ⟨H11, H19⟩
  iapply (step (F := F)) $$ H12 H19
  iintro ⟨H12, H19⟩
  sl_step
  irw [wp_bind, k0_part8_eq_skeleton]
  unfold k0_part8_skel
  dsimp only
  iapply (step (F := F)) $$ H13 H19
  iintro ⟨H13, H19⟩
  sl_step
  irw [wp_bind, k0_part9_eq_skeleton]
  unfold k0_part9_skel
  dsimp only
  iapply (step (F := F)) $$ H14 H19
  iintro ⟨H14, H19⟩
  iapply (step (F := F)) $$ H15 H19
  iintro ⟨H15, H19⟩
  sl_step
  irw [wp_bind, k0_part10_eq_skeleton]
  unfold k0_part10_skel
  dsimp only
  iapply (step (F := F)) $$ H16 H19
  iintro ⟨H16, H19⟩
  iapply (step (F := F)) $$ H17 H19
  iintro ⟨H17, H19⟩
  sl_step
  iapply (stepOut (F := F)) $$ H18 H19
  iintro ⟨H18, H19⟩
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · iexact H18
  iexact H19

end Cert.FoldIdeal.Hand
end
-- ==== Proof.FoldBodyI.lean ====
/-
  The launch of the kernel `FoldIdeal` prints: the table's rows keep every patch inside the dictionary, and at every grid
  point the body takes the accumulator to the next one, so the result is the last one's crop over its largest entry.
-/
module

public import proofs.«01_k».proof.Proof.FoldRunI
public import Idealize.ShloMosaic.Lib.Pipeline.Frame
public import Idealize.ShloMosaic.Lib.Pipeline.Value
public import Idealize.ShloMosaic.Lib.StableHlo
public import Idealize.ShloMosaic.Lib.Tactic

@[expose] public section

set_option maxRecDepth 16384

noncomputable section

namespace Cert.FoldIdeal.Hand

open Cert.FoldIdeal Cert.FoldIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The buffers at the launch -/

/-- The buffers when the region is entered: the dictionary's entries laid out as patches. -/
abbrev V (c : Dev nD) (b : Ref sig .tc) : Buf (Elt F) ((c : Thread nD τ).loc b) :=
  StableHlo.after (hostOps0 (F := F)) (fun b => m (c, b)) b

theorem hmain : Pipeline.HMainP (Ix := Unit) (Name := ℕ) (U := UR sig nD τ) (Lvl := ℕ) (pcfgs (F := F)) 0 defs₀ Variants.none m (main (F := F)) (V m) :=
  Pipeline.hmainP_prefix (pcfgs (F := F)) 0 defs₀ Variants.none m main hostOps0 hostOps0_sub (by exact rfl) main_chain

theorem V_main_arg0 (c : Dev nD) : V m c main_arg0 = m ((c : Thread nD τ).loc main_arg0) := by
  unfold V hostOps0; after_results; try rfl
theorem V_main_arg1 (c : Dev nD) : V m c main_arg1 = m ((c : Thread nD τ).loc main_arg1) := by
  unfold V hostOps0; after_results; try rfl
theorem V_main_v0 (c : Dev nD) : V m c main_v0
    = (shapeCast S10000x3x32x32 (m ((c : Thread nD τ).loc main_arg1) : Vec F S10000x3072 .f32) shapeCasts_S10000x3072_S10000x3x32x32 : Vec F S10000x3x32x32 .f32) := by
  unfold V hostOps0; after_results; try rfl

/-! ## The table -/

/-- Every entry of the table names a row of the dictionary. -/
def RowsNamed : Prop := ∀ (c : Dev nD) (x : S2816.Idx), ((m ((c : Thread nD τ).loc main_arg0) : IVec S2816 32) x).toNat < 10000

/-- The table's contents. -/
def tab : pre0.Contents (Elt F) := fun k => V m 0 (pre0.ref k)

theorem tab_zero : tab m 0 = m (((0 : Dev nD) : Thread nD τ).loc main_arg0) := V_main_arg0 m 0

theorem named_inb (w : ℕ) (hw : w < 10000) : ∀ a : Fin 4, ((![w, (0#32).toNat, (0#32).toNat, (0#32).toNat] : Fin 4 → ℕ) a + 1) * S1x3x32x32.size a ≤ S10000x3x32x32.size a := by
  intro a
  fin_cases a
  · show (w + 1) * 1 ≤ 10000; omega
  all_goals exact Nat.le_of_ble_eq_true rfl

theorem tab_ok (h : RowsNamed m) : ok0 (F := F) (tab m) := by
  have hx : ∀ x, (tab m 0 x : BitVec 32).toNat < 10000 := fun x => by rw [tab_zero]; exact h 0 x
  exact ⟨fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩, fun i => ⟨named_inb _ (hx _), .inl rfl⟩⟩

/-- The table as the launch takes it. -/
def adm (h : RowsNamed m) : (p : Fin 1) → (pcfgs (F := F) p).Adm := fun _ => ⟨tab m, tab_ok m h⟩

variable (h : RowsNamed m)

/-- The call at the table. -/
abbrev cfgT : Pipeline.Cfg sig Λ₀ := Pipeline.pin (pcfgs (F := F)) (adm m h) 0

/-! ## The blocks and the accumulator -/

/-- Window `w`'s block at point `t`. -/
def iblk (c : Dev nD) (w : Fin (cfgT m h).W) (t : Fin (cfgT m h).N) :
    (((cfgT m h).win w).xblock ((cfgT m h).grid.coords t)).Idx → Elt F ((cfgT m h).win w).elt :=
  (((cfgT m h).win w).blk t).view.read (Elt F) (V m c (Pipeline.arrRef spec0 w))

/-- The sixteen patches of a point. -/
def patches (c : Dev nD) (t : Fin (cfgT m h).N) (j : Fin 16) : Vec F S1x3x32x32 .f32 :=
  match j with
  | 0 => iblk m h c 0 t
  | 1 => iblk m h c 1 t
  | 2 => iblk m h c 2 t
  | 3 => iblk m h c 3 t
  | 4 => iblk m h c 4 t
  | 5 => iblk m h c 5 t
  | 6 => iblk m h c 6 t
  | 7 => iblk m h c 7 t
  | 8 => iblk m h c 8 t
  | 9 => iblk m h c 9 t
  | 10 => iblk m h c 10 t
  | 11 => iblk m h c 11 t
  | 12 => iblk m h c 12 t
  | 13 => iblk m h c 13 t
  | 14 => iblk m h c 14 t
  | 15 => iblk m h c 15 t
  | ⟨_ + 16, h⟩ => absurd h (Nat.not_lt.2 (Nat.le_add_left _ _))

/-- The accumulator before point `n`, from the second on. -/
def accAt (c : Dev nD) : ℕ → Vec F S3x84x128 .f32
  | 0 => k0_pay2
  | n + 1 => if hn : n < (cfgT m h).N then accAfter (grid0.coords ⟨n, hn⟩) (patches m h c ⟨n, hn⟩) (accAt c n) else accAt c n

theorem accAt_succ (c : Dev nD) (t : Fin (cfgT m h).N) :
    accAt m h c (t.val + 1) = accAfter (grid0.coords t) (patches m h c t) (accAt m h c t.val) :=
  dif_pos t.isLt

/-- The result: the accumulator's crop over its largest entry. -/
def result (c : Dev nD) : Vec F S3x64x64 .f32 :=
  k0_pay1 (VecWindow.window (accAt m h c 176) ![0, 10, 10] S3x64x64.size inb_S3x84x128_S3x64x64_0_10_10)

theorem atFirst_iff : ∀ t : Fin grid0.N, atFirst (grid0.coords t) = 1#1 ↔ t.val = 0 := by decide +kernel
theorem atLast_iff : ∀ t : Fin grid0.N, k0_cond18 (grid0.coords t) = 1#1 ↔ t.val = 175 := by decide +kernel

/-- What the body makes of any accumulator that is the point's own past the first. -/
theorem acc_next (c : Dev nD) (t : Fin (cfgT m h).N) (A : Vec F S3x84x128 .f32) (hA : t.val ≠ 0 → A = accAt m h c t.val) :
    accAfter (grid0.coords t) (patches m h c t) A = accAt m h c (t.val + 1) := by
  rw [accAt_succ]
  by_cases h0 : t.val = 0
  · unfold accAfter; rw [if_pos ((atFirst_iff t).mpr h0), if_pos ((atFirst_iff t).mpr h0)]
  · rw [hA h0]

/-! ## The proof data and the body obligation -/

/-- What the region keeps between points: the accumulator, the generator's register and the table. -/
def kept (c : Dev nD) (n : ℕ) : sProp 𝕄 :=
  iprop((∃ A : Vec F S3x84x128 .f32, ⌜n ≠ 0 → A = accAt m h c n⌝ ∗ owns (c : Thread nD τ) (Memref.whole cc0_scratch0) fullShare A)
    ∗ (∃ r, prngReg c r) ∗ Pipeline.ΦT pre0 (tab m) c)

def dats (p : Fin 1) (c : Dev nD) : Dat τ (Elt F) Unit ℕ (UR sig nD τ) ℕ (Pipeline.pin (pcfgs (F := F)) (adm m h) p) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => iblk m h c 4 t
    | ⟨5, _⟩ => iblk m h c 5 t
    | ⟨6, _⟩ => iblk m h c 6 t
    | ⟨7, _⟩ => iblk m h c 7 t
    | ⟨8, _⟩ => iblk m h c 8 t
    | ⟨9, _⟩ => iblk m h c 9 t
    | ⟨10, _⟩ => iblk m h c 10 t
    | ⟨11, _⟩ => iblk m h c 11 t
    | ⟨12, _⟩ => iblk m h c 12 t
    | ⟨13, _⟩ => iblk m h c 13 t
    | ⟨14, _⟩ => iblk m h c 14 t
    | ⟨15, _⟩ => iblk m h c 15 t
    | ⟨16, _⟩ => result m h c
    | ⟨_ + 17, hw⟩ => absurd hw (Nat.not_lt.2 (Nat.le_add_left _ _))
  Φ t := kept m h c t.val
  q w := Pipeline.shareOf spec0 w
  owed _ := 0

theorem A_eq (c : Dev nD) (w : Fin (cfgT m h).W) : (dats m h 0 c).A w = V m c (Pipeline.arrRef spec0 w) := by dsimp only [dats]

theorem before_0 (c : Dev nD) (t : Fin (cfgT m h).N) (d) : (dats m h 0 c).before 0 t d = iblk m h c 0 t :=
  ((dats m h 0 c).before_in_eq_fetched 0 rfl (fun _ => rfl) (fun _ _ _ => rfl) (fun t => rfl) t d).trans rfl
theorem before_1 (c : Dev nD) (t : Fin (cfgT m h).N) (d) : (dats m h 0 c).before 1 t d = iblk m h c 1 t :=
  ((dats m h 0 c).before_in_eq_fetched 1 rfl (fun _ => rfl) (fun _ _ _ => rfl) (fun t => rfl) t d).trans rfl
theorem before_2 (c : Dev nD) (t : Fin (cfgT m h).N) (d) : (dats m h 0 c).before 2 t d = iblk m h c 2 t :=
  ((dats m h 0 c).before_in_eq_fetched 2 rfl (fun _ => rfl) (fun _ _ _ => rfl) (fun t => rfl) t d).trans rfl
theorem before_3 (c : Dev nD) (t : Fin (cfgT m h).N) (d) : (dats m h 0 c).before 3 t d = iblk m h c 3 t :=
  ((dats m h 0 c).before_in_eq_fetched 3 rfl (fun _ => rfl) (fun _ _ _ => rfl) (fun t => rfl) t d).trans rfl
theorem before_4 (c : Dev nD) (t : Fin (cfgT m h).N) (d) : (dats m h 0 c).before 4 t d = iblk m h c 4 t :=
  ((dats m h 0 c).before_in_eq_fetched 4 rfl (fun _ => rfl) (fun _ _ _ => rfl) (fun t => rfl) t d).trans rfl
theorem before_5 (c : Dev nD) (t : Fin (cfgT m h).N) (d) : (dats m h 0 c).before 5 t d = iblk m h c 5 t :=
  ((dats m h 0 c).before_in_eq_fetched 5 rfl (fun _ => rfl) (fun _ _ _ => rfl) (fun t => rfl) t d).trans rfl
theorem before_6 (c : Dev nD) (t : Fin (cfgT m h).N) (d) : (dats m h 0 c).before 6 t d = iblk m h c 6 t :=
  ((dats m h 0 c).before_in_eq_fetched 6 rfl (fun _ => rfl) (fun _ _ _ => rfl) (fun t => rfl) t d).trans rfl
theorem before_7 (c : Dev nD) (t : Fin (cfgT m h).N) (d) : (dats m h 0 c).before 7 t d = iblk m h c 7 t :=
  ((dats m h 0 c).before_in_eq_fetched 7 rfl (fun _ => rfl) (fun _ _ _ => rfl) (fun t => rfl) t d).trans rfl
theorem before_8 (c : Dev nD) (t : Fin (cfgT m h).N) (d) : (dats m h 0 c).before 8 t d = iblk m h c 8 t :=
  ((dats m h 0 c).before_in_eq_fetched 8 rfl (fun _ => rfl) (fun _ _ _ => rfl) (fun t => rfl) t d).trans rfl
theorem before_9 (c : Dev nD) (t : Fin (cfgT m h).N) (d) : (dats m h 0 c).before 9 t d = iblk m h c 9 t :=
  ((dats m h 0 c).before_in_eq_fetched 9 rfl (fun _ => rfl) (fun _ _ _ => rfl) (fun t => rfl) t d).trans rfl
theorem before_10 (c : Dev nD) (t : Fin (cfgT m h).N) (d) : (dats m h 0 c).before 10 t d = iblk m h c 10 t :=
  ((dats m h 0 c).before_in_eq_fetched 10 rfl (fun _ => rfl) (fun _ _ _ => rfl) (fun t => rfl) t d).trans rfl
theorem before_11 (c : Dev nD) (t : Fin (cfgT m h).N) (d) : (dats m h 0 c).before 11 t d = iblk m h c 11 t :=
  ((dats m h 0 c).before_in_eq_fetched 11 rfl (fun _ => rfl) (fun _ _ _ => rfl) (fun t => rfl) t d).trans rfl
theorem before_12 (c : Dev nD) (t : Fin (cfgT m h).N) (d) : (dats m h 0 c).before 12 t d = iblk m h c 12 t :=
  ((dats m h 0 c).before_in_eq_fetched 12 rfl (fun _ => rfl) (fun _ _ _ => rfl) (fun t => rfl) t d).trans rfl
theorem before_13 (c : Dev nD) (t : Fin (cfgT m h).N) (d) : (dats m h 0 c).before 13 t d = iblk m h c 13 t :=
  ((dats m h 0 c).before_in_eq_fetched 13 rfl (fun _ => rfl) (fun _ _ _ => rfl) (fun t => rfl) t d).trans rfl
theorem before_14 (c : Dev nD) (t : Fin (cfgT m h).N) (d) : (dats m h 0 c).before 14 t d = iblk m h c 14 t :=
  ((dats m h 0 c).before_in_eq_fetched 14 rfl (fun _ => rfl) (fun _ _ _ => rfl) (fun t => rfl) t d).trans rfl
theorem before_15 (c : Dev nD) (t : Fin (cfgT m h).N) (d) : (dats m h 0 c).before 15 t d = iblk m h c 15 t :=
  ((dats m h 0 c).before_in_eq_fetched 15 rfl (fun _ => rfl) (fun _ _ _ => rfl) (fun t => rfl) t d).trans rfl

theorem index_16 (t t' : Fin (cfgT m h).N) : ((cfgT m h).win 16).index t = ((cfgT m h).win 16).index t' := rfl
theorem flush_16 (t : Fin (cfgT m h).N) : ((cfgT m h).win 16).flush t = true ↔ t.val = 175 := by
  unfold Pipeline.Window.flush
  rw [Bool.and_eq_true]
  constructor
  · rintro ⟨-, hf⟩
    have hf := of_decide_eq_true ((Bool.or_eq_true _ _).mp hf |>.resolve_right fun h' => by
      obtain ⟨h1, h2⟩ := of_decide_eq_true h'; exact h2 (index_16 m h _ _))
    have : t.val + 1 = 176 := hf
    omega
  · intro ht
    refine ⟨rfl, (Bool.or_eq_true _ _).mpr (.inl (decide_eq_true ?_))⟩
    show t.val + 1 = 176
    omega

/-- The result's buffer after the body, as the obligation asks for it. -/
theorem out_left (c : Dev nD) (t : Fin (cfgT m h).N) (A : Vec F S3x84x128 .f32) (hA : t.val ≠ 0 → A = accAt m h c t.val) (d : Vec F S3x64x64 .f32) :
    outAfter (grid0.coords t) (patches m h c t) A d = if t.val = 175 then result m h c else d := by
  unfold outAfter
  by_cases h5 : t.val = 175
  · rw [if_pos ((atLast_iff t).mpr h5), if_pos h5, acc_next m h c t A hA, h5]; rfl
  · rw [if_neg (fun hh => h5 ((atLast_iff t).mp hh)), if_neg h5]

/-- A buffer written at one point and untouched at the others, as the obligation asks for it. -/
theorem leave {α ι : Type} (own : α → sProp 𝕄) (b fl : Bool) (p : Prop) [Decidable p] (R : α) (B : ι → α) (d : ι)
    (hb : b = !decide p) (hf : ¬ p → fl = false) :
    own (if p then R else B d) ⊢ (match (generalizing := false) b with
      | true => match (generalizing := false) fl with
        | false => iprop(∃ d, own (B d))
        | true => own R
      | false => own R : sProp 𝕄) := by
  subst hb
  by_cases h5 : p
  · rw [if_pos h5, decide_eq_true h5]; exact Entails.rfl
  · rw [if_neg h5, decide_eq_false h5, hf h5]
    show own (B d) ⊢ iprop(∃ d, own (B d))
    iintro H
    iexists d
    iexact H

theorem idle_16 (t : Fin (cfgT m h).N) : (cfgT m h).idle 16 ((cfgT m h).grid.coords t) = !decide (t.val = 175) := by
  show (!(k0_cond18 (grid0.coords t) == 1#1)) = _
  by_cases h5 : t.val = 175
  · rw [(atLast_iff t).mpr h5, decide_eq_true h5]; rfl
  · rw [beq_eq_false_iff_ne.mpr fun hh => h5 ((atLast_iff t).mp hh), decide_eq_false h5]

set_option maxHeartbeats 4000000 in
theorem body_obligation (c : Dev nD) :
    BodyObligationLoose (dats m h 0 c) (defs₀ (F := F)) Variants.none () Set.univ := fun t => by
  rw [bigSep_W0, bigSep_W0]
  simp only
  rw [show (dats m h 0 c).owesAt () t.succ = (dats m h 0 c).owesAt () t.castSucc from rfl,
    show (dats m h 0 c).Φ t.succ = kept m h c (t.val + 1) from rfl, show (dats m h 0 c).Φ t.castSucc = kept m h c t.val from rfl]
  unfold kept
  iintro ⟨⟨⟨%A, %hA, HA⟩, Hr, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  rw [before_0 m h c t d0, before_1 m h c t d1, before_2 m h c t d2, before_3 m h c t d3, before_4 m h c t d4, before_5 m h c t d5, before_6 m h c t d6, before_7 m h c t d7, before_8 m h c t d8, before_9 m h c t d9, before_10 m h c t d10, before_11 m h c t d11, before_12 m h c t d12, before_13 m h c t d13, before_14 m h c t d14, before_15 m h c t d15]
  unfold defs₀
  rw [Defs.onTc_tc]
  iapply (run (F := F) c (grid0.coords t) _ _ _ _ _ _ _ _ _ _ _ _ _ _ _ _ _ _ _ _ _ _ _ _ _ _ _ _ _ _ _ _ _ _ _ _ _ _ (patches m h c t) ((dats m h 0 c).before 16 t d16) A Set.univ _)
  isplitl [H0 H1 H2 H3 H4 H5 H6 H7 H8 H9 H10 H11 H12 H13 H14 H15 H16 HA]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact HA
  erw [out_left m h c t A hA, acc_next m h c t A hA]
  iintro ⟨H0, H1, H2, H3, H4, H5, H6, H7, H8, H9, H10, H11, H12, H13, H14, H15, H16, HA⟩
  isplitl [HA Hr HT]
  · isplitl [HA]
    · iexists (accAt m h c (t.val + 1)); isplitr; · ipureintro; exact fun _ => rfl
      iexact HA
    isplitl [Hr]; · iexact Hr
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  istop
  exact leave (fun X => owns (c : Thread nD τ) (((cfgT m h).win 16).stage ((cfgT m h).slots t 16)) fullShare X) _ _ (t.val = 175) _
    (fun d => (dats m h 0 c).before 16 t d) d16 (idle_16 m h t) (fun hh => by
      rw [← Bool.not_eq_true]; exact fun hf => hh ((flush_16 m h t).mp hf))

/-! ## The launch -/

-- the launch theorem's implicit arguments are found by unfolding plain definitions in a metavariable's type
set_option backward.isDefEq.respectTransparency.types false in
/-- Every execution ends, the arrays at the library's final contents and every counter at zero. -/
theorem run_main :
    θ_run defs (onTc (τ := τ) (main (F := F))) (s₀ m ρ)
      (fun r => Pipeline.FramePost (Pipeline.pin (pcfgs (F := F)) (adm m h)) (dats m h) 0 (V m) r ∧ r.2.sem = fun _ => 0) :=
  Pipeline.θ_run_frameP_track_shared (Q' := _) (pcfgs (F := F)) (adm m h) (dats m h) (0 : Fin 1) launch₀0 defs₀ Variants.none m ρ main
    (hbody := fun c => body_obligation m h c) (hq := fun _ _ _ => rfl)
    (howed := fun _ _ => rfl) (V := V m) (hmain := hmain m) (hA := A_eq m h)
    (hpf := fun c k => by rw [Subsingleton.elim c 0]; rfl)
    (hin := fun c => by
      show _ ⊢ kept m h c 0
      unfold kept Pipeline.ΦA
      rw [scopedRest0_eq]
      iintro ⟨⟨⟨%f, Hf⟩, Hr⟩, HT⟩
      isplitl [Hf]
      · iexists f; isplitr; · ipureintro; exact fun h0 => absurd rfl h0
        rw [owns_whole]; iexact Hf
      isplitl [Hr]; · iexact Hr
      iexact HT)
    (hout := fun c => by
      show kept m h c _ ⊢ _
      unfold kept Pipeline.ΦA
      rw [scopedRest0_eq]
      simp only [owns_whole]
      iintro ⟨⟨%A, %hA, HA⟩, Hr, -⟩
      isplitl [HA]; · iexists A; iexact HA
      iexact Hr)

/-! ## The result -/

/-- The last point. -/
abbrev lastPt : Fin (cfgT m h).N := ⟨175, by show 175 < grid0.N; decide⟩

theorem flush_last {t : Fin (cfgT m h).N} (hf : ((cfgT m h).win 16).flush t = true) : t = lastPt m h :=
  Fin.ext ((flush_16 m h t).mp hf)

/-- The result's block is the whole array, so the array ends at what its one block out, that of the last point, holds. -/
theorem arr_of_after (c : Dev nD) (D : Dat τ (Elt F) Unit ℕ (UR sig nD τ) ℕ (cfgT m h) c) (X : Vec F S3x64x64 .f32) (hX : D.after 16 (lastPt m h) = X) :
    D.arrAt 16 (cfgT m h).N = X := by
  have e : ∀ y : S3x64x64.Idx, (((cfgT m h).win 16).blk (lastPt m h)).view.emb y = y := fun y => funext fun a => Fin.ext (by
    fin_cases a
    · show 0 * 3 + 1 * (y 0).val = (y 0).val
      omega
    · show 0 * 64 + 1 * (y 1).val = (y 1).val
      omega
    · show 0 * 64 + 1 * (y 2).val = (y 2).val
      omega)
  funext i
  have hd := D.arrAt_emb_eq_flushed 16 (fun t t' ht ht' hne => absurd ((flush_last m h ht).trans (flush_last m h ht').symm) hne) (lastPt m h) ((flush_16 m h _).mpr rfl) i
  rw [e i] at hd
  rw [hd]
  show D.after 16 (lastPt m h) _ = X i
  rw [hX]
  rfl

/-- Every execution ends with the result array at `result`, the arguments as launched and every counter at zero. -/
theorem run_result :
    θ_run defs (onTc (τ := τ) (main (F := F))) ⟨m, fun _ => 0, ρ⟩ fun r =>
      (∀ c : Dev nD, r.2.mem ((c.tc : Thread nD τ).loc main_v1) = result m h c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r hr => ⟨fun c => ⟨((hr.1 c).1 16).trans (arr_of_after m h c (dats m h 0 c) _ rfl),
      ((hr.1 c).2 main_arg0 (by decide : main_arg0 ∈ Pipeline.restRefs sig spec0)).trans (V_main_arg0 m c),
      ((hr.1 c).2 main_arg1 (by decide : main_arg1 ∈ Pipeline.restRefs sig spec0)).trans (V_main_arg1 m c)⟩, hr.2⟩)
    (run_main m ρ h)

/-! ## A patch's entries -/

/-- The table's index of an entry. -/
def entry (n : Fin 2816) : S2816.Idx
  | ⟨0, _⟩ => n
  | ⟨_ + 1, hw⟩ => absurd hw (Nat.not_lt.2 (Nat.le_add_left _ _))

/-- The row of the dictionary the table's `n`-th entry names. -/
def rowAt (n : Fin 2816) : Fin 10000 :=
  ⟨(tab m 0 (entry n) : BitVec 32).toNat, by rw [tab_zero]; exact h 0 _⟩

/-- The number of a point's patch. -/
def numOf (t : Fin grid0.N) (j : Fin 16) : Fin 2816 := ⟨16 * t.val + j.val, by have h1 : t.val < 176 := t.isLt; omega⟩

theorem numW_toNat : ∀ (t : Fin grid0.N) (j : Fin 16), (numW (grid0.coords t) (BitVec.ofNat 32 j.val)).toNat = 16 * t.val + j.val := by decide +kernel

/-- The table's entry a point's index map reads, -/
theorem read_at (t : Fin grid0.N) (j : Fin 16) (hb) :
    (tab m).at 0 (Rect.unit (s := S2816) ![(numW (grid0.coords t) (BitVec.ofNat 32 j.val)).toNat] S1.size hb) numel1_S1 = tab m 0 (entry (numOf t j)) := by
  refine congrArg (tab m 0) (funext fun a => Fin.ext ?_)
  fin_cases a
  show (numW (grid0.coords t) (BitVec.ofNat 32 j.val)).toNat + 1 * 0 = 16 * t.val + j.val
  rw [numW_toNat]; omega

/-- The place of a patch's entry in the dictionary. -/
def place (r : Fin 10000) (y : S1x3x32x32.Idx) : S10000x3x32x32.Idx
  | ⟨0, _⟩ => r
  | ⟨1, _⟩ => y 1
  | ⟨2, _⟩ => y 2
  | ⟨3, _⟩ => y 3
  | ⟨_ + 4, hw⟩ => absurd hw (Nat.not_lt.2 (Nat.le_add_left _ _))

/-- and so the place of a block's entry. -/
theorem place_val (t : Fin grid0.N) (j : Fin 16) (hb) (y : S1x3x32x32.Idx) (a : Fin 4) :
    (![((tab m).at 0 (Rect.unit (s := S2816) ![(numW (grid0.coords t) (BitVec.ofNat 32 j.val)).toNat] S1.size hb) numel1_S1 : BitVec 32).toNat,
        (0#32).toNat, (0#32).toNat, (0#32).toNat] : Fin 4 → ℕ) a * S1x3x32x32.size a + 1 * (y a).val = (place (rowAt m h (numOf t j)) y a).val := by
  rw [read_at]
  have h0 : (y 0).val = 0 := by have := (y 0).isLt; exact Nat.lt_one_iff.mp this
  fin_cases a
  · show (tab m 0 (entry (numOf t j)) : BitVec 32).toNat * 1 + 1 * (y 0).val = (tab m 0 (entry (numOf t j)) : BitVec 32).toNat
    rw [h0]; omega
  · show 0 * 3 + 1 * (y 1).val = (y 1).val
    omega
  · show 0 * 32 + 1 * (y 2).val = (y 2).val
    omega
  · show 0 * 32 + 1 * (y 3).val = (y 3).val
    omega

/-- A point's patch is the dictionary's row its entry of the table names. -/
theorem patches_eq (c : Dev nD) (t : Fin (cfgT m h).N) (j : Fin 16) (y : S1x3x32x32.Idx) :
    patches m h c t j y = (V m c main_v0 : Vec F S10000x3x32x32 .f32) (place (rowAt m h (numOf t j)) y) :=
  match j with
  | 0 => congrArg (V m c main_v0 : Vec F S10000x3x32x32 .f32) (funext fun a => Fin.ext (place_val m h t 0 (k0_off1_inb _ 0) y a))
  | 1 => congrArg (V m c main_v0 : Vec F S10000x3x32x32 .f32) (funext fun a => Fin.ext (place_val m h t 1 (k0_off1_inb _ 1) y a))
  | 2 => congrArg (V m c main_v0 : Vec F S10000x3x32x32 .f32) (funext fun a => Fin.ext (place_val m h t 2 (k0_off1_inb _ 2) y a))
  | 3 => congrArg (V m c main_v0 : Vec F S10000x3x32x32 .f32) (funext fun a => Fin.ext (place_val m h t 3 (k0_off1_inb _ 3) y a))
  | 4 => congrArg (V m c main_v0 : Vec F S10000x3x32x32 .f32) (funext fun a => Fin.ext (place_val m h t 4 (k0_off1_inb _ 4) y a))
  | 5 => congrArg (V m c main_v0 : Vec F S10000x3x32x32 .f32) (funext fun a => Fin.ext (place_val m h t 5 (k0_off1_inb _ 5) y a))
  | 6 => congrArg (V m c main_v0 : Vec F S10000x3x32x32 .f32) (funext fun a => Fin.ext (place_val m h t 6 (k0_off1_inb _ 6) y a))
  | 7 => congrArg (V m c main_v0 : Vec F S10000x3x32x32 .f32) (funext fun a => Fin.ext (place_val m h t 7 (k0_off1_inb _ 7) y a))
  | 8 => congrArg (V m c main_v0 : Vec F S10000x3x32x32 .f32) (funext fun a => Fin.ext (place_val m h t 8 (k0_off1_inb _ 8) y a))
  | 9 => congrArg (V m c main_v0 : Vec F S10000x3x32x32 .f32) (funext fun a => Fin.ext (place_val m h t 9 (k0_off1_inb _ 9) y a))
  | 10 => congrArg (V m c main_v0 : Vec F S10000x3x32x32 .f32) (funext fun a => Fin.ext (place_val m h t 10 (k0_off1_inb _ 10) y a))
  | 11 => congrArg (V m c main_v0 : Vec F S10000x3x32x32 .f32) (funext fun a => Fin.ext (place_val m h t 11 (k0_off1_inb _ 11) y a))
  | 12 => congrArg (V m c main_v0 : Vec F S10000x3x32x32 .f32) (funext fun a => Fin.ext (place_val m h t 12 (k0_off1_inb _ 12) y a))
  | 13 => congrArg (V m c main_v0 : Vec F S10000x3x32x32 .f32) (funext fun a => Fin.ext (place_val m h t 13 (k0_off1_inb _ 13) y a))
  | 14 => congrArg (V m c main_v0 : Vec F S10000x3x32x32 .f32) (funext fun a => Fin.ext (place_val m h t 14 (k0_off1_inb _ 14) y a))
  | 15 => congrArg (V m c main_v0 : Vec F S10000x3x32x32 .f32) (funext fun a => Fin.ext (place_val m h t 15 (k0_off1_inb _ 15) y a))
  | ⟨_ + 16, hw⟩ => absurd hw (Nat.not_lt.2 (Nat.le_add_left _ _))

end Cert.FoldIdeal.Hand
end
-- ==== Proof.FoldSum.lean ====
/-
  The accumulator of the kernel `FoldIdeal` prints, at exact values: after every point it holds, entry by entry, the sum of the patches
  that cover the entry.
-/
module

public import proofs.«01_k».proof.Proof.FoldBodyI
public import Idealize.ShloMosaic.Lib.ValueIdx
public import Idealize.ShloMosaic.Lib.KernelVsHost

@[expose] public section

noncomputable section

namespace Cert.FoldIdeal.Hand

open Cert.FoldIdeal Cert.FoldIdeal.Gen
open Idealize.ShloMosaic Idealize.ShloMosaic.TcCoe Idealize.ShloMosaic.ValueIdx

/-! ## The words of a patch's number -/

/-- Whether a number names a patch, as the kernel computes it, -/
def condW (q : BitVec 32) : BitVec 1 := Scalar.cmpi .ne (Scalar.extui (Scalar.cmpi .slt q 2809#32) : BitVec 32) 0#32

/-- and where its band starts. -/
def offW (q : BitVec 32) : Fin 3 → ℕ := ![(0#32).toNat, (Scalar.indexCast (rowW q)).toNat, (0#32).toNat]

theorem condW_eq : ∀ (t : Fin 176) (s : Fin 16), condW (BitVec.ofNat 32 (16 * t.val + s.val)) = 1#1 ↔ 16 * t.val + s.val < 2809 := by decide +kernel
theorem offW_eq : ∀ (t : Fin 176) (s : Fin 16), offW (BitVec.ofNat 32 (16 * t.val + s.val)) = ![0, (16 * t.val + s.val) / 53, 0] := by decide +kernel
theorem colW_eq : ∀ (t : Fin 176) (s : Fin 16), colW (BitVec.ofNat 32 (16 * t.val + s.val)) = BitVec.ofNat 32 ((16 * t.val + s.val) % 53) := by decide +kernel

theorem numW_eq (t : Fin grid0.N) (s : Fin 16) : numW (grid0.coords t) (BitVec.ofNat 32 s.val) = BitVec.ofNat 32 (16 * t.val + s.val) := by
  have h1 : t.val < 176 := t.isLt
  refine BitVec.eq_of_toNat_eq ((numW_toNat t s).trans ?_)
  rw [BitVec.toNat_ofNat, Nat.mod_eq_of_lt (by omega)]

/-! ## One patch added -/

/-- A patch's entry, zero outside the patch. -/
def patchAt (X : Vec Ideal S1x3x32x32 .f32) (c : Fin 3) (a b : ℕ) : EReal :=
  if h : a < 32 ∧ b < 32 then X (ix4 (0 : Fin 1) c ⟨a, h.1⟩ ⟨b, h.2⟩) else 0

/-- The patch laid on 128 lanes. -/
theorem laid_at (X : Vec Ideal S1x3x32x32 .f32) (c : Fin 3) (a : Fin 32) (l : Fin 128) :
    concatenate S3x32x128 2
        [⟨S3x32x32, shapeCast S3x32x32 X shapeCasts_S1x3x32x32_S3x32x32⟩,
         ⟨S3x32x96, broadcast S3x32x96 (Scalar.sitofp (F := Ideal) .f32 0#32)⟩]
        concatenates_S3x32x32_S3x32x96_S3x32x128_d2 (ix3 c a l) = patchAt X c a.val l.val := by
  unfold patchAt
  by_cases hl : l.val < 32
  · rw [dif_pos ⟨a.isLt, hl⟩]
    refine (concatenate_pair_apply_left (s₁ := S3x32x32) (s₂ := S3x32x96) (2 : Fin S3x32x128.rank) _ _ _ (ix3 c a l) rfl (ix3 c a ⟨l.val, hl⟩) fun b => ?_).trans ?_
    · fin_cases b <;> rfl
    · refine shapeCast_apply (s := S1x3x32x32) (t := S3x32x32) X _ _ _ ?_
      refine (Shape.rowMajor_val_four _).trans (Eq.trans ?_ (Shape.rowMajor_val_three _).symm)
      show ((0 * 3 + c.val) * 32 + a.val) * 32 + l.val = (c.val * 32 + a.val) * 32 + l.val
      omega
  · rw [dif_neg fun h => hl h.2]
    refine (concatenate_pair_apply_right (s₁ := S3x32x32) (s₂ := S3x32x96) (2 : Fin S3x32x128.rank) _ _ _ (ix3 c a l) rfl rfl
      (ix3 c a ⟨l.val - 32, by have := l.isLt; omega⟩) (fun b hb => ?_) ?_).trans ?_
    · fin_cases b
      · rfl
      · rfl
      · exact absurd rfl hb
    · show l.val - 32 + 32 = l.val
      omega
    · show (((((0#32 : BitVec 32).toInt : ℤ) : ℝ) : EReal)) = 0
      simp

theorem addTurned_at (j : ℕ) (hj : j < 53) (X : Vec Ideal S1x3x32x32 .f32) (B : Vec Ideal S3x32x128 .f32) (c : Fin 3) (a : Fin 32) (l : Fin 128) :
    addTurned (F := Ideal) (BitVec.ofNat 32 j) X B (ix3 c a l)
      = (B (ix3 c a l) + (if j ≤ l.val then patchAt X c a.val (l.val - j) else 0) : EReal) := by
  unfold addTurned
  rw [shapeCast_apply (s := S3x32x128) (t := S3x32x128) _ _ (ix3 c a l) (ix3 c a l) rfl]
  refine congrArg (fun z : EReal => (B (ix3 c a l) + z : EReal)) ?_
  have hl := l.isLt
  have e : ∀ (x : S3x32x128.Idx → EReal) (hr), dynamicRotate (2 : Fin S3x32x128.rank) (BitVec.ofNat 32 j) none x hr (ix3 c a l)
      = x (ix3 c a ⟨(l.val + 128 - j) % 128, Nat.mod_lt _ (by decide)⟩) := fun x hr => by
    refine congrArg x (funext fun b => Fin.ext ?_)
    fin_cases b
    · rfl
    · rfl
    · show (l.val + 128 - ((BitVec.ofNat 32 j).toNat + 0) % 128) % 128 = (l.val + 128 - j) % 128
      rw [BitVec.toNat_ofNat]
      omega
  refine (e _ _).trans ((laid_at X c a _).trans ?_)
  by_cases h : j ≤ l.val
  · rw [if_pos h]
    refine congrArg (patchAt X c a.val) ?_
    show (l.val + 128 - j) % 128 = l.val - j
    omega
  · rw [if_neg h]
    unfold patchAt
    refine dif_neg fun hh => ?_
    have h2 : (l.val + 128 - j) % 128 < 32 := hh.2
    omega

/-- What a patch with number `q` adds to an entry of the image. -/
def hit (Y : ℕ → Fin 3 → ℕ → ℕ → EReal) (c : Fin 3) (r l q : ℕ) : EReal :=
  if q < 2809 ∧ q / 53 ≤ r ∧ q % 53 ≤ l then Y q c (r - q / 53) (l - q % 53) else 0

/-- The band of a patch, put back with the patch added, at an entry of the image. -/
theorem put_at (q : ℕ) (hq : q < 2809) (X : Vec Ideal S1x3x32x32 .f32) (A : Vec Ideal S3x84x128 .f32) (c : Fin 3) (r : Fin 84) (l : Fin 128)
    (hinb : ∀ a, (![0, q / 53, 0] : Fin 3 → ℕ) a + S3x32x128.size a ≤ S3x84x128.size a) :
    VecWindow.put A ![0, q / 53, 0] S3x32x128.size
        (addTurned (F := Ideal) (BitVec.ofNat 32 (q % 53)) X (VecWindow.window A ![0, q / 53, 0] S3x32x128.size hinb)) (ix3 c r l)
      = (A (ix3 c r l) + (if q < 2809 ∧ q / 53 ≤ r.val ∧ q % 53 ≤ l.val then patchAt X c (r.val - q / 53) (l.val - q % 53) else 0) : EReal) := by
  unfold VecWindow.put
  by_cases hr : q / 53 ≤ r.val ∧ r.val < q / 53 + 32
  · rw [dif_pos (fun a => by
      fin_cases a
      · exact ⟨Nat.zero_le _, by show c.val < 0 + 3; omega⟩
      · exact hr
      · exact ⟨Nat.zero_le _, by show l.val < 0 + 128; omega⟩)]
    have el : ∀ hh, (Rect.unitLocal (s := S3x84x128) (off := ![0, q / 53, 0]) (size := S3x32x128.size) (ix3 c r l) hh : S3x32x128.Idx)
        = ix3 c (⟨r.val - q / 53, by have := hr.2; omega⟩ : Fin 32) l := fun hh => funext fun a => Fin.ext (by fin_cases a <;> rfl)
    rw [el, addTurned_at (q % 53) (Nat.mod_lt _ (by decide))]
    have ew : VecWindow.window A ![0, q / 53, 0] S3x32x128.size hinb (ix3 c (⟨r.val - q / 53, by omega⟩ : Fin 32) l) = A (ix3 c r l) :=
      congrArg A (funext fun a => Fin.ext (by
        fin_cases a
        · show 0 + 1 * c.val = c.val
          omega
        · show q / 53 + 1 * (r.val - q / 53) = r.val
          omega
        · show 0 + 1 * l.val = l.val
          omega))
    rw [ew]
    refine congrArg (fun z : EReal => (A (ix3 c r l) + z : EReal)) ?_
    by_cases hl : q % 53 ≤ l.val
    · rw [if_pos hl, if_pos ⟨hq, hr.1, hl⟩]
    · rw [if_neg hl, if_neg fun h => hl h.2.2]
  · rw [dif_neg fun hall => hr (hall 1)]
    have : (if q < 2809 ∧ q / 53 ≤ r.val ∧ q % 53 ≤ l.val then patchAt X c (r.val - q / 53) (l.val - q % 53) else 0) = 0 := by
      split
      · next h =>
        unfold patchAt
        exact dif_neg fun hh => hr ⟨h.2.1, by have := hh.1; omega⟩
      · rfl
    rw [this]
    exact (add_zero _).symm

theorem band_at (t : Fin 176) (s : Fin 16) (w : BitVec 32) (hw : w = BitVec.ofNat 32 (16 * t.val + s.val)) (inb)
    (X : Vec Ideal S1x3x32x32 .f32) (A : Vec Ideal S3x84x128 .f32) (c : Fin 3) (r : Fin 84) (l : Fin 128) :
    bandStep (F := Ideal) (condW w) (offW w) inb (addTurned (colW w)) X A (ix3 c r l)
      = (A (ix3 c r l) + hit (fun _ => patchAt X) c r.val l.val (16 * t.val + s.val) : EReal) := by
  have hc := condW_eq t s
  have ho := offW_eq t s
  have hk := colW_eq t s
  rw [← hw] at hc ho hk
  generalize 16 * t.val + s.val = q at hc ho hk
  unfold bandStep hit
  by_cases hq : q < 2809
  · rw [dif_pos (hc.2 hq), hk]
    have key : ∀ (off : Fin 3 → ℕ) (hinb : ∀ a, off a + S3x32x128.size a ≤ S3x84x128.size a), off = ![0, q / 53, 0] →
        VecWindow.put A off S3x32x128.size (addTurned (F := Ideal) (BitVec.ofNat 32 (q % 53)) X (VecWindow.window A off S3x32x128.size hinb)) (ix3 c r l)
          = (A (ix3 c r l) + (if q < 2809 ∧ q / 53 ≤ r.val ∧ q % 53 ≤ l.val then patchAt X c (r.val - q / 53) (l.val - q % 53) else 0) : EReal) := by
      intro off hinb ho'
      subst ho'
      exact put_at q hq X A c r l hinb
    exact key _ _ ho
  · rw [dif_neg fun h => hq (hc.1 h), if_neg fun h => hq h.1]
    exact (add_zero _).symm

/-- One of a point's sixteen additions by the words of the patch's number. -/
theorem addNth_eq (i : grid0.Coords) (s : Fin 16) (X : Vec Ideal S1x3x32x32 .f32) (A : Vec Ideal S3x84x128 .f32) :
    ∃ inb, addNth (F := Ideal) i s X A
      = bandStep (condW (numW i (BitVec.ofNat 32 s.val))) (offW (numW i (BitVec.ofNat 32 s.val))) inb (addTurned (colW (numW i (BitVec.ofNat 32 s.val)))) X A :=
  match s with
  | 0 => ⟨k0_off2_inb i, rfl⟩
  | 1 => ⟨k0_off3_inb i, rfl⟩
  | 2 => ⟨k0_off4_inb i, rfl⟩
  | 3 => ⟨k0_off5_inb i, rfl⟩
  | 4 => ⟨k0_off6_inb i, rfl⟩
  | 5 => ⟨k0_off7_inb i, rfl⟩
  | 6 => ⟨k0_off8_inb i, rfl⟩
  | 7 => ⟨k0_off9_inb i, rfl⟩
  | 8 => ⟨k0_off10_inb i, rfl⟩
  | 9 => ⟨k0_off11_inb i, rfl⟩
  | 10 => ⟨k0_off12_inb i, rfl⟩
  | 11 => ⟨k0_off13_inb i, rfl⟩
  | 12 => ⟨k0_off14_inb i, rfl⟩
  | 13 => ⟨k0_off15_inb i, rfl⟩
  | 14 => ⟨k0_off16_inb i, rfl⟩
  | 15 => ⟨k0_off17_inb i, rfl⟩
  | ⟨_ + 16, hw⟩ => absurd hw (Nat.not_lt.2 (Nat.le_add_left _ _))

theorem addNth_at (t : Fin grid0.N) (s : Fin 16) (X : Vec Ideal S1x3x32x32 .f32) (A : Vec Ideal S3x84x128 .f32) (c : Fin 3) (r : Fin 84) (l : Fin 128) :
    addNth (F := Ideal) (grid0.coords t) s X A (ix3 c r l) = (A (ix3 c r l) + hit (fun _ => patchAt X) c r.val l.val (16 * t.val + s.val) : EReal) := by
  obtain ⟨inb, e⟩ := addNth_eq (grid0.coords t) s X A
  rw [e]
  exact band_at t s _ (numW_eq t s) inb X A c r l

/-! ## All of them -/

theorem hit_congr (Y Y' : ℕ → Fin 3 → ℕ → ℕ → EReal) (c : Fin 3) (r l q : ℕ) (h : Y q = Y' q) : hit Y c r l q = hit Y' c r l q := by
  unfold hit
  rw [h]

theorem addFirst_at (Y : ℕ → Fin 3 → ℕ → ℕ → EReal) (t : Fin grid0.N) (X : Fin 16 → Vec Ideal S1x3x32x32 .f32)
    (hY : ∀ s : Fin 16, Y (16 * t.val + s.val) = patchAt (X s)) (A : Vec Ideal S3x84x128 .f32) (c : Fin 3) (r : Fin 84) (l : Fin 128) (n : ℕ) (hn : n ≤ 16) :
    addFirst (F := Ideal) (grid0.coords t) X A n (ix3 c r l)
      = (A (ix3 c r l) + ∑ s ∈ Finset.range n, hit Y c r.val l.val (16 * t.val + s) : EReal) := by
  induction n with
  | zero => simp [addFirst]
  | succ n ih =>
    unfold addFirst
    have hn' : n < 16 := hn
    rw [dif_pos hn', addNth_at, ih (by omega), Finset.sum_range_succ, add_assoc]
    rw [hit_congr (fun _ => patchAt (X ⟨n, hn'⟩)) Y c r.val l.val (16 * t.val + n) (hY ⟨n, hn'⟩).symm]

variable (m : (ℓ : Loc nD τ sig) → Buf (Elt Ideal) ℓ) (h : RowsNamed m)

/-- The entry of patch `q` on device `c`: the dictionary's row the table names, cut in channels, rows and columns. -/
def entryOf (d : Dev nD) (q : ℕ) (c : Fin 3) (a b : ℕ) : EReal :=
  if hq : q < 2816 then
    (if hab : a < 32 ∧ b < 32 then
      (m ((d.tc : Thread nD τ).loc main_arg1) : Vec Ideal S10000x3072 .f32)
        (ix2 (rowAt m h ⟨q, hq⟩) ⟨c.val * 1024 + a * 32 + b, by have := c.isLt; omega⟩)
    else 0)
  else 0

theorem patch_entry (d : Dev nD) (t : Fin (cfgT m h).N) (s : Fin 16) : entryOf m h d (16 * t.val + s.val) = patchAt (patches m h d t s) := by
  funext c a b
  have h1 : t.val < 176 := t.isLt
  have h2 := s.isLt
  unfold entryOf patchAt
  rw [dif_pos (show 16 * t.val + s.val < 2816 by omega)]
  by_cases hab : a < 32 ∧ b < 32
  · rw [dif_pos hab, dif_pos hab, patches_eq, V_main_v0]
    refine (shapeCast_apply (s := S10000x3072) (t := S10000x3x32x32) _ _ _ _ ?_).symm
    refine (Shape.rowMajor_val_two _).trans (Eq.trans ?_ (Shape.rowMajor_val_four _).symm)
    show (rowAt m h (numOf t s)).val * 3072 + (c.val * 1024 + a * 32 + b) = (((rowAt m h (numOf t s)).val * 3 + c.val) * 32 + a) * 32 + b
    omega
  · rw [dif_neg hab, dif_neg hab]

theorem acc_at (d : Dev nD) (c : Fin 3) (r : Fin 84) (l : Fin 128) (t : ℕ) (ht : t ≤ 176) :
    accAt m h d t (ix3 c r l) = (∑ q ∈ Finset.range (16 * t), hit (entryOf m h d) c r.val l.val q : EReal) := by
  induction t with
  | zero =>
    show (Scalar.ofBits (F := Ideal) .f32 0x00000000#32 : EReal) = ∑ q ∈ Finset.range 0, hit (entryOf m h d) c r.val l.val q
    rw [Finset.sum_range_zero]
    exact Ideal.ofBits_zero_f32
  | succ t ih =>
    have hs := accAt_succ m h d (⟨t, ht⟩ : Fin (cfgT m h).N)
    have e16 : Finset.range (16 * (t + 1)) = Finset.range (16 * t + 16) := rfl
    rw [e16, Finset.sum_range_add, ← ih (by omega)]
    refine (congrFun hs (ix3 c r l)).trans ?_
    unfold accAfter
    rw [show (if atFirst (grid0.coords (⟨t, ht⟩ : Fin grid0.N)) = 1#1 then (k0_pay2 (F := Ideal)) else accAt m h d t) = accAt m h d t by
      split
      · next h0 =>
        have : t = 0 := (atFirst_iff _).1 h0
        subst this
        rfl
      · rfl]
    exact addFirst_at (entryOf m h d) ⟨t, ht⟩ _ (patch_entry m h d ⟨t, ht⟩) _ c r l 16 le_rfl

end Cert.FoldIdeal.Hand
end
-- ==== Proof.FoldRefRun.lean ====
/-
  The run of the reference `FoldReferenceIdeal` prints: every buffer ends at the fold of the program's operations over the launch contents, so
  the result is one term of the row numbers and the dictionary (`out`) and the two arguments stay as they were.
-/
module

public import proofs.«01_k».proof.Proof.Gen.FoldReferenceIdeal
public import Idealize.ShloMosaic.Lib.StableHlo.Run
public import Idealize.ShloMosaic.Lib.Quiescent

@[expose] public section

noncomputable section

namespace Cert.FoldReferenceIdeal.Hand

open Cert.FoldReferenceIdeal Cert.FoldReferenceIdeal.Gen
open Idealize.ShloMosaic Idealize.ShloMosaic.TcCoe Idealize.ShloMosaic.StableHlo Idealize.SL.Sem

variable {F : FTy → Type} [FloatOps F]

/-! ## The result as a term -/

/-- The row numbers that name a patch: the first 2809. -/
def nums (I : IVec S2816 32) : IVec S2809 32 := extractStridedSlice S2809 ![0] I slices_S2816_S2809_0

/-- The row numbers as a column, a negative one counted from the end. -/
def col (n : IVec S2809 32) : IVec S2809x1 32 :=
  broadcastInDim S2809x1 ![0] bcast_S2809_S2809x1_0
    (select (cmpi .slt n (broadcastInDim S2809 ![] bcast_S_S2809 (constantI S_ 32 0#32)))
      (addi n (broadcastInDim S2809 ![] bcast_S_S2809 (constantI S_ 32 10000#32))) n)

/-- Whether each row number names a row of the dictionary. -/
def named (n : IVec S2809 32) : IVec S2809 1 :=
  Host.reduce IntOp.andi
    (andi (cmpi .sge (col n) (broadcastInDim S2809x1 ![] bcast_S_S2809x1 (constantI S_ 32 0#32)))
      (cmpi .sle (col n)
        (broadcastInDim S2809x1 ![0, 1] bcast_S1x1_S2809x1_0_1 (broadcastInDim S1x1 ![1] bcast_S1_S1x1_1 (constantI S1 32 9999#32)))))
    (constantI S_ 1 1#1) reducesTo_S2809x1_S2809_d1 h_S_

/-- The rows named. -/
def taken (x : FVec F S10000x3072 .f32) (n : IVec S2809 32) : FVec F S2809x3072 .f32 :=
  select (broadcastInDim S2809x3072 ![0] bcast_S2809_S2809x3072_0 (named n))
    (Host.gather gather_S10000x3072_S2809x1_S2809x3072_1_0_n_n_0_1_13072 x (col n))
    (broadcastInDim S2809x3072 ![] bcast_S_S2809x3072 (constant S_ .f32 0x7FC00000#32))

/-- Offset inside a patch plus the patch's own place, along one axis. -/
def along : IVec S32x53 32 :=
  addi (broadcastInDim S32x53 ![0, 1] bcast_S32x1_S32x53_0_1 (broadcastInDim S32x1 ![0] bcast_S32_S32x1_0 (iotaInDim S32 32 0)))
    (broadcastInDim S32x53 ![0, 1] bcast_S1x53_S32x53_0_1 (broadcastInDim S1x53 ![1] bcast_S53_S1x53_1 (iotaInDim S53 32 0)))

/-- The image row of every entry of every patch, a negative one counted from the end, -/
def rowsAt : IVec S32x1x53x1 32 :=
  select
    (cmpi .slt (broadcastInDim S32x1x53x1 ![0, 2] bcast_S32x53_S32x1x53x1_0_2 along)
      (broadcastInDim S32x1x53x1 ![] bcast_S_S32x1x53x1 (constantI S_ 32 0#32)))
    (addi (broadcastInDim S32x1x53x1 ![0, 2] bcast_S32x53_S32x1x53x1_0_2 along)
      (broadcastInDim S32x1x53x1 ![] bcast_S_S32x1x53x1 (constantI S_ 32 84#32)))
    (broadcastInDim S32x1x53x1 ![0, 2] bcast_S32x53_S32x1x53x1_0_2 along)

/-- the image column likewise, -/
def colsAt : IVec S1x32x1x53 32 :=
  select
    (cmpi .slt (broadcastInDim S1x32x1x53 ![1, 3] bcast_S32x53_S1x32x1x53_1_3 along)
      (broadcastInDim S1x32x1x53 ![] bcast_S_S1x32x1x53 (constantI S_ 32 0#32)))
    (addi (broadcastInDim S1x32x1x53 ![1, 3] bcast_S32x53_S1x32x1x53_1_3 along)
      (broadcastInDim S1x32x1x53 ![] bcast_S_S1x32x1x53 (constantI S_ 32 84#32)))
    (broadcastInDim S1x32x1x53 ![1, 3] bcast_S32x53_S1x32x1x53_1_3 along)

/-- and the two side by side. -/
def places : IVec S32x32x53x53x2 32 :=
  concatenate S32x32x53x53x2 4
    [⟨S32x32x53x53x1, broadcastInDim S32x32x53x53x1 ![0, 1, 2, 3] bcast_S32x32x53x53_S32x32x53x53x1_0_1_2_3
        (broadcastInDim S32x32x53x53 ![0, 1, 2, 3] bcast_S32x1x53x1_S32x32x53x53_0_1_2_3 rowsAt)⟩,
      ⟨S32x32x53x53x1, broadcastInDim S32x32x53x53x1 ![0, 1, 2, 3] bcast_S32x32x53x53_S32x32x53x53x1_0_1_2_3
        (broadcastInDim S32x32x53x53 ![0, 1, 2, 3] bcast_S1x32x1x53_S32x32x53x53_0_1_2_3 colsAt)⟩]
    concatenates_S32x32x53x53x1_S32x32x53x53x1_S32x32x53x53x2_d4

/-- The patches by channel, offset and place. -/
def spread (T : FVec F S2809x3072 .f32) : FVec F S3x32x32x53x53 .f32 :=
  shapeCast S3x32x32x53x53 (transpose S3072x2809 [1, 0] T transposes_S2809x3072_S3072x2809_1_0) shapeCasts_S3072x2809_S3x32x32x53x53

/-- The overlapping patches added up. -/
def folded (T : FVec F S2809x3072 .f32) : FVec F S3x84x84 .f32 :=
  Host.scatterAdd scatter_S3x84x84_S32x32x53x53x2_S3x32x32x53x53_0_12_12_4
    (broadcastInDim S3x84x84 ![] bcast_S_S3x84x84 (constant S_ .f32 0x00000000#32)) places (spread T)

/-- The middle of an image, -/
def crop (A : FVec F S3x84x84 .f32) : FVec F S3x64x64 .f32 := extractStridedSlice S3x64x64 ![0, 10, 10] A slices_S3x84x84_S3x64x64_0_10_10

/-- its largest entry, -/
def peak (x : FVec F S3x64x64 .f32) : FVec F S_ .f32 :=
  Host.reduce FloatOps.maximumf (shapeCast S12288 x shapeCasts_S3x64x64_S12288) (constant S_ .f32 0xFF800000#32) reducesTo_S12288_S_d0 h_S_

/-- and the image over it. -/
def scaled (x : FVec F S3x64x64 .f32) : FVec F S3x64x64 .f32 := Host.divf x (broadcastInDim S3x64x64 ![] bcast_S_S3x64x64 (peak x))

/-- The reference's result. -/
def out (I : IVec S2816 32) (x : FVec F S10000x3072 .f32) : FVec F S3x64x64 .f32 := scaled (crop (folded (taken x (nums I))))

/-! ## The run -/

/-- The operations of the function `_take` on the dictionary `x`, the row numbers `n` and one call's buffers. -/
abbrev takeOps (x : TRef sig ⟨S10000x3072, .f32⟩) (n : TRef sig ⟨S2809, .i32⟩) (φ : fn_take.Bufs) : List (HloOp τ sig (Elt F)) :=
  [ TRef.nullary φ.c (constantI S_ 32 0#32),
    TRef.unary φ.c φ.v0 (broadcastInDim S2809 ![] bcast_S_S2809),
    TRef.binary n φ.v0 φ.v1 (cmpi .slt),
    TRef.nullary φ.c_0 (constantI S_ 32 10000#32),
    TRef.unary φ.c_0 φ.v2 (broadcastInDim S2809 ![] bcast_S_S2809),
    TRef.binary n φ.v2 φ.v3 addi,
    TRef.ternary φ.v1 φ.v3 n φ.call0.v0 select,
    TRef.unary φ.call0.v0 φ.v5 (broadcastInDim S2809x1 ![0] bcast_S2809_S2809x1_0),
    TRef.nullary φ.c_1 (constantI S1 32 9999#32),
    TRef.nullary φ.c_2 (constantI S_ 32 0#32),
    TRef.unary φ.c_2 φ.v6 (broadcastInDim S2809x1 ![] bcast_S_S2809x1),
    TRef.binary φ.v5 φ.v6 φ.v7 (cmpi .sge),
    TRef.unary φ.c_1 φ.v8 (broadcastInDim S1x1 ![1] bcast_S1_S1x1_1),
    TRef.unary φ.v8 φ.v9 (broadcastInDim S2809x1 ![0, 1] bcast_S1x1_S2809x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S2809x1_S2809_d1 h_S_),
    TRef.binary x φ.v5 φ.v13 (fun x i => Host.gather gather_S10000x3072_S2809x1_S2809x3072_1_0_n_n_0_1_13072 x i),
    TRef.unary φ.v12 φ.v14 (broadcastInDim S2809x3072 ![0] bcast_S2809_S2809x3072_0),
    TRef.nullary φ.cst (constant S_ .f32 0x7FC00000#32),
    TRef.unary φ.cst φ.v15 (broadcastInDim S2809x3072 ![] bcast_S_S2809x3072),
    TRef.ternary φ.v14 φ.v13 φ.v15 φ.v16 select ]

/-- The program's operations before the call of `_take`, -/
abbrev ops₁ : List (HloOp τ sig (Elt F)) :=
  [ nullary main_v0 (iotaInDim S32 32 0),
    unary main_v0 main_v1 (broadcastInDim S32x1 ![0] bcast_S32_S32x1_0 : (⟨S32, .i32⟩ : BufTy).Contents (Elt F) → (⟨S32x1, .i32⟩ : BufTy).Contents (Elt F)),
    nullary main_v2 (iotaInDim S53 32 0),
    unary main_v2 main_v3 (broadcastInDim S1x53 ![1] bcast_S53_S1x53_1 : (⟨S53, .i32⟩ : BufTy).Contents (Elt F) → (⟨S1x53, .i32⟩ : BufTy).Contents (Elt F)),
    unary main_v1 main_v4 (broadcastInDim S32x53 ![0, 1] bcast_S32x1_S32x53_0_1 : (⟨S32x1, .i32⟩ : BufTy).Contents (Elt F) → (⟨S32x53, .i32⟩ : BufTy).Contents (Elt F)),
    unary main_v3 main_v5 (broadcastInDim S32x53 ![0, 1] bcast_S1x53_S32x53_0_1 : (⟨S1x53, .i32⟩ : BufTy).Contents (Elt F) → (⟨S32x53, .i32⟩ : BufTy).Contents (Elt F)),
    binary main_v4 main_v5 main_v6 (addi : (⟨S32x53, .i32⟩ : BufTy).Contents (Elt F) → (⟨S32x53, .i32⟩ : BufTy).Contents (Elt F) → (⟨S32x53, .i32⟩ : BufTy).Contents (Elt F)),
    nullary main_v7 (iotaInDim S32 32 0),
    unary main_v7 main_v8 (broadcastInDim S32x1 ![0] bcast_S32_S32x1_0 : (⟨S32, .i32⟩ : BufTy).Contents (Elt F) → (⟨S32x1, .i32⟩ : BufTy).Contents (Elt F)),
    nullary main_v9 (iotaInDim S53 32 0),
    unary main_v9 main_v10 (broadcastInDim S1x53 ![1] bcast_S53_S1x53_1 : (⟨S53, .i32⟩ : BufTy).Contents (Elt F) → (⟨S1x53, .i32⟩ : BufTy).Contents (Elt F)),
    unary main_v8 main_v11 (broadcastInDim S32x53 ![0, 1] bcast_S32x1_S32x53_0_1 : (⟨S32x1, .i32⟩ : BufTy).Contents (Elt F) → (⟨S32x53, .i32⟩ : BufTy).Contents (Elt F)),
    unary main_v10 main_v12 (broadcastInDim S32x53 ![0, 1] bcast_S1x53_S32x53_0_1 : (⟨S1x53, .i32⟩ : BufTy).Contents (Elt F) → (⟨S32x53, .i32⟩ : BufTy).Contents (Elt F)),
    binary main_v11 main_v12 main_v13 (addi : (⟨S32x53, .i32⟩ : BufTy).Contents (Elt F) → (⟨S32x53, .i32⟩ : BufTy).Contents (Elt F) → (⟨S32x53, .i32⟩ : BufTy).Contents (Elt F)),
    unary main_arg0 main_v14 ((extractStridedSlice S2809 ![0] · slices_S2816_S2809_0) : (⟨S2816, .i32⟩ : BufTy).Contents (Elt F) → (⟨S2809, .i32⟩ : BufTy).Contents (Elt F)) ]

/-- those after it, -/
abbrev ops₂ : List (HloOp τ sig (Elt F)) :=
  [ unary main_v15 main_v16 ((transpose S3072x2809 [1, 0] · transposes_S2809x3072_S3072x2809_1_0) : (⟨S2809x3072, .f32⟩ : BufTy).Contents (Elt F) → (⟨S3072x2809, .f32⟩ : BufTy).Contents (Elt F)),
    reshape main_v16 main_v17 (rfl : (.f32 : EltTy) = .f32) shapeCasts_S3072x2809_S3x32x32x53x53,
    nullary main_cst (constant S_ .f32 0x00000000#32),
    unary main_cst main_v18 (broadcastInDim S3x84x84 ![] bcast_S_S3x84x84 : (⟨S_, .f32⟩ : BufTy).Contents (Elt F) → (⟨S3x84x84, .f32⟩ : BufTy).Contents (Elt F)),
    unary main_v6 main_v19 (broadcastInDim S32x1x53x1 ![0, 2] bcast_S32x53_S32x1x53x1_0_2 : (⟨S32x53, .i32⟩ : BufTy).Contents (Elt F) → (⟨S32x1x53x1, .i32⟩ : BufTy).Contents (Elt F)),
    unary main_v13 main_v20 (broadcastInDim S1x32x1x53 ![1, 3] bcast_S32x53_S1x32x1x53_1_3 : (⟨S32x53, .i32⟩ : BufTy).Contents (Elt F) → (⟨S1x32x1x53, .i32⟩ : BufTy).Contents (Elt F)),
    nullary main_c (constantI S_ 32 0#32),
    unary main_c main_v21 (broadcastInDim S32x1x53x1 ![] bcast_S_S32x1x53x1 : (⟨S_, .i32⟩ : BufTy).Contents (Elt F) → (⟨S32x1x53x1, .i32⟩ : BufTy).Contents (Elt F)),
    binary main_v19 main_v21 main_v22 (cmpi .slt : (⟨S32x1x53x1, .i32⟩ : BufTy).Contents (Elt F) → (⟨S32x1x53x1, .i32⟩ : BufTy).Contents (Elt F) → (⟨S32x1x53x1, .i1⟩ : BufTy).Contents (Elt F)),
    nullary main_c_0 (constantI S_ 32 84#32),
    unary main_c_0 main_v23 (broadcastInDim S32x1x53x1 ![] bcast_S_S32x1x53x1 : (⟨S_, .i32⟩ : BufTy).Contents (Elt F) → (⟨S32x1x53x1, .i32⟩ : BufTy).Contents (Elt F)),
    binary main_v19 main_v23 main_v24 (addi : (⟨S32x1x53x1, .i32⟩ : BufTy).Contents (Elt F) → (⟨S32x1x53x1, .i32⟩ : BufTy).Contents (Elt F) → (⟨S32x1x53x1, .i32⟩ : BufTy).Contents (Elt F)),
    ternary main_v22 main_v24 main_v19 main_v25 (select : (⟨S32x1x53x1, .i1⟩ : BufTy).Contents (Elt F) → (⟨S32x1x53x1, .i32⟩ : BufTy).Contents (Elt F) → (⟨S32x1x53x1, .i32⟩ : BufTy).Contents (Elt F) → (⟨S32x1x53x1, .i32⟩ : BufTy).Contents (Elt F)),
    nullary main_c_1 (constantI S_ 32 0#32),
    unary main_c_1 main_v26 (broadcastInDim S1x32x1x53 ![] bcast_S_S1x32x1x53 : (⟨S_, .i32⟩ : BufTy).Contents (Elt F) → (⟨S1x32x1x53, .i32⟩ : BufTy).Contents (Elt F)),
    binary main_v20 main_v26 main_v27 (cmpi .slt : (⟨S1x32x1x53, .i32⟩ : BufTy).Contents (Elt F) → (⟨S1x32x1x53, .i32⟩ : BufTy).Contents (Elt F) → (⟨S1x32x1x53, .i1⟩ : BufTy).Contents (Elt F)),
    nullary main_c_2 (constantI S_ 32 84#32),
    unary main_c_2 main_v28 (broadcastInDim S1x32x1x53 ![] bcast_S_S1x32x1x53 : (⟨S_, .i32⟩ : BufTy).Contents (Elt F) → (⟨S1x32x1x53, .i32⟩ : BufTy).Contents (Elt F)),
    binary main_v20 main_v28 main_v29 (addi : (⟨S1x32x1x53, .i32⟩ : BufTy).Contents (Elt F) → (⟨S1x32x1x53, .i32⟩ : BufTy).Contents (Elt F) → (⟨S1x32x1x53, .i32⟩ : BufTy).Contents (Elt F)),
    ternary main_v27 main_v29 main_v20 main_v30 (select : (⟨S1x32x1x53, .i1⟩ : BufTy).Contents (Elt F) → (⟨S1x32x1x53, .i32⟩ : BufTy).Contents (Elt F) → (⟨S1x32x1x53, .i32⟩ : BufTy).Contents (Elt F) → (⟨S1x32x1x53, .i32⟩ : BufTy).Contents (Elt F)),
    unary main_v25 main_v31 (broadcastInDim S32x32x53x53 ![0, 1, 2, 3] bcast_S32x1x53x1_S32x32x53x53_0_1_2_3 : (⟨S32x1x53x1, .i32⟩ : BufTy).Contents (Elt F) → (⟨S32x32x53x53, .i32⟩ : BufTy).Contents (Elt F)),
    unary main_v30 main_v32 (broadcastInDim S32x32x53x53 ![0, 1, 2, 3] bcast_S1x32x1x53_S32x32x53x53_0_1_2_3 : (⟨S1x32x1x53, .i32⟩ : BufTy).Contents (Elt F) → (⟨S32x32x53x53, .i32⟩ : BufTy).Contents (Elt F)),
    unary main_v31 main_v33 (broadcastInDim S32x32x53x53x1 ![0, 1, 2, 3] bcast_S32x32x53x53_S32x32x53x53x1_0_1_2_3 : (⟨S32x32x53x53, .i32⟩ : BufTy).Contents (Elt F) → (⟨S32x32x53x53x1, .i32⟩ : BufTy).Contents (Elt F)),
    unary main_v32 main_v34 (broadcastInDim S32x32x53x53x1 ![0, 1, 2, 3] bcast_S32x32x53x53_S32x32x53x53x1_0_1_2_3 : (⟨S32x32x53x53, .i32⟩ : BufTy).Contents (Elt F) → (⟨S32x32x53x53x1, .i32⟩ : BufTy).Contents (Elt F)),
    binary main_v33 main_v34 main_v35 ((fun a b => concatenate S32x32x53x53x2 4 [⟨S32x32x53x53x1, a⟩, ⟨S32x32x53x53x1, b⟩] concatenates_S32x32x53x53x1_S32x32x53x53x1_S32x32x53x53x2_d4) : (⟨S32x32x53x53x1, .i32⟩ : BufTy).Contents (Elt F) → (⟨S32x32x53x53x1, .i32⟩ : BufTy).Contents (Elt F) → (⟨S32x32x53x53x2, .i32⟩ : BufTy).Contents (Elt F)),
    ternary main_v18 main_v35 main_v17 main_v36 ((fun x i u => Host.scatterAdd scatter_S3x84x84_S32x32x53x53x2_S3x32x32x53x53_0_12_12_4 x i u) : (⟨S3x84x84, .f32⟩ : BufTy).Contents (Elt F) → (⟨S32x32x53x53x2, .i32⟩ : BufTy).Contents (Elt F) → (⟨S3x32x32x53x53, .f32⟩ : BufTy).Contents (Elt F) → (⟨S3x84x84, .f32⟩ : BufTy).Contents (Elt F)),
    unary main_v36 main_v37 ((extractStridedSlice S3x64x64 ![0, 10, 10] · slices_S3x84x84_S3x64x64_0_10_10) : (⟨S3x84x84, .f32⟩ : BufTy).Contents (Elt F) → (⟨S3x64x64, .f32⟩ : BufTy).Contents (Elt F)),
    reshape main_v37 main_v38 (rfl : (.f32 : EltTy) = .f32) shapeCasts_S3x64x64_S12288,
    nullary main_cst_3 (constant S_ .f32 0xFF800000#32),
    binary main_v38 main_cst_3 main_v39 ((fun x v => Host.reduce FloatOps.maximumf x v reducesTo_S12288_S_d0 h_S_) : (⟨S12288, .f32⟩ : BufTy).Contents (Elt F) → (⟨S_, .f32⟩ : BufTy).Contents (Elt F) → (⟨S_, .f32⟩ : BufTy).Contents (Elt F)),
    unary main_v39 main_v40 (broadcastInDim S3x64x64 ![] bcast_S_S3x64x64 : (⟨S_, .f32⟩ : BufTy).Contents (Elt F) → (⟨S3x64x64, .f32⟩ : BufTy).Contents (Elt F)),
    binary main_v37 main_v40 main_v41 (Host.divf : (⟨S3x64x64, .f32⟩ : BufTy).Contents (Elt F) → (⟨S3x64x64, .f32⟩ : BufTy).Contents (Elt F) → (⟨S3x64x64, .f32⟩ : BufTy).Contents (Elt F)) ]

/-- and all of them, in order. -/
abbrev ops : List (HloOp τ sig (Elt F)) := ops₁ ++ (takeOps (.of main_arg1) (.of main_v14) main_call0 ++ ops₂)

set_option maxHeartbeats 4000000 in
theorem out_eq (V : Valuation τ sig (Elt F)) :
    after ops V (main_v41 : DevRef τ sig) = out (V (main_arg0 : DevRef τ sig)) (V (main_arg1 : DevRef τ sig)) := by
  simp only [ops, ops₁, ops₂, takeOps, List.cons_append, List.nil_append]
  after_results_simp
  rfl

set_option maxHeartbeats 4000000 in
theorem arg0_eq (V : Valuation τ sig (Elt F)) : after ops V (main_arg0 : DevRef τ sig) = V (main_arg0 : DevRef τ sig) := by
  simp only [ops, ops₁, ops₂, takeOps, List.cons_append, List.nil_append, after_cons, after_nil]
  rfl

set_option maxHeartbeats 4000000 in
theorem arg1_eq (V : Valuation τ sig (Elt F)) : after ops V (main_arg1 : DevRef τ sig) = V (main_arg1 : DevRef τ sig) := by
  simp only [ops, ops₁, ops₂, takeOps, List.cons_append, List.nil_append, after_cons, after_nil]
  rfl

theorem ops_sub : (ops : List (HloOp τ sig (Elt F))).Forall fun op => op.bufs ⊆ tcRefs τ sig :=
  ⟨nullary_bufs_sub .., unary_bufs_sub .., nullary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., reshape_bufs_sub .., nullary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., ternary_bufs_sub .., unary_bufs_sub .., reshape_bufs_sub .., nullary_bufs_sub .., binary_bufs_sub .., unary_bufs_sub .., binary_bufs_sub ..⟩

theorem take_eq (x : TRef sig ⟨S10000x3072, .f32⟩) (n : TRef sig ⟨S2809, .i32⟩) (φ : fn_take.Bufs) :
    fn_take.body (F := F) x n φ = seq (takeOps x n φ) := rfl

set_option maxHeartbeats 4000000 in
set_option maxRecDepth 4096 in
theorem main_eq (c : Dev nD) : main (F := F) c = seq ops := by
  rw [seq_append, seq_append, ← take_eq]
  rfl

theorem no_scoped_refs : (Finset.univ.filter fun b : Ref sig .tc => b.isScoped) = ∅ := by decide
theorem no_scoped_sems : (Finset.univ.filter fun sm : SemLoc sig => sm.isScoped .tc) = ∅ := by decide

/-- Every execution ends with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq no_scoped_refs no_scoped_sems defs main (fun _ => ops) main_eq (fun _ => ops_sub) m ρ

/-- Every execution ends with the result at `out` of the arguments as launched, the arguments as launched and every counter at zero. -/
theorem run_out (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v41)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v41).trans (out_eq _), (h c main_arg0).trans (arg0_eq _), (h c main_arg1).trans (arg1_eq _)⟩,
      sem_eq_zero_of_no_sems (by decide) r.2⟩)
    (run_main m ρ)

end Cert.FoldReferenceIdeal.Hand
end
-- ==== Proof.FoldRefValue.lean ====
/-
  The reference `FoldReferenceIdeal` prints, at exact values: every entry of its image is the sum of the patches that cover it, and the kernel's
  division by the largest entry is the reference's.
-/
module

public import proofs.«01_k».proof.Proof.FoldSum
public import proofs.«01_k».proof.Proof.FoldRefRun
public import Idealize.ShloMosaic.Lib.Routing.OpsPair
public import Idealize.ShloMosaic.Lib.Routing.Ops

@[expose] public section

noncomputable section

namespace Cert.FoldReferenceIdeal.Hand

open Cert.FoldReferenceIdeal Cert.FoldReferenceIdeal.Gen
open Idealize.ShloMosaic Idealize.ShloMosaic.TcCoe Idealize.ShloMosaic.ValueIdx
open Cert.FoldIdeal.Hand (hit)

/-! ## Where an entry of a patch goes -/

theorem along_at (k : Fin 32) (o : Fin 53) : along (ix2 k o) = BitVec.ofNat 32 (k.val + o.val) := by
  have e1 : broadcastInDim S32x53 ![0, 1] bcast_S32x1_S32x53_0_1 (broadcastInDim S32x1 ![0] bcast_S32_S32x1_0 (iotaInDim S32 32 0)) (ix2 k o)
      = BitVec.ofNat 32 k.val := by
    refine (broadcastInDim_apply (s := S32x1) (t := S32x53) _ _ _ (ix2 k o) (ix2 k (0 : Fin 1)) fun a => ?_).trans
      ((broadcastInDim_apply (s := S32) (t := S32x1) _ _ _ (ix2 k (0 : Fin 1)) (ix1 k) fun a => ?_).trans rfl)
    · fin_cases a <;> rfl
    · fin_cases a; rfl
  have e2 : broadcastInDim S32x53 ![0, 1] bcast_S1x53_S32x53_0_1 (broadcastInDim S1x53 ![1] bcast_S53_S1x53_1 (iotaInDim S53 32 0)) (ix2 k o)
      = BitVec.ofNat 32 o.val := by
    refine (broadcastInDim_apply (s := S1x53) (t := S32x53) _ _ _ (ix2 k o) (ix2 (0 : Fin 1) o) fun a => ?_).trans
      ((broadcastInDim_apply (s := S53) (t := S1x53) _ _ _ (ix2 (0 : Fin 1) o) (ix1 o) fun a => ?_).trans rfl)
    · fin_cases a <;> rfl
    · fin_cases a; rfl
  show IntOp.addi _ _ = _
  rw [e1, e2]
  exact BitVec.ofNat_add _ _ |>.symm

theorem along_toNat (k : Fin 32) (o : Fin 53) : (along (ix2 k o)).toNat = k.val + o.val := by
  have := k.isLt
  have := o.isLt
  rw [along_at, BitVec.toNat_ofNat]
  omega

theorem along_small (k : Fin 32) (o : Fin 53) : (along (ix2 k o)).toNat < 2 ^ (32 - 1) := by
  have := k.isLt
  have := o.isLt
  rw [along_toNat]
  omega

theorem rowsAt_at (k : Fin 32) (o : Fin 53) : rowsAt (ix4 k (0 : Fin 1) o (0 : Fin 1)) = along (ix2 k o) := by
  have e : broadcastInDim S32x1x53x1 ![0, 2] bcast_S32x53_S32x1x53x1_0_2 along (ix4 k (0 : Fin 1) o (0 : Fin 1)) = along (ix2 k o) :=
    broadcastInDim_apply (s := S32x53) (t := S32x1x53x1) _ _ _ _ _ fun a => by fin_cases a <;> rfl
  unfold rowsAt
  rw [select_apply]
  show Scalar.select (IntOp.cmpi .slt (broadcastInDim S32x1x53x1 ![0, 2] bcast_S32x53_S32x1x53x1_0_2 along _) 0#32) _ _ = _
  rw [e]
  exact Routing.wrap_of_lt _ _ (along_small k o)

theorem colsAt_at (k : Fin 32) (o : Fin 53) : colsAt (ix4 (0 : Fin 1) k (0 : Fin 1) o) = along (ix2 k o) := by
  have e : broadcastInDim S1x32x1x53 ![1, 3] bcast_S32x53_S1x32x1x53_1_3 along (ix4 (0 : Fin 1) k (0 : Fin 1) o) = along (ix2 k o) :=
    broadcastInDim_apply (s := S32x53) (t := S1x32x1x53) _ _ _ _ _ fun a => by fin_cases a <;> rfl
  unfold colsAt
  rw [select_apply]
  show Scalar.select (IntOp.cmpi .slt (broadcastInDim S1x32x1x53 ![1, 3] bcast_S32x53_S1x32x1x53_1_3 along _) 0#32) _ _ = _
  rw [e]
  exact Routing.wrap_of_lt _ _ (along_small k o)

theorem places_row (k1 k2 : Fin 32) (o1 o2 : Fin 53) : places (ix5 k1 k2 o1 o2 (0 : Fin 2)) = along (ix2 k1 o1) := by
  unfold places
  refine (concatenate_pair_apply_left (s₁ := S32x32x53x53x1) (s₂ := S32x32x53x53x1) (4 : Fin S32x32x53x53x2.rank) _ _ _
    (ix5 k1 k2 o1 o2 (0 : Fin 2)) rfl (ix5 k1 k2 o1 o2 (0 : Fin 1)) fun b => by fin_cases b <;> rfl).trans ?_
  refine (broadcastInDim_apply (s := S32x32x53x53) (t := S32x32x53x53x1) _ _ _ _ (ix4 k1 k2 o1 o2) fun a => by fin_cases a <;> rfl).trans ?_
  refine (broadcastInDim_apply (s := S32x1x53x1) (t := S32x32x53x53) _ _ _ _ (ix4 k1 (0 : Fin 1) o1 (0 : Fin 1)) fun a => by fin_cases a <;> rfl).trans ?_
  exact rowsAt_at k1 o1

theorem places_col (k1 k2 : Fin 32) (o1 o2 : Fin 53) : places (ix5 k1 k2 o1 o2 (1 : Fin 2)) = along (ix2 k2 o2) := by
  unfold places
  refine (concatenate_pair_apply_right (s₁ := S32x32x53x53x1) (s₂ := S32x32x53x53x1) (4 : Fin S32x32x53x53x2.rank) _ _ _
    (ix5 k1 k2 o1 o2 (1 : Fin 2)) rfl rfl (ix5 k1 k2 o1 o2 (0 : Fin 1)) (fun b hb => ?_) rfl).trans ?_
  · fin_cases b
    · rfl
    · rfl
    · rfl
    · rfl
    · exact absurd rfl hb
  refine (broadcastInDim_apply (s := S32x32x53x53) (t := S32x32x53x53x1) _ _ _ _ (ix4 k1 k2 o1 o2) fun a => by fin_cases a <;> rfl).trans ?_
  refine (broadcastInDim_apply (s := S1x32x1x53) (t := S32x32x53x53) _ _ _ _ (ix4 (0 : Fin 1) k2 (0 : Fin 1) o2) fun a => by fin_cases a <;> rfl).trans ?_
  exact colsAt_at k2 o2

theorem start_row (c : Fin 3) (k1 k2 : Fin 32) (o1 o2 : Fin 53) :
    scatter_S3x84x84_S32x32x53x53x2_S3x32x32x53x53_0_12_12_4.start (ix5 c k1 k2 o1 o2) places 1 = ((k1.val + o1.val : ℕ) : ℤ) := by
  refine Eq.trans (b := (places (ix5 k1 k2 o1 o2 (0 : Fin 2))).toInt) ?_ ?_
  · refine congrArg (fun i => (places i).toInt) (funext fun b => ?_)
    fin_cases b <;> rfl
  · rw [places_row, along_at]
    have := k1.isLt
    have := o1.isLt
    exact WordCmp.toInt_ofNat_of_lt (by omega)

theorem start_col (c : Fin 3) (k1 k2 : Fin 32) (o1 o2 : Fin 53) :
    scatter_S3x84x84_S32x32x53x53x2_S3x32x32x53x53_0_12_12_4.start (ix5 c k1 k2 o1 o2) places 2 = ((k2.val + o2.val : ℕ) : ℤ) := by
  refine Eq.trans (b := (places (ix5 k1 k2 o1 o2 (1 : Fin 2))).toInt) ?_ ?_
  · refine congrArg (fun i => (places i).toInt) (funext fun b => ?_)
    fin_cases b <;> rfl
  · rw [places_col, along_at]
    have := k2.isLt
    have := o2.isLt
    exact WordCmp.toInt_ofNat_of_lt (by omega)

/-- Where an entry lands. -/
theorem lands (c c' : Fin 3) (k1 k2 : Fin 32) (o1 o2 : Fin 53) (r l : Fin 84) :
    scatter_S3x84x84_S32x32x53x53x2_S3x32x32x53x53_0_12_12_4.resultIdx? (ix5 c k1 k2 o1 o2) places = some (ix3 c' r l)
      ↔ c = c' ∧ k1.val + o1.val = r.val ∧ k2.val + o2.val = l.val := by
  rw [Routing.resultIdx?_eq_some]
  have s0 : scatter_S3x84x84_S32x32x53x53x2_S3x32x32x53x53_0_12_12_4.start (ix5 c k1 k2 o1 o2) places 0 = 0 := rfl
  have w0 : scatter_S3x84x84_S32x32x53x53x2_S3x32x32x53x53_0_12_12_4.window (ix5 c k1 k2 o1 o2) 0 = c.val := rfl
  have w1 : scatter_S3x84x84_S32x32x53x53x2_S3x32x32x53x53_0_12_12_4.window (ix5 c k1 k2 o1 o2) 1 = 0 := rfl
  have w2 : scatter_S3x84x84_S32x32x53x53x2_S3x32x32x53x53_0_12_12_4.window (ix5 c k1 k2 o1 o2) 2 = 0 := rfl
  have s1 := start_row c k1 k2 o1 o2
  have s2 := start_col c k1 k2 o1 o2
  constructor
  · intro hall
    have h0 := hall 0
    have h1 := hall 1
    have h2 := hall 2
    rw [s0, w0] at h0
    rw [s1, w1] at h1
    rw [s2, w2] at h2
    have h0' : (0 : ℤ) + (c.val : ℤ) = (c'.val : ℤ) := h0
    have h1' : ((k1.val + o1.val : ℕ) : ℤ) + ((0 : ℕ) : ℤ) = (r.val : ℤ) := h1
    have h2' : ((k2.val + o2.val : ℕ) : ℤ) + ((0 : ℕ) : ℤ) = (l.val : ℤ) := h2
    exact ⟨Fin.ext (by omega), by omega, by omega⟩
  · rintro ⟨rfl, h1, h2⟩ a
    fin_cases a
    · show scatter_S3x84x84_S32x32x53x53x2_S3x32x32x53x53_0_12_12_4.start (ix5 c k1 k2 o1 o2) places 0 + _ = ((c.val : ℕ) : ℤ)
      rw [s0]
      show (0 : ℤ) + (c.val : ℤ) = (c.val : ℤ)
      omega
    · show scatter_S3x84x84_S32x32x53x53x2_S3x32x32x53x53_0_12_12_4.start (ix5 c k1 k2 o1 o2) places 1 + ((0 : ℕ) : ℤ) = ((r.val : ℕ) : ℤ)
      rw [s1]
      omega
    · show scatter_S3x84x84_S32x32x53x53x2_S3x32x32x53x53_0_12_12_4.start (ix5 c k1 k2 o1 o2) places 2 + ((0 : ℕ) : ℤ) = ((l.val : ℕ) : ℤ)
      rw [s2]
      omega

/-! ## The sum -/

theorem spread_at (T : FVec Ideal S2809x3072 .f32) (c : Fin 3) (k1 k2 : Fin 32) (o1 o2 : Fin 53) :
    spread T (ix5 c k1 k2 o1 o2)
      = T (ix2 (⟨o1.val * 53 + o2.val, by have := o1.isLt; have := o2.isLt; omega⟩ : Fin 2809)
          (⟨c.val * 1024 + k1.val * 32 + k2.val, by have := c.isLt; have := k1.isLt; have := k2.isLt; omega⟩ : Fin 3072)) := by
  unfold spread
  refine (shapeCast_apply (s := S3072x2809) (t := S3x32x32x53x53) _ _ _
    (ix2 (⟨c.val * 1024 + k1.val * 32 + k2.val, by have := c.isLt; have := k1.isLt; have := k2.isLt; omega⟩ : Fin 3072)
      (⟨o1.val * 53 + o2.val, by have := o1.isLt; have := o2.isLt; omega⟩ : Fin 2809)) ?_).trans ?_
  · refine (Shape.rowMajor_val_two _).trans (Eq.trans ?_ (Shape.rowMajor_val_five _).symm)
    show (c.val * 1024 + k1.val * 32 + k2.val) * 2809 + (o1.val * 53 + o2.val) = (((c.val * 32 + k1.val) * 32 + k2.val) * 53 + o1.val) * 53 + o2.val
    omega
  · exact congrArg T (funext fun a => by fin_cases a <;> rfl)

/-- The entry of patch `q`, zero outside the patches. -/
def rowEntry (T : FVec Ideal S2809x3072 .f32) (q : ℕ) (c : Fin 3) (a b : ℕ) : EReal :=
  if hq : q < 2809 then
    (if hab : a < 32 ∧ b < 32 then T (ix2 (⟨q, hq⟩ : Fin 2809) (⟨c.val * 1024 + a * 32 + b, by have := c.isLt; omega⟩ : Fin 3072)) else 0)
  else 0

theorem folded_at (T : FVec Ideal S2809x3072 .f32) (c : Fin 3) (r l : Fin 84) :
    folded T (ix3 c r l) = (∑ q ∈ Finset.range 2809, hit (rowEntry T) c r.val l.val q : EReal) := by
  have e : folded T (ix3 c r l)
      = ((0 : EReal) + ∑ j ∈ Finset.univ.filter (fun j => scatter_S3x84x84_S32x32x53x53x2_S3x32x32x53x53_0_12_12_4.resultIdx? j places = some (ix3 c r l)), spread T j : EReal) := by
    show ((Ideal.ofBits .f32 0x00000000#32) + _ : EReal) = _
    rw [Ideal.ofBits_zero_f32]
  rw [e, zero_add]
  have hr := r.isLt
  have hl := l.isLt
  -- only the patches that cover the entry count
  have e2 : (∑ q ∈ Finset.range 2809, hit (rowEntry T) c r.val l.val q : EReal)
      = ∑ q ∈ (Finset.range 2809).filter (fun q => (q / 53 ≤ r.val ∧ r.val < q / 53 + 32) ∧ (q % 53 ≤ l.val ∧ l.val < q % 53 + 32)),
          rowEntry T q c (r.val - q / 53) (l.val - q % 53) := by
    rw [Finset.sum_filter]
    refine Finset.sum_congr rfl fun q hq => ?_
    have hq' : q < 2809 := Finset.mem_range.1 hq
    unfold hit
    by_cases h : (q / 53 ≤ r.val ∧ r.val < q / 53 + 32) ∧ (q % 53 ≤ l.val ∧ l.val < q % 53 + 32)
    · rw [if_pos ⟨hq', h.1.1, h.2.1⟩, if_pos h]
    · rw [if_neg h]
      split
      · next h' =>
        unfold rowEntry
        rw [dif_pos hq']
        refine dif_neg fun hh => h ⟨⟨h'.2.1, by have := hh.1; omega⟩, h'.2.2, by have := hh.2; omega⟩
      · rfl
  rw [e2]
  refine Finset.sum_bij' (fun j _ => (j 3).val * 53 + (j 4).val)
    (fun q _ => (ix5 c (Fin.ofNat 32 (r.val - q / 53)) (Fin.ofNat 32 (l.val - q % 53)) (Fin.ofNat 53 (q / 53)) (Fin.ofNat 53 (q % 53)) : S3x32x32x53x53.Idx))
    (fun j hj => ?_) (fun q hq => ?_) (fun j hj => ?_) (fun q hq => ?_) (fun j hj => ?_)
  · obtain ⟨c', k1, k2, o1, o2, rfl⟩ : ∃ c' k1 k2 o1 o2, j = ix5 c' k1 k2 o1 o2 := ⟨_, _, _, _, _, eq_ix5 j⟩
    obtain ⟨-, h1, h2⟩ := (lands _ _ _ _ _ _ _ _).1 (Finset.mem_filter.1 hj).2
    have := k1.isLt
    have := k2.isLt
    have := o1.isLt
    have := o2.isLt
    have hd : (o1.val * 53 + o2.val) / 53 = o1.val := by omega
    have hm : (o1.val * 53 + o2.val) % 53 = o2.val := by omega
    show o1.val * 53 + o2.val ∈ _
    refine Finset.mem_filter.2 ⟨Finset.mem_range.2 (by omega), ?_⟩
    rw [hd, hm]
    omega
  · obtain ⟨hq, ⟨h1, h2⟩, h3, h4⟩ := Finset.mem_filter.1 hq
    have hq := Finset.mem_range.1 hq
    refine Finset.mem_filter.2 ⟨Finset.mem_univ _, (lands _ _ _ _ _ _ _ _).2 ⟨rfl, ?_, ?_⟩⟩
    · show (r.val - q / 53) % 32 + q / 53 % 53 = r.val
      omega
    · show (l.val - q % 53) % 32 + q % 53 % 53 = l.val
      omega
  · obtain ⟨c', k1, k2, o1, o2, rfl⟩ : ∃ c' k1 k2 o1 o2, j = ix5 c' k1 k2 o1 o2 := ⟨_, _, _, _, _, eq_ix5 j⟩
    obtain ⟨h0, h1, h2⟩ := (lands _ _ _ _ _ _ _ _).1 (Finset.mem_filter.1 hj).2
    subst h0
    have := k1.isLt
    have := k2.isLt
    have := o1.isLt
    have := o2.isLt
    have hd : (o1.val * 53 + o2.val) / 53 = o1.val := by omega
    have hm : (o1.val * 53 + o2.val) % 53 = o2.val := by omega
    have e1 : Fin.ofNat 32 (r.val - (o1.val * 53 + o2.val) / 53) = k1 := Fin.ext (by
      show (r.val - (o1.val * 53 + o2.val) / 53) % 32 = k1.val
      rw [hd]; omega)
    have e2 : Fin.ofNat 32 (l.val - (o1.val * 53 + o2.val) % 53) = k2 := Fin.ext (by
      show (l.val - (o1.val * 53 + o2.val) % 53) % 32 = k2.val
      rw [hm]; omega)
    have e3 : Fin.ofNat 53 ((o1.val * 53 + o2.val) / 53) = o1 := Fin.ext (by
      show (o1.val * 53 + o2.val) / 53 % 53 = o1.val
      rw [hd]; omega)
    have e4 : Fin.ofNat 53 ((o1.val * 53 + o2.val) % 53) = o2 := Fin.ext (by
      show (o1.val * 53 + o2.val) % 53 % 53 = o2.val
      rw [hm]; omega)
    show ix5 c' (Fin.ofNat 32 (r.val - (o1.val * 53 + o2.val) / 53)) (Fin.ofNat 32 (l.val - (o1.val * 53 + o2.val) % 53))
      (Fin.ofNat 53 ((o1.val * 53 + o2.val) / 53)) (Fin.ofNat 53 ((o1.val * 53 + o2.val) % 53)) = ix5 c' k1 k2 o1 o2
    rw [e1, e2, e3, e4]
  · obtain ⟨hq, -⟩ := Finset.mem_filter.1 hq
    have hq := Finset.mem_range.1 hq
    show q / 53 % 53 * 53 + q % 53 % 53 = q
    omega
  · obtain ⟨c', k1, k2, o1, o2, rfl⟩ : ∃ c' k1 k2 o1 o2, j = ix5 c' k1 k2 o1 o2 := ⟨_, _, _, _, _, eq_ix5 j⟩
    obtain ⟨h0, h1, h2⟩ := (lands _ _ _ _ _ _ _ _).1 (Finset.mem_filter.1 hj).2
    subst h0
    have := k1.isLt
    have := k2.isLt
    have := o1.isLt
    have := o2.isLt
    have hd : (o1.val * 53 + o2.val) / 53 = o1.val := by omega
    have hm : (o1.val * 53 + o2.val) % 53 = o2.val := by omega
    have ha : r.val - (o1.val * 53 + o2.val) / 53 = k1.val := by rw [hd]; omega
    have hb : l.val - (o1.val * 53 + o2.val) % 53 = k2.val := by rw [hm]; omega
    show spread T (ix5 c' k1 k2 o1 o2) = rowEntry T (o1.val * 53 + o2.val) c' (r.val - (o1.val * 53 + o2.val) / 53) (l.val - (o1.val * 53 + o2.val) % 53)
    rw [ha, hb, spread_at]
    unfold rowEntry
    rw [dif_pos (show o1.val * 53 + o2.val < 2809 by omega), dif_pos ⟨k1.isLt, k2.isLt⟩]

/-! ## The rows taken -/

theorem fold_ones {ι : Type} (S : Finset ι) : S.fold IntOp.andi 1#1 (fun _ => 1#1) = 1#1 := by
  classical
  induction S using Finset.induction with
  | empty => rfl
  | insert a S ha ih => rw [Finset.fold_insert ha, ih]; rfl

theorem col_at (n : IVec S2809 32) (hn : ∀ q : Fin 2809, (n (ix1 q)).toNat < 10000) (q : Fin 2809) : col n (ix2 q (0 : Fin 1)) = n (ix1 q) := by
  unfold col
  refine (broadcastInDim_apply (s := S2809) (t := S2809x1) _ _ _ (ix2 q (0 : Fin 1)) (ix1 q) fun a => by fin_cases a; rfl).trans ?_
  refine Routing.wrap_of_lt (n (ix1 q)) _ ?_
  have := hn q
  omega

theorem named_at (n : IVec S2809 32) (hn : ∀ q : Fin 2809, (n (ix1 q)).toNat < 10000) (q : Fin 2809) : named n (ix1 q) = 1#1 := by
  unfold named
  have e : (andi (cmpi .sge (col n) (broadcastInDim S2809x1 ![] bcast_S_S2809x1 (constantI S_ 32 0#32)))
      (cmpi .sle (col n)
        (broadcastInDim S2809x1 ![0, 1] bcast_S1x1_S2809x1_0_1 (broadcastInDim S1x1 ![1] bcast_S1_S1x1_1 (constantI S1 32 9999#32))))) = fun _ => 1#1 := by
    funext i
    obtain ⟨p, z, rfl⟩ : ∃ p z, i = ix2 p z := ⟨_, _, eq_ix2 i⟩
    obtain rfl : z = (0 : Fin 1) := Subsingleton.elim _ _
    show IntOp.andi (IntOp.cmpi .sge (col n (ix2 p (0 : Fin 1))) 0#32) (IntOp.cmpi .sle (col n (ix2 p (0 : Fin 1))) 9999#32) = 1#1
    rw [col_at n hn]
    have hp := hn p
    rw [WordCmp.cmpi_sge_of_lt (by omega) (by decide), WordCmp.cmpi_sle_of_lt (by omega) (by decide)]
    rw [decide_eq_true (show (0#32 : BitVec 32).toNat ≤ (n (ix1 p)).toNat from Nat.zero_le _),
      decide_eq_true (show (n (ix1 p)).toNat ≤ (9999#32 : BitVec 32).toNat by show _ ≤ 9999; omega)]
    rfl
  rw [e, Host.reduce_eq_fold]
  exact fold_ones _

theorem taken_at (x : FVec Ideal S10000x3072 .f32) (n : IVec S2809 32) (hn : ∀ q : Fin 2809, (n (ix1 q)).toNat < 10000) (q : Fin 2809) (y : Fin 3072) :
    taken x n (ix2 q y) = x (ix2 (⟨(n (ix1 q)).toNat, hn q⟩ : Fin 10000) y) := by
  unfold taken
  rw [select_apply]
  have e : broadcastInDim S2809x3072 ![0] bcast_S2809_S2809x3072_0 (named n) (ix2 q y) = 1#1 :=
    (broadcastInDim_apply (s := S2809) (t := S2809x3072) _ _ _ (ix2 q y) (ix1 q) fun a => by fin_cases a; rfl).trans (named_at n hn q)
  rw [e, WordCmp.select_of_eq_one rfl]
  refine Routing.gather_row _ rfl rfl rfl rfl rfl x (col n) q y ⟨(n (ix1 q)).toNat, hn q⟩ ?_ (by decide)
  rw [col_at n hn]
  exact (BitVec.ofNat_toNat 32 (n (ix1 q))).symm.trans (by rw [BitVec.ofNat_toNat])

/-! ## The division by the largest entry -/

theorem foldl_cast {β : Type} {a b : Nat} (h : a = b) (f : β → Fin b → β) (z : β) :
    (List.finRange a).foldl (fun r k => f r (k.cast h)) z = (List.finRange b).foldl f z := by
  subst h
  rfl

/-- A fold in row-major order over a reshaped array is the one over the array itself. -/
theorem foldl_shapeCast {α β : Type} {s t : Shape} (h : s.ShapeCasts t) (x : s.Idx → α) (f : β → α → β) (b : β) :
    ((List.finRange t.numel).map t.rowMajor.symm).foldl (fun a i => f a (shapeCast t x h i)) b
      = ((List.finRange s.numel).map s.rowMajor.symm).foldl (fun a i => f a (x i)) b := by
  rw [List.foldl_map, List.foldl_map]
  have e : ∀ k : Fin t.numel, shapeCast t x h (t.rowMajor.symm k) = x (s.rowMajor.symm (k.cast h)) := fun k => by
    refine shapeCast_apply x h _ _ ?_
    rw [Equiv.apply_symm_apply, Equiv.apply_symm_apply]
    rfl
  simp only [e]
  exact foldl_cast h (fun a k => f a (x (s.rowMajor.symm k))) b

end Cert.FoldReferenceIdeal.Hand
-- ==== Proof.FoldValue.lean ====
/-
  The image the kernel leaves is the reference's. Before the division the two images are one sum of patches entry by entry; the largest entry
  is a fold over the same entries in the same order in both programs, and the division by it is one operation.
-/
module

public import proofs.«01_k».proof.Proof.FoldRefValue

@[expose] public section

noncomputable section

namespace Cert.FoldIdeal.Hand

open Cert.FoldIdeal Cert.FoldIdeal.Gen
open Idealize.ShloMosaic Idealize.ShloMosaic.TcCoe Idealize.ShloMosaic.ValueIdx
open Cert.FoldReferenceIdeal.Hand (peak scaled crop folded taken nums out foldl_shapeCast rowEntry folded_at taken_at)

theorem peak_eq (x : FVec Ideal Cert.FoldReferenceIdeal.S3x64x64 .f32) (j : Cert.FoldReferenceIdeal.S_.Idx) :
    peak (F := Ideal) x j
      = ((List.finRange Cert.FoldReferenceIdeal.S3x64x64.numel).map Cert.FoldReferenceIdeal.S3x64x64.rowMajor.symm).foldl
          (fun r i => FloatOps.maximumf r (x i)) (FloatOps.ofBits (F := Ideal) .f32 0xFF800000#32) := by
  unfold peak
  rw [Host.reduce_eq_foldl, List.filter_eq_self.2 fun i _ => decide_eq_true (funext fun b => b.elim0)]
  exact foldl_shapeCast _ x _ _

theorem most_eq (x : FVec Ideal S3x64x64 .f32) (j : S1.Idx) :
    multiReduction (F := Ideal) .maximumf [1, 2, 3] S1 (shapeCast S1x3x64x64 x shapeCasts_S3x64x64_S1x3x64x64) 0xFF800000#32 reduces_S1x3x64x64_S1 (.inl rfl) rfl j
      = ((List.finRange S3x64x64.numel).map S3x64x64.rowMajor.symm).foldl
          (fun r i => FloatOps.maximumf r (x i)) (FloatOps.ofBits (F := Ideal) .f32 0xFF800000#32) := by
  refine (reduceFold_eq_foldl_of_size_one reduces_S1x3x64x64_S1 (fun b => by fin_cases b; rfl) FloatOps.maximumf
    (FloatOps.ofBits (F := Ideal) .f32 0xFF800000#32) (shapeCast S1x3x64x64 x shapeCasts_S3x64x64_S1x3x64x64) j).trans ?_
  exact foldl_shapeCast _ x _ _

theorem over_at (x : FVec Ideal S3x64x64 .f32) (M : FVec Ideal S1 .f32) (z : EReal) (hM : ∀ j, M j = z) (i : S3x64x64.Idx) :
    divf (F := Ideal) x (broadcast S3x64x64 (extractAt ![0, 0, 0, 0] (shapeCast S1x1x1x1 M shapeCasts_S1_S1x1x1x1) inpos_S1x1x1x1_p0_0_0_0)) i
      = Ideal.div (x i) z := by
  obtain rfl : M = fun _ => z := funext hM
  rfl

theorem scaled_at (x : FVec Ideal Cert.FoldReferenceIdeal.S3x64x64 .f32) (i : Cert.FoldReferenceIdeal.S3x64x64.Idx) :
    scaled (F := Ideal) x i = Ideal.div (x i) (peak (F := Ideal) x fun a => a.elim0) := by
  unfold scaled
  generalize peak (F := Ideal) x = P
  exact congrArg (Ideal.div (x i)) (congrArg P (funext fun a => a.elim0))

theorem scaled_eq (x : FVec Ideal S3x64x64 .f32) : k0_pay1 (F := Ideal) x = scaled (F := Ideal) x :=
  funext fun i => (over_at x _ _ (fun j => (most_eq x j).trans (peak_eq x fun a => a.elim0).symm) i).trans (scaled_at x i).symm

variable (m : (ℓ : Loc nD τ sig) → Buf (Elt Ideal) ℓ) (h : RowsNamed m)

theorem nums_at (I : IVec S2816 32) (q : Fin 2809) : nums I (ix1 q) = I (entry ⟨q.val, by omega⟩) := by
  unfold nums
  exact extractStridedSlice_apply _ _ _ _ _ fun a => by fin_cases a; exact (Nat.zero_add _).symm

include h in
theorem nums_lt (d : Dev nD) (q : Fin 2809) : (nums (m ((d.tc : Thread nD τ).loc main_arg0)) (ix1 q)).toNat < 10000 := by
  rw [nums_at]
  exact h d _

theorem entry_eq (d : Dev nD) (q : ℕ) (hq : q < 2809) :
    entryOf m h d q = rowEntry (taken (F := Ideal) (m ((d.tc : Thread nD τ).loc main_arg1)) (nums (m ((d.tc : Thread nD τ).loc main_arg0)))) q := by
  obtain rfl : d = 0 := Subsingleton.elim _ _
  funext c a b
  unfold entryOf rowEntry
  rw [dif_pos hq, dif_pos (show q < 2816 by omega)]
  split
  · rw [taken_at _ _ (nums_lt m h 0)]
    refine congrArg (m (((0 : Dev nD).tc : Thread nD τ).loc main_arg1) : Vec Ideal S10000x3072 .f32) ?_
    refine congrArg (fun k : Fin 10000 => ix2 k _) (Fin.ext ?_)
    show (tab m 0 (entry ⟨q, _⟩) : BitVec 32).toNat = (nums (m (((0 : Dev nD).tc : Thread nD τ).loc main_arg0)) (ix1 ⟨q, hq⟩)).toNat
    rw [nums_at, tab_zero]
  · rfl

theorem image_eq (d : Dev nD) :
    (VecWindow.window (accAt m h d 176) ![0, 10, 10] S3x64x64.size inb_S3x84x128_S3x64x64_0_10_10 : FVec Ideal S3x64x64 .f32)
      = crop (F := Ideal) (folded (taken (F := Ideal) (m ((d.tc : Thread nD τ).loc main_arg1)) (nums (m ((d.tc : Thread nD τ).loc main_arg0))))) := by
  funext i
  obtain ⟨c, r, l, rfl⟩ : ∃ (c : Fin 3) (r l : Fin 64), i = ix3 c r l := ⟨_, _, _, eq_ix3 i⟩
  have e1 : (VecWindow.window (accAt m h d 176) ![0, 10, 10] S3x64x64.size inb_S3x84x128_S3x64x64_0_10_10 : FVec Ideal S3x64x64 .f32) (ix3 c r l)
      = accAt m h d 176 (ix3 c (⟨10 + r.val, by omega⟩ : Fin 84) (⟨10 + l.val, by omega⟩ : Fin 128)) :=
    congrArg (accAt m h d 176) (funext fun a => Fin.ext (by
      fin_cases a
      · show 0 + 1 * c.val = c.val
        omega
      · show 10 + 1 * r.val = 10 + r.val
        omega
      · show 10 + 1 * l.val = 10 + l.val
        omega))
  have e2 : ∀ A : FVec Ideal Cert.FoldReferenceIdeal.S3x84x84 .f32, crop (F := Ideal) A (ix3 c r l)
      = A (ix3 c (⟨10 + r.val, by omega⟩ : Fin 84) (⟨10 + l.val, by omega⟩ : Fin 84)) := fun A => by
    unfold crop
    exact extractStridedSlice_apply _ _ _ _ _ fun a => by
      fin_cases a
      · exact (Nat.zero_add _).symm
      · rfl
      · rfl
  rw [e1, e2, acc_at m h d _ _ _ 176 le_rfl, folded_at]
  show (∑ q ∈ Finset.range (2809 + 7), hit (entryOf m h d) c (10 + r.val) (10 + l.val) q : EReal) = _
  have ez : (∑ q ∈ Finset.range 7, hit (entryOf m h d) c (10 + r.val) (10 + l.val) (2809 + q) : EReal) = 0 :=
    Finset.sum_eq_zero fun q _ => if_neg (by omega)
  rw [Finset.sum_range_add, ez, add_zero]
  exact Finset.sum_congr rfl fun q hq => hit_congr _ _ _ _ _ _ (entry_eq m h d q (Finset.mem_range.1 hq))

/-- The kernel's result is the reference's. -/
theorem result_eq (d : Dev nD) :
    result m h d = out (F := Ideal) (m ((d.tc : Thread nD τ).loc main_arg0)) (m ((d.tc : Thread nD τ).loc main_arg1)) := by
  unfold result out
  rw [image_eq]
  exact scaled_eq _

end Cert.FoldIdeal.Hand
-- ==== Proof.WinRunI.lean ====
/-
  The body of the kernel `WindowsIdeal` prints: thirty-two shifted copies of the image stored in the scratch, ninety-six
  copies out of it started together and then waited for.
-/
module

public import proofs.«01_k».proof.Proof.Gen.WindowsIdeal.Launch
public import proofs.«01_k».proof.Proof.Gen.WindowsIdeal.Points
public import Idealize.ShloMosaic.Lib.Pipeline.FrameValue
public import Idealize.ShloMosaic.Lib.Batch
public import Idealize.ShloMosaic.Lib.Ring
public import Idealize.ShloMosaic.Lib.Tactic
public import Idealize.ShloMosaic.Lib.VecWindow
public import Idealize.ShloMosaic.Lib.WritesUnit

@[expose] public section

set_option maxRecDepth 65536

noncomputable section

namespace Cert.WindowsIdeal.Hand

open Cert.WindowsIdeal Cert.WindowsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-! ## The body, said with its counters -/

/-- The result left in the large memory and the scratch it is copied from. -/
abbrev HB : Memref sig .tc .hbm S3072x53x53 .f32 := Memref.whole main_v2
abbrev SC : Memref sig .tc .vmem S32x3x88x53 .f32 := Memref.whole cc0_scratch0

theorem dstInb (t : Fin 96) : ∀ a, (![32 * t.val, 0, 0] : Fin 3 → ℕ) a + S32x53x53.size a ≤ S3072x53x53.size a := by
  have := t.isLt
  intro a; fin_cases a <;> simp <;> omega
theorem srcInb (t : Fin 96) : ∀ a, (![0, t.val / 32, t.val % 32, 0] : Fin 4 → ℕ) a + S32x1x53x53.size a ≤ S32x3x88x53.size a := by
  have := t.isLt
  intro a; fin_cases a <;> simp <;> omega
theorem rowInb (b : Fin 32) : ∀ a, (![b.val, 0, 0, 0] : Fin 4 → ℕ) a + S1x3x84x53.size a ≤ S32x3x88x53.size a := by
  have := b.isLt
  intro a; fin_cases a <;> simp <;> omega

/-- Where copy `t` goes, -/
abbrev dst (t : Fin 96) : Memref sig .tc .hbm S32x53x53 .f32 :=
  HB.slice (Rect.unit (s := S3072x53x53) ![32 * t.val, 0, 0] S32x53x53.size (dstInb t)) (fun _ => rfl)
/-- and where it comes from. -/
abbrev src (t : Fin 96) : Memref sig .tc .vmem S32x53x53 .f32 :=
  (SC.slice (Rect.unit (s := S32x3x88x53) ![0, t.val / 32, t.val % 32, 0] S32x1x53x53.size (srcInb t)) (fun _ => rfl)).squeeze
    S32x53x53 squeezes_S32x1x53x53_S32x53x53

/-- What the `b`-th store writes: the image turned back by `b` columns, cut to 53 of them. -/
def pay (b : ℕ) (v0 : Vec F S3x84x84 .f32) : FVec F S1x3x84x53 .f32 :=
  shapeCast S1x3x84x53
    (extractStridedSlice S3x84x53 ![0, 0, 0]
      (dynamicRotate 2 (BitVec.ofNat 32 ((84 - b) % 84)) none (shapeCast S3x84x84 v0 shapeCasts_S3x84x84_S3x84x84) rotates_S3x84x84_d2)
      slices_S3x84x84_o0_0_0_S3x84x53)
    shapeCasts_S3x84x53_S1x3x84x53

/-- The last `n` of the thirty-two stores, then `k`; -/
def stores {α : Type} (v0 : Vec F S3x84x84 .f32) (k : Prog (TpuEff nD τ sig (Elt F) Λ₀ .tc) α) :
    (n : ℕ) → n ≤ 32 → Prog (TpuEff nD τ sig (Elt F) Λ₀ .tc) α
  | 0, _ => k
  | n + 1, h => do
    let v : Vec F S1x3x84x53 .f32 ← Prog.lift (.load SC (Rect.unit (s := S32x3x88x53) ![31 - n, 0, 0, 0] S1x3x84x53.size (rowInb ⟨31 - n, by omega⟩)).toLoadRect (View.loadsAt_vmem h_S1x3x84x53))
    Prog.lift (.store SC (Rect.unit (s := S32x3x88x53) ![31 - n, 0, 0, 0] S1x3x84x53.size (rowInb ⟨31 - n, by omega⟩)) (pay (31 - n) v0) Finset.univ (View.stores_vmem_bits_univ h_S1x3x84x53 rfl) (.inl rfl))
    stores v0 k n (by omega)

/-- the last `n` of the ninety-six copies started, then `k`; -/
def issues {α : Type} (k : Prog (TpuEff nD τ sig (Elt F) Λ₀ .tc) α) : (n : ℕ) → n ≤ 96 → Prog (TpuEff nD τ sig (Elt F) Λ₀ .tc) α
  | 0, _ => k
  | n + 1, h => do
    Prog.lift (.enqueueDma (src ⟨95 - n, by omega⟩) (.here (dst ⟨95 - n, by omega⟩)) (.dma cc0_scratch1.sem) ((View.wordExact_bits rfl).reshape _ _) (View.wordExact_bits rfl) ⟨Or.inl rfl, trivial⟩)
    issues k n (by omega)

/-- the last `n` of them waited for, then `k`. -/
def waits {α : Type} (k : Prog (TpuEff nD τ sig (Elt F) Λ₀ .tc) α) : (n : ℕ) → n ≤ 96 → Prog (TpuEff nD τ sig (Elt F) Λ₀ .tc) α
  | 0, _ => k
  | n + 1, h => do
    Prog.lift (.waitDma2 cc0_scratch1.sem (src ⟨95 - n, by omega⟩) (dst ⟨95 - n, by omega⟩) ((View.wordExact_bits rfl).reshape _ _) (View.wordExact_bits rfl))
    waits k n (by omega)

/-- The body: the image read, the stores, the copies, the waits. -/
def body (arg0 : Memref sig .tc .vmem S3x84x84 .f32) : Prog (TpuEff nD τ sig (Elt F) Λ₀ .tc) PUnit := do
  let v0 : Vec F S3x84x84 .f32 ← Prog.lift (.load arg0 (Rect.unit (s := S3x84x84) ![0, 0, 0] S3x84x84.size inb_S3x84x84_S3x84x84_0_0_0).toLoadRect (View.loadsAt_vmem h_S3x84x84))
  stores v0 (issues (waits (pure ⟨⟩) 96 le_rfl) 96 le_rfl) 32 le_rfl

theorem body_eq (arg0 : Memref sig .tc .vmem S3x84x84 .f32) (h0 : arg0.IsWhole) :
    cc0__im2col_kernel (F := F) arg0 h0 HB (Memref.isWhole_whole _) SC (Memref.isWhole_whole _) cc0_scratch1 = body arg0 := by
  chain_rfl

end Cert.WindowsIdeal.Hand

end
-- ==== Proof.WinCopyI.lean ====
/-
  What the body of the kernel `WindowsIdeal` prints leaves: the scratch filled store by store, the copies out of it as one batch on
  one semaphore, each lending a share of the scratch.
-/
module

public import proofs.«01_k».proof.Proof.WinRunI
public import Idealize.ShloMosaic.Lib.ValueIdx
public import Idealize.ShloMosaic.Lib.KernelVsHost
public import Idealize.ShloMosaic.Lib.Pipeline.ValueKit.Geometry

@[expose] public section

set_option maxRecDepth 16384

noncomputable section

namespace Cert.WindowsIdeal.Hand

open Cert.WindowsIdeal Cert.WindowsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

/-! ## The scratch -/

/-- One stored row of the scratch: the image read `b` columns further on. -/
theorem pay_at (b : Fin 32) (v0 : Vec F S3x84x84 .f32) (c : Fin 3) (i : Fin 84) (j : Fin 53) :
    pay (F := F) b.val v0 (ix4 (0 : Fin 1) c i j) = v0 (ix3 c i ⟨b.val + j.val, by have := b.isLt; have := j.isLt; omega⟩) := by
  have hb := b.isLt
  have hj := j.isLt
  unfold pay
  refine (shapeCast_apply (s := S3x84x53) (t := S1x3x84x53) _ _ (ix4 (0 : Fin 1) c i j) (ix3 c i j) ?_).trans ?_
  · refine (Shape.rowMajor_val_three _).trans (Eq.trans ?_ (Shape.rowMajor_val_four _).symm)
    show (c.val * 84 + i.val) * 53 + j.val = ((0 * 3 + c.val) * 84 + i.val) * 53 + j.val
    omega
  refine (extractStridedSlice_apply (s := S3x84x84) (t := S3x84x53) _ _ _ _ (ix3 c i ⟨j.val, by omega⟩) fun a => ?_).trans ?_
  · fin_cases a
    · exact (Nat.zero_add _).symm
    · exact (Nat.zero_add _).symm
    · exact (Nat.zero_add _).symm
  refine (dynamicRotate_apply (s := S3x84x84) _ _ _ _ _ (ix3 c i ⟨b.val + j.val, by omega⟩) fun a => ?_).trans ?_
  · fin_cases a
    · rfl
    · rfl
    · show b.val + j.val = (j.val + 84 - (BitVec.ofNat 32 ((84 - b.val) % 84)).toNat % 84) % 84
      rw [BitVec.toNat_ofNat]
      omega
  exact shapeCast_apply (s := S3x84x84) (t := S3x84x84) _ _ _ _ rfl

/-- The first `n` rows of the scratch are as stored. -/
def Filled (v0 : Vec F S3x84x84 .f32) (n : ℕ) (A : Vec F S32x3x88x53 .f32) : Prop :=
  ∀ (b : Fin 32) (c : Fin 3) (i : Fin 84) (j : Fin 53), b.val < n →
    A (ix4 b c ⟨i.val, by have := i.isLt; omega⟩ j) = v0 (ix3 c i ⟨b.val + j.val, by have := b.isLt; have := j.isLt; omega⟩)

theorem Filled.put {v0 : Vec F S3x84x84 .f32} {n : ℕ} (hn : n < 32) {A : Vec F S32x3x88x53 .f32} (h : Filled v0 n A) :
    Filled v0 (n + 1) (VecWindow.put A ![n, 0, 0, 0] S1x3x84x53.size (pay n v0)) := by
  intro b c i j hb
  unfold VecWindow.put
  have hc := c.isLt
  have hi := i.isLt
  have hj := j.isLt
  by_cases e : b.val = n
  · rw [dif_pos (fun a => by
      fin_cases a
      · exact ⟨e.ge, by show b.val < n + 1; omega⟩
      · exact ⟨Nat.zero_le _, by show c.val < 0 + 3; omega⟩
      · exact ⟨Nat.zero_le _, by show i.val < 0 + 84; omega⟩
      · exact ⟨Nat.zero_le _, by show j.val < 0 + 53; omega⟩)]
    refine Eq.trans ?_ (pay_at b v0 c i j)
    subst e
    refine congrArg (pay b.val v0) (funext fun a => Fin.ext ?_)
    fin_cases a
    · exact Nat.sub_self _
    · rfl
    · rfl
    · rfl
  · rw [dif_neg (fun hh => by
      have h0 : n ≤ b.val := (hh 0).1
      omega)]
    exact h b c i j (by omega)

theorem wp_stores {α : Type} (v0 : Vec F S3x84x84 .f32) (k : Prog (TpuEff nD τ sig (Elt F) Λ₀ .tc) α) (c : Dev nD) (K : α → sProp 𝕄) :
    ∀ (n : ℕ) (hn : n ≤ 32) (A : Vec F S32x3x88x53 .f32), Filled v0 (32 - n) A →
      (owns (c : Thread nD τ) SC fullShare A : sProp 𝕄)
        ⊢ iprop((∀ B, ⌜Filled v0 32 B⌝ -∗ owns (c : Thread nD τ) SC fullShare B -∗ wp frame (wpE (defs₀ (F := F)) Variants.none c none) Set.univ k K)
            -∗ wp frame (wpE (defs₀ (F := F)) Variants.none c none) Set.univ (stores v0 k n hn) K)
  | 0, hn, A, hA => by
    iintro HA Hk
    unfold stores
    ispecialize Hk $$ %A
    iapply Hk $$ %hA HA
  | n + 1, hn, A, hA => by
    have ih := wp_stores v0 k c K n (by omega) (VecWindow.put A ![31 - n, 0, 0, 0] S1x3x84x53.size (pay (31 - n) v0)) (by
      have := Filled.put (n := 31 - n) (by omega) (A := A) (by rw [show 31 - n = 32 - (n + 1) by omega]; exact hA)
      rw [show 31 - n + 1 = 32 - n by omega] at this
      exact this)
    iintro HA Hk
    unfold stores
    generalize stores v0 k n (by omega) = rest at ih ⊢
    ihave HA' := (show (owns (c : Thread nD τ) SC fullShare A : sProp 𝕄)
      ⊢ iprop(∃ f, ⌜SC.view.read (Elt F) f = A⌝ ∗ SC.view.loc (c : Thread nD τ) ↦[SC.view.set]{fullShare} f) from .rfl) $$ HA
    icases HA' with ⟨%f, %hf, HA⟩
    sl_exec
    iapply ih $$ [HA] Hk
    unfold owns
    iexists _; isplitr; swap; · iexact HA
    ipureintro
    subst hf
    sl_unfold_words
    rw [View.read_writes_cons_put _ _ _ _ _ rfl]
    rfl

/-! ## The copies -/

/-- The windows of an image: row `(c·32 + a)·32 + b` is the image read from `(a, b)` on. -/
def winOf (v0 : Vec F S3x84x84 .f32) : Vec F S3072x53x53 .f32 := fun y =>
  v0 (ix3 ⟨(y 0).val / 1024, by have h : (y 0).val < 3072 := (y 0).isLt; omega⟩
    ⟨(y 0).val / 32 % 32 + (y 1).val, by have h : (y 1).val < 53 := (y 1).isLt; omega⟩
    ⟨(y 0).val % 32 + (y 2).val, by have h : (y 2).val < 53 := (y 2).isLt; omega⟩)

theorem squeeze_ix3 (h : S32x53x53.numel = S32x1x53x53.numel) (x : Fin 32) (y z : Fin 53) :
    Shape.reshapeEquiv (s := S32x1x53x53) (s' := S32x53x53) h (ix3 x y z) = ix4 x (0 : Fin 1) y z :=
  Shape.reshapeEquiv_eq_of_rowMajor h (by
    refine (Shape.rowMajor_val_four _).trans (Eq.trans ?_ (Shape.rowMajor_val_three _).symm)
    show ((x.val * 1 + 0) * 53 + y.val) * 53 + z.val = (x.val * 53 + y.val) * 53 + z.val
    omega)

theorem src_emb (t : Fin 96) (x : Fin 32) (y z : Fin 53) :
    (src t).view.emb (ix3 x y z)
      = (ix4 x (⟨t.val / 32, by have := t.isLt; omega⟩ : Fin 3) (⟨t.val % 32 + y.val, by have := y.isLt; omega⟩ : Fin 88) z : S32x3x88x53.Idx) := by
  show (Rect.unit (s := S32x3x88x53) ![0, t.val / 32, t.val % 32, 0] S32x1x53x53.size (srcInb t)).emb
    (Shape.reshapeEquiv (s := S32x1x53x53) (s' := S32x53x53) _ (ix3 x y z)) = _
  rw [squeeze_ix3]
  funext a
  refine Fin.ext ((ValueKit.rect_emb_unit_val _ _ _ _ _).trans ?_)
  fin_cases a
  · exact Nat.zero_add _
  · exact Nat.add_zero _
  · rfl
  · exact Nat.zero_add _

theorem dst_emb (t : Fin 96) (x : Fin 32) (y z : Fin 53) :
    (dst t).view.emb (ix3 x y z)
      = (ix3 (⟨32 * t.val + x.val, by have := t.isLt; have := x.isLt; omega⟩ : Fin 3072) y z : S3072x53x53.Idx) := by
  show (Rect.unit (s := S3072x53x53) ![32 * t.val, 0, 0] S32x53x53.size (dstInb t)).emb (ix3 x y z) = _
  funext a
  refine Fin.ext ((ValueKit.rect_emb_unit_val _ _ _ _ _).trans ?_)
  fin_cases a
  · rfl
  · exact Nat.zero_add _
  · exact Nat.zero_add _

theorem ix3_of (j : S32x53x53.Idx) : j = ix3 (⟨(j 0).val, (j 0).isLt⟩ : Fin 32) (⟨(j 1).val, (j 1).isLt⟩ : Fin 53) (⟨(j 2).val, (j 2).isLt⟩ : Fin 53) := by
  funext a; fin_cases a <;> rfl

/-- What copy `t` lands is the windows' own rows. -/
theorem landed (c : Dev nD) (t : Fin 96) (v0 : Vec F S3x84x84 .f32) (fs : Buf (Elt F) (SC.view.loc (c : Thread nD τ))) (fd : Buf (Elt F) (HB.view.loc (c : Thread nD τ)))
    (hf : Filled v0 32 (SC.view.read (Elt F) fs)) :
    ∀ i ∈ (dst t).view.set, (dst t).view.write (Elt F) fd (ReadAs.same.apply ((src t).view.read (Elt F) fs)) Finset.univ i
      = (winOf v0 : Buf (Elt F) (HB.view.loc (c : Thread nD τ))) i := by
  intro i hi
  obtain ⟨j, -, rfl⟩ := Finset.mem_map.mp hi
  rw [View.write_emb_of_mem _ _ (Finset.mem_univ j)]
  show fs ((src t).view.emb j) = winOf v0 ((dst t).view.emb j)
  rw [ix3_of j, src_emb, dst_emb]
  have ht := t.isLt
  have h0 : (j 0).val < 32 := (j 0).isLt
  have h1 : (j 1).val < 53 := (j 1).isLt
  have h2 : (j 2).val < 53 := (j 2).isLt
  refine (hf ⟨(j 0).val, h0⟩ ⟨t.val / 32, by omega⟩ ⟨t.val % 32 + (j 1).val, by omega⟩ ⟨(j 2).val, h2⟩ h0).trans ?_
  refine congrArg v0 (funext fun a => Fin.ext ?_)
  fin_cases a
  · show t.val / 32 = (32 * t.val + (j 0).val) / 1024
    omega
  · show t.val % 32 + (j 1).val = (32 * t.val + (j 0).val) / 32 % 32 + (j 1).val
    omega
  · show (j 0).val + (j 2).val = (32 * t.val + (j 0).val) % 32 + (j 2).val
    omega

/-- The blocks of the result, apart and together all of it. -/
theorem mem_dst (t : Fin 96) (i : S3072x53x53.Idx) : i ∈ (dst t).view.set ↔ (i 0).val / 32 = t.val := by
  have h0 : (i 0).val < 3072 := (i 0).isLt
  have h1 : (i 1).val < 53 := (i 1).isLt
  have h2 : (i 2).val < 53 := (i 2).isLt
  refine (ValueKit.mem_set_slice_whole_iff main_v2 (Rect.unit (s := S3072x53x53) ![32 * t.val, 0, 0] S32x53x53.size (dstInb t)) i Rect.mem_set_unit).trans ⟨fun h => ?_, fun h a => ?_⟩
  · have a0 : 32 * t.val ≤ (i 0).val := (h 0).1
    have a1 : (i 0).val < 32 * t.val + 32 := (h 0).2
    omega
  · fin_cases a
    · exact ⟨by show 32 * t.val ≤ (i 0).val; omega, by show (i 0).val < 32 * t.val + 32; omega⟩
    · exact ⟨Nat.zero_le _, by show (i 1).val < 0 + 53; omega⟩
    · exact ⟨Nat.zero_le _, by show (i 2).val < 0 + 53; omega⟩

abbrev dset (c : Dev nD) (t : Fin 96) : Finset (Idx (HB.view.loc (c : Thread nD τ))) := (dst t).view.set

theorem dst_disjoint (c : Dev nD) (t t' : Fin 96) (h : t ≠ t') : Disjoint (dset c t) (dset c t') :=
  Finset.disjoint_left.mpr fun i hi hi' => h (Fin.ext (((mem_dst t i).mp hi).symm.trans ((mem_dst t' i).mp hi')))

theorem dst_cover (c : Dev nD) : (Finset.univ : Finset (Fin 96)).biUnion (dset c) = Finset.univ := by
  refine Finset.ext fun i => iff_of_true ?_ (Finset.mem_univ i)
  have h0 : ((i : S3072x53x53.Idx) 0).val < 3072 := ((i : S3072x53x53.Idx) 0).isLt
  have hb : ((i : S3072x53x53.Idx) 0).val / 32 < 96 := by omega
  have hm := (mem_dst ⟨_, hb⟩ i).mpr rfl
  exact Finset.mem_biUnion.mpr ⟨_, Finset.mem_univ _, hm⟩

/-- One copy's units. -/
abbrev N : ℕ := (dst 0).view.amount (SemLoc.dma (sig := sig) cc0_scratch1.sem)

/-- Copy `t`'s source and destination as lent. -/
abbrev lentS (c : Dev nD) (fs : Buf (Elt F) (SC.view.loc (c : Thread nD τ))) (t : Fin 96) : sProp 𝕄 :=
  (src t).view.loc (c : Thread nD τ) ↦[(src t).view.set]{Transfers.shareTok fullShare 96 t} fs
abbrev lentD (c : Dev nD) (fd : Buf (Elt F) (HB.view.loc (c : Thread nD τ))) (t : Fin 96) : sProp 𝕄 :=
  (dst t).view.loc (c : Thread nD τ) ↦[(dst t).view.set]{fullShare} fd

/-- What copy `t` hands back. -/
def deliv (c : Dev nD) (v0 : Vec F S3x84x84 .f32) (fs : Buf (Elt F) (SC.view.loc (c : Thread nD τ))) (t : Fin 96) : sProp 𝕄 :=
  iprop(lentD c (winOf v0 : Buf (Elt F) (HB.view.loc (c : Thread nD τ))) t ∗ lentS c fs t)

instance deliv_storable (c : Dev nD) (v0 : Vec F S3x84x84 .f32) (fs : Buf (Elt F) (SC.view.loc (c : Thread nD τ))) (t : Fin 96) :
    BI.Storable (upEmb : UEmb _ 𝕄) (deliv c v0 fs t) := by
  unfold deliv; infer_instance

abbrev flying (c : Dev nD) (v0 : Vec F S3x84x84 .f32) (fs : Buf (Elt F) (SC.view.loc (c : Thread nD τ))) (k u : ℕ) : sProp 𝕄 :=
  Transfers.Batch (countersEmb (U := Pipeline.UD sig nD τ)) (c : Thread nD τ) (.dma cc0_scratch1.sem) () N (deliv c v0 fs) k u

theorem ret_bind' {E : Type → Type} {α β : Type} (a : α) (k : α → Prog E β) : (Prog.ret a).bind k = k a := rfl

theorem wp_issues {α : Type} (k : Prog (TpuEff nD τ sig (Elt F) Λ₀ .tc) α) (c : Dev nD) (K : α → sProp 𝕄)
    (v0 : Vec F S3x84x84 .f32) (fs : Buf (Elt F) (SC.view.loc (c : Thread nD τ))) (fd : Buf (Elt F) (HB.view.loc (c : Thread nD τ)))
    (hf : Filled v0 32 (SC.view.read (Elt F) fs)) :
    ∀ (n : ℕ) (hn : n ≤ 96),
      iprop(bigSep (Transfers.pending (96 - n)) (lentS c fs) ∗ bigSep (Transfers.pending (96 - n)) (lentD c fd) ∗ flying c v0 fs (96 - n) 0)
        ⊢ iprop((flying c v0 fs 96 0 -∗ wp frame (wpE (defs₀ (F := F)) Variants.none c none) Set.univ k K)
            -∗ wp frame (wpE (defs₀ (F := F)) Variants.none c none) Set.univ (issues k n hn) K)
  | 0, hn => by
    iintro ⟨-, -, HB⟩ Hk
    unfold issues
    iapply Hk; iexact HB
  | n + 1, hn => by
    have ih := wp_issues k c K v0 fs fd hf n (by omega)
    have hj : 95 - n < 96 := by omega
    rw [show 96 - n = 95 - n + 1 by omega] at ih
    rw [show 96 - (n + 1) = 95 - n by omega, Transfers.bigSep_pending_step (lentS c fs) (95 - n) hj,
      Transfers.bigSep_pending_step (lentD c fd) (95 - n) hj]
    iintro ⟨⟨Hs, HS⟩, ⟨Hd, HD⟩, HB⟩ Hk
    unfold issues
    iapply (Transfers.wp_dmaBatch (countersEmb (U := Pipeline.UD sig nD τ)) Variants.none (c : Thread nD τ) none
      (src := src ⟨95 - n, hj⟩) (dst := dst ⟨95 - n, hj⟩) () N rfl subset_rfl (D := deliv c v0 fs) (j := 95 - n) (u := 0) hj (Nat.zero_le _) (by
        unfold deliv lentD lentS
        rw [pointsTo_congr (landed c ⟨95 - n, hj⟩ v0 fs fd hf)])) $$ [Hs Hd HB]
    · isplitl [Hs]; · iexact Hs
      isplitl [Hd]; · iexact Hd
      iexact HB
    iintro HB
    simp only [ret_bind']
    iapply ih $$ [HS HD HB] Hk
    isplitl [HS]; · iexact HS
    isplitl [HD]; · iexact HD
    iexact HB

theorem N_pos : 0 < N := View.dmaCredit_pos _ (by decide)

theorem wp_waits {α : Type} (k : Prog (TpuEff nD τ sig (Elt F) Λ₀ .tc) α) (c : Dev nD) (K : α → sProp 𝕄)
    (v0 : Vec F S3x84x84 .f32) (fs : Buf (Elt F) (SC.view.loc (c : Thread nD τ))) :
    ∀ (n : ℕ) (h0 : n + 1 ≤ 96) (W : Waits sig Unit),
      iprop(flying c v0 fs 96 (N * (95 - n)) ∗ owes (c : Thread nD τ) 0 W)
        ⊢ iprop((iprop(bigSep Finset.univ (deliv c v0 fs) ∗ semVal ((c : Thread nD τ), SemLoc.dma cc0_scratch1.sem) 0 ∗ ∃ W', owes (c : Thread nD τ) 0 W')
              -∗ wp frame (wpE (defs₀ (F := F)) Variants.none c none) Set.univ k K)
            -∗ wp frame (wpE (defs₀ (F := F)) Variants.none c none) Set.univ (waits k (n + 1) h0) K)
  | 0, h0, W => by
    iintro ⟨HB, HO⟩ Hk
    unfold waits
    iapply (Transfers.wp_waitBatchLast (countersEmb (U := Pipeline.UD sig nD τ)) Variants.none (c : Thread nD τ) none
      (srcw := src ⟨95, by omega⟩) (dstw := dst ⟨95, by omega⟩) () (N := N) rfl N_pos
      (D := deliv c v0 fs) (u := N * (95 - 0)) (by omega)) $$ [HB HO]
    · isplitl [HB] <;> iassumption
    iintro ⟨HD, Hv, HO⟩
    simp only [ret_bind']
    unfold waits
    iapply Hk
    isplitl [HD]; · iexact HD
    isplitl [Hv]; · iexact Hv
    iexists _; iexact HO
  | n + 1, h0, W => by
    have ih := wp_waits k c K v0 fs n (by omega) (insert (SemLoc.dma cc0_scratch1.sem, ()) W)
    have hp := N_pos
    have hu : N * (95 - (n + 1)) + N = N * (95 - n) := by
      rw [← Nat.mul_succ]; congr 1; omega
    have hl : N * (95 - n) < N * 96 := Nat.mul_lt_mul_of_pos_left (by omega) hp
    rw [← hu] at ih hl
    iintro ⟨HB, HO⟩ Hk
    unfold waits
    iapply (Transfers.wp_waitBatch (countersEmb (U := Pipeline.UD sig nD τ)) Variants.none (c : Thread nD τ) none
      (srcw := src ⟨95 - (n + 1), by omega⟩) (dstw := dst ⟨95 - (n + 1), by omega⟩) () (N := N) rfl
      (D := deliv c v0 fs) (u := N * (95 - (n + 1))) hl) $$ [HB HO]
    · isplitl [HB] <;> iassumption
    iintro ⟨HB, HO⟩
    simp only [ret_bind']
    iapply ih $$ [HB HO] Hk
    isplitl [HB] <;> iassumption

/-- The scratch lent to every copy at once, a share each, and what makes it whole again. -/
theorem scratch_lend (c : Dev nD) (fs : Buf (Elt F) (SC.view.loc (c : Thread nD τ))) :
    (SC.view.loc (c : Thread nD τ) ↦[SC.view.set]{fullShare} fs : sProp 𝕄)
      ⊢ iprop(bigSep Finset.univ (lentS c fs) ∗ (bigSep Finset.univ (lentS c fs) -∗ SC.view.loc (c : Thread nD τ) ↦[SC.view.set]{fullShare} fs)) := by
  have hsub : ∀ t : Fin 96, (src t).view.set ⊆ SC.view.set := fun t => by
    rw [show SC.view.set = Finset.univ from View.set_whole _]; exact Finset.subset_univ _
  have hall := BI.bigSep_sep Finset.univ (lentS (F := F) c fs)
    (fun t : Fin 96 => (SC.view.loc (c : Thread nD τ) ↦[SC.view.set \ (src t).view.set]{Transfers.shareTok fullShare 96 t} fs : sProp 𝕄))
  iintro H
  ihave H' := (Transfers.pointsTo_toks_split (Ix := Unit) (Name := ℕ) (U := Pipeline.UD sig nD τ) (Lvl := ℕ) fullShare 96) $$ H
  icases H' with ⟨Hr, Ht⟩
  ihave Ht' := (show bigSep Finset.univ (fun t : Fin 96 => (SC.view.loc (c : Thread nD τ) ↦[SC.view.set]{Transfers.shareTok fullShare 96 t} fs : sProp 𝕄))
      ⊢ iprop(bigSep Finset.univ (lentS (F := F) c fs)
        ∗ bigSep Finset.univ (fun t : Fin 96 => (SC.view.loc (c : Thread nD τ) ↦[SC.view.set \ (src t).view.set]{Transfers.shareTok fullShare 96 t} fs : sProp 𝕄))) from
    (BI.bigSep_mono fun t _ => (pointsTo_split_subset (hsub t)).1).trans (Entails.of_eq hall)) $$ Ht
  icases Ht' with ⟨HL, HR⟩
  isplitl [HL]; · iexact HL
  iintro HL
  iapply (Transfers.pointsTo_toks_join (Ix := Unit) (Name := ℕ) (U := Pipeline.UD sig nD τ) (Lvl := ℕ) fullShare 96)
  isplitl [Hr]; · iexact Hr
  iapply (show iprop(bigSep Finset.univ (lentS (F := F) c fs)
        ∗ bigSep Finset.univ (fun t : Fin 96 => (SC.view.loc (c : Thread nD τ) ↦[SC.view.set \ (src t).view.set]{Transfers.shareTok fullShare 96 t} fs : sProp 𝕄)))
      ⊢ bigSep Finset.univ (fun t : Fin 96 => (SC.view.loc (c : Thread nD τ) ↦[SC.view.set]{Transfers.shareTok fullShare 96 t} fs : sProp 𝕄)) from
    (Entails.of_eq hall.symm).trans (BI.bigSep_mono fun t _ => (pointsTo_split_subset (hsub t)).2))
  isplitl [HL] <;> iassumption

theorem result_blocks (c : Dev nD) (fd : Buf (Elt F) (HB.view.loc (c : Thread nD τ))) :
    (HB.view.loc (c : Thread nD τ) ↦{fullShare} fd : sProp 𝕄) = bigSep Finset.univ (lentD c fd) :=
  Ring.pointsTo_blocks (dset c) (dst_disjoint c) (dst_cover c) fd

theorem readAt_all {sp : Space} (M : Memref sig .tc sp S3x84x84 .f32) (f : M.view.ty.Contents (Elt F)) :
    M.view.readAt (Elt F) (Rect.unit (s := S3x84x84) ![0, 0, 0] S3x84x84.size inb_S3x84x84_S3x84x84_0_0_0).toLoadRect f = M.view.read (Elt F) f := by
  funext y
  show M.view.read (Elt F) f ((Rect.unit (s := S3x84x84) ![0, 0, 0] S3x84x84.size inb_S3x84x84_S3x84x84_0_0_0).emb y) = _
  refine congrArg _ (funext fun a => Fin.ext ((ValueKit.rect_emb_unit_val _ _ _ _ _).trans ?_))
  fin_cases a <;> exact Nat.zero_add _

/-- The body: the result's buffer at the windows of the image read. -/
theorem wp_body (c : Dev nD) (arg0 : Memref sig .tc .vmem S3x84x84 .f32) (h0 : arg0.IsWhole) (A : Vec F S3x84x84 .f32)
    (fd : Buf (Elt F) (HB.view.loc (c : Thread nD τ))) (W : Waits sig Unit) (K : PUnit → sProp 𝕄) :
    iprop(owns (c : Thread nD τ) arg0 fullShare A ∗ (∃ B, owns (c : Thread nD τ) SC fullShare B) ∗ (HB.view.loc (c : Thread nD τ) ↦{fullShare} fd)
        ∗ semVal ((c : Thread nD τ), SemLoc.dma cc0_scratch1.sem) 0 ∗ owes (c : Thread nD τ) 0 W
        ∗ (iprop(owns (c : Thread nD τ) arg0 fullShare A ∗ (∃ B, owns (c : Thread nD τ) SC fullShare B)
            ∗ (HB.view.loc (c : Thread nD τ) ↦{fullShare} (winOf A : Buf (Elt F) (HB.view.loc (c : Thread nD τ))))
            ∗ semVal ((c : Thread nD τ), SemLoc.dma cc0_scratch1.sem) 0 ∗ ∃ W', owes (c : Thread nD τ) 0 W') -∗ K ⟨⟩))
      ⊢ wp frame (wpE (defs₀ (F := F)) Variants.none c none) Set.univ (cc0__im2col_kernel (F := F) arg0 h0 HB (Memref.isWhole_whole _) SC (Memref.isWhole_whole _) cc0_scratch1) K := by
  rw [body_eq]
  iintro ⟨HA, ⟨%B, HB⟩, HD, Hv, HO, Hk⟩
  unfold body
  generalize hr : (fun v0 : Vec F S3x84x84 .f32 => stores v0 (issues (waits (pure PUnit.unit) 96 le_rfl) 96 le_rfl) 32 le_rfl) = rest
  ihave HA' := (show (owns (c : Thread nD τ) arg0 fullShare A : sProp 𝕄)
    ⊢ iprop(∃ f, ⌜arg0.view.read (Elt F) f = A⌝ ∗ arg0.view.loc (c : Thread nD τ) ↦[arg0.view.set]{fullShare} f) from .rfl) $$ HA
  icases HA' with ⟨%f, %hf, HA⟩
  sl_exec
  subst hr
  rw [show View.readAt (Elt F) arg0.view (Rect.unit (s := S3x84x84) ![0, 0, 0] S3x84x84.size inb_S3x84x84_S3x84x84_0_0_0).toLoadRect f = A from (readAt_all arg0 f).trans hf]
  iapply (wp_stores A _ c K 32 le_rfl B fun b _ _ _ h => absurd h (Nat.not_lt_zero _)) $$ HB
  iintro %B' %hB HB
  unfold owns
  icases HB with ⟨%fs, %hfs, HB⟩
  subst hfs
  ihave HB' := (scratch_lend c fs) $$ HB
  icases HB' with ⟨HS, Hback⟩
  ihave HD' := (Entails.of_eq (result_blocks c fd)) $$ HD
  imod (Transfers.batch_alloc' (Lvl := ℕ) (countersEmb (U := Pipeline.UD sig nD τ)) (c : Thread nD τ) () N (deliv c A fs) (sm := .dma cc0_scratch1.sem) (E := Set.univ)) $$ Hv with Hv
  iapply (wp_issues _ c K A fs fd hB 96 le_rfl) $$ [HS HD' Hv]
  · rw [show 96 - 96 = 0 from rfl, ← Transfers.bigSep_pending_zero, ← Transfers.bigSep_pending_zero]
    isplitl [HS]; · iexact HS
    isplitl [HD']; · iexact HD'
    iexact Hv
  iintro Hv
  iapply (wp_waits _ c K A fs 95 le_rfl W) $$ [Hv HO]
  · isplitl [Hv] <;> iassumption
  iintro ⟨HL, Hv, HO⟩
  ihave HL' := (show bigSep Finset.univ (deliv c A fs)
      ⊢ iprop(bigSep Finset.univ (lentD c (winOf A : Buf (Elt F) (HB.view.loc (c : Thread nD τ)))) ∗ bigSep Finset.univ (lentS c fs))
    from Entails.of_eq (BI.bigSep_sep Finset.univ (lentD c (winOf A : Buf (Elt F) (HB.view.loc (c : Thread nD τ)))) (lentS c fs))) $$ HL
  icases HL' with ⟨HD, HS⟩
  ihave HD' := (Entails.of_eq (result_blocks c (winOf A : Buf (Elt F) (HB.view.loc (c : Thread nD τ)))).symm) $$ HD
  ihave HB := Hback $$ HS
  sl_step
  iapply Hk
  isplitl [HA]
  · iexists f; isplitr; · ipureintro; exact hf
    iexact HA
  isplitl [HB]
  · iexists _, fs; isplitr; · ipureintro; rfl
    iexact HB
  isplitl [HD']; · iexact HD'
  isplitl [Hv]; · iexact Hv
  iexact HO

end Cert.WindowsIdeal.Hand

end
-- ==== Proof.WinBodyI.lean ====
/-
  The launch of the kernel `WindowsIdeal` prints: its one grid point leaves the result's buffer at the windows of the image staged.
-/
module

public import proofs.«01_k».proof.Proof.WinCopyI
public import proofs.«01_k».proof.Proof.Gen.WindowsIdeal.Frame
public import Idealize.ShloMosaic.Lib.Pipeline.Frame
public import Idealize.ShloMosaic.Lib.Pipeline.Value

@[expose] public section

set_option maxRecDepth 16384

noncomputable section

namespace Cert.WindowsIdeal.Hand

open Cert.WindowsIdeal Cert.WindowsIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## What the body holds besides its image -/

abbrev osem0 : Fin 1 → SemLoc sig := ![SemLoc.dma 1]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch1.sem) 0 := by
  rw [Pipeline.ownSems0_eq_of_list c osem0 [0] (by decide) (by decide)]; rfl

abbrev H0 : Finset (Ref sig .tc) := ∅
abbrev R0 : Finset (Ref sig .tc) := {main_v2}
theorem H0_sub : H0 ⊆ Pipeline.restRefs sig spec0 := by decide
theorem R0_sub : R0 ⊆ Pipeline.restRefs sig spec0 \ H0 := by decide

theorem inv_eq (G : (c : Dev nD) → (b : Ref sig .tc) → Buf (Elt F) ((c.tc : Thread nD τ).loc b)) (c : Dev nD) :
    (Pipeline.ΦDRG osem0 spec0 H0 R0 (V m) G c : sProp 𝕄)
      = iprop((∃ B, owns (c : Thread nD τ) SC fullShare B) ∗ (∃ r, prngReg c r)
          ∗ semVal ((c : Thread nD τ), SemLoc.dma cc0_scratch1.sem) 0 ∗ emp
          ∗ (HB.view.loc (c : Thread nD τ) ↦{fullShare} G c main_v2)) := by
  rw [Pipeline.ΦDRG_eq, scopedRest0_eq, ownSems00_eq]
  unfold Pipeline.routed
  rw [bigSep_empty, bigSep_singleton]
  simp only [SC, owns_whole]; try rfl

/-- The result's buffer after the launch: the windows of the image staged. -/
def result (c : Dev nD) : Vec F S3072x53x53 .f32 := winOf (iblk m c 0 t0_0)

def G (c : Dev nD) (b : Ref sig .tc) : Buf (Elt F) ((c.tc : Thread nD τ).loc b) :=
  Function.update (V m c) main_v2 (result m c : Buf (Elt F) ((c.tc : Thread nD τ).loc main_v2)) b

theorem G_v2 (c : Dev nD) : G m c main_v2 = result m c := Function.update_self ..

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Pipeline.ΦDRG osem0 spec0 H0 R0 (V m) (if t = 0 then V m else G m) c
  q _ := fullShare
  owed _ := 0

theorem A_eq (c : Dev nD) (w : Fin cfg0.W) : (dats m 0 c).A w = V m c (Pipeline.arrRef spec0 w) := by dsimp only [dats]

/-- The body finds the image. -/
theorem before_0 (c : Dev nD) (t : Fin cfg0.N) (d) : (dats m 0 c).before 0 t d = iblk m c 0 t :=
  ((dats m 0 c).before_in_eq_fetched 0 rfl (fun _ => rfl) (fun _ _ _ => rfl) (fun t => by
      rw [show (dats m 0 c).after 0 t = iblk m c 0 t from rfl]; unfold Dat.blockOf iblk; rw [A_eq]; try rfl) t d).trans
    (by unfold Dat.fetched Dat.blockOf iblk; rw [A_eq]; try rfl)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  simp only
  have e0 : (dats m 0 c).Φ t.castSucc = Pipeline.ΦDRG osem0 spec0 H0 R0 (V m) (V m) c := by
    show Pipeline.ΦDRG osem0 spec0 H0 R0 (V m) (if t.castSucc = 0 then V m else G m) c = _
    rw [if_pos (by rw [fin_N0 t]; rfl)]
  have e1 : (dats m 0 c).Φ t.succ = Pipeline.ΦDRG osem0 spec0 H0 R0 (V m) (G m) c := by
    show Pipeline.ΦDRG osem0 spec0 H0 R0 (V m) (if t.succ = 0 then V m else G m) c = _
    rw [if_neg (Fin.succ_ne_zero t)]
  rw [e0, e1, inv_eq, inv_eq, G_v2]
  unfold Dat.owesAt Pipeline.owesWithin
  rw [show (dats m 0 c).owed t.castSucc = 0 from rfl, show (dats m 0 c).owed t.succ = 0 from rfl]
  iintro ⟨⟨HB, Hg, Hv, He, HD⟩, ⟨%W, -, HW⟩, ⟨%d0, H0⟩⟩
  rw [before_0 m c t d0]
  iapply (wp_body c (win0_0.stage (cfg0.slots t 0)) (hstage0_0 0) (iblk m c 0 t) (V m c main_v2) W _)
  isplitl [H0]; · iexact H0
  isplitl [HB]; · iexact HB
  isplitl [HD]; · iexact HD
  isplitl [Hv]; · iexact Hv
  isplitl [HW]; · iexact HW
  iintro ⟨H0, HB, HD, Hv, ⟨%W', HW'⟩⟩
  isplitl [HB Hg Hv He HD]
  · isplitl [HB]; · iexact HB
    isplitl [Hg]; · iexact Hg
    isplitl [Hv]; · iexact Hv
    isplitl [He]; · iexact He
    unfold result
    rw [← fin_N0 t]
    iexact HD
  isplitl [HW']
  · iexists W'; isplitr; · ipureintro; exact fun _ _ => Or.inl trivial
    iexact HW'
  iexact H0

/-! ## The launch -/

set_option maxHeartbeats 800000 in
theorem hmain' (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

-- the launch theorem's implicit arguments are found by unfolding plain definitions in a metavariable's type
set_option backward.isDefEq.respectTransparency.types false in
/-- Every execution ends, the result's buffer at the windows of the image staged and every counter at zero. -/
theorem run_main :
    θ_run defs (onTc (τ := τ) (main (F := F))) (s₀ m ρ)
      (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m Variants.none) (hA := A_eq m) (G := G m)
    (hin := fun _ => .rfl) (hout := fun _ => .rfl)

/-- What a claim reads off the run: the argument as launched, the result at the windows. -/
theorem run_post :
    θ_run defs (onTc (τ := τ) (main (F := F))) (s₀ m ρ)
      (fun r => (∀ c : Dev nD, r.2.mem ((c.tc : Thread nD τ).loc main_arg0) = m ((c.tc : Thread nD τ).loc main_arg0)
        ∧ r.2.mem ((c.tc : Thread nD τ).loc main_v2) = result m c) ∧ r.2.sem = fun _ => 0) :=
  (θ_run defs _ _).mono (fun _ h => ⟨fun c =>
    ⟨((h.1.toR c).2 main_arg0 (Finset.mem_sdiff.mpr ⟨Pipeline.mem_restRefs_of main_arg0 (by decide) (by decide), by decide⟩)).trans (V_main_arg0 m c),
      (h.1.written c (Finset.mem_singleton_self main_v2)).trans (G_v2 m c)⟩, h.2⟩) (run_main m ρ)

end Cert.WindowsIdeal.Hand
end
-- ==== Proof.WinRefRun.lean ====
/-
  The run of the reference `WindowsReferenceIdeal` prints: every buffer ends at the fold of the program's operations over the launch
  contents, so the result is one term of the image (`out`) and the image stays as it was.
-/
module

public import proofs.«01_k».proof.Proof.Gen.WindowsReferenceIdeal
public import Idealize.ShloMosaic.Lib.StableHlo.Run
public import Idealize.ShloMosaic.Lib.Quiescent

@[expose] public section

noncomputable section

namespace Cert.WindowsReferenceIdeal.Hand

open Cert.WindowsReferenceIdeal Cert.WindowsReferenceIdeal.Gen
open Idealize.ShloMosaic Idealize.ShloMosaic.TcCoe Idealize.ShloMosaic.StableHlo Idealize.SL.Sem

variable {F : FTy → Type} [FloatOps F]

/-! ## The result as a term -/

/-- The image by channel, inside a border of zeros. -/
def padded (x : FVec F S64x64x3 .f32) : FVec F S3x84x84 .f32 :=
  pad S3x84x84 ![0, 10, 10] ![0, 10, 10] ![0, 0, 0] (transpose S3x64x64 [2, 0, 1] x transposes_S64x64x3_S3x64x64_2_0_1)
    (sitofp .f32 (constantI S_ 32 0#32)) pads_S3x64x64_S3x84x84_000_10100_10100 h_S_

/-- Offset inside a patch plus the patch's own place, along one axis. -/
def along : IVec S32x53 32 :=
  addi (broadcastInDim S32x53 ![0, 1] bcast_S32x1_S32x53_0_1 (broadcastInDim S32x1 ![0] bcast_S32_S32x1_0 (iotaInDim S32 32 0)))
    (broadcastInDim S32x53 ![0, 1] bcast_S1x53_S32x53_0_1 (broadcastInDim S1x53 ![1] bcast_S53_S1x53_1 (iotaInDim S53 32 0)))

/-- The image row of every entry of every patch, a negative one counted from the end, -/
def rowsAt : IVec S32x1x53x1 32 :=
  select
    (cmpi .slt (broadcastInDim S32x1x53x1 ![0, 2] bcast_S32x53_S32x1x53x1_0_2 along)
      (broadcastInDim S32x1x53x1 ![] bcast_S_S32x1x53x1 (constantI S_ 32 0#32)))
    (addi (broadcastInDim S32x1x53x1 ![0, 2] bcast_S32x53_S32x1x53x1_0_2 along)
      (broadcastInDim S32x1x53x1 ![] bcast_S_S32x1x53x1 (constantI S_ 32 84#32)))
    (broadcastInDim S32x1x53x1 ![0, 2] bcast_S32x53_S32x1x53x1_0_2 along)

/-- the image column likewise, -/
def colsAt : IVec S1x32x1x53 32 :=
  select
    (cmpi .slt (broadcastInDim S1x32x1x53 ![1, 3] bcast_S32x53_S1x32x1x53_1_3 along)
      (broadcastInDim S1x32x1x53 ![] bcast_S_S1x32x1x53 (constantI S_ 32 0#32)))
    (addi (broadcastInDim S1x32x1x53 ![1, 3] bcast_S32x53_S1x32x1x53_1_3 along)
      (broadcastInDim S1x32x1x53 ![] bcast_S_S1x32x1x53 (constantI S_ 32 84#32)))
    (broadcastInDim S1x32x1x53 ![1, 3] bcast_S32x53_S1x32x1x53_1_3 along)

/-- and the two side by side. -/
def places : IVec S32x32x53x53x2 32 :=
  concatenate S32x32x53x53x2 4
    [⟨S32x32x53x53x1, broadcastInDim S32x32x53x53x1 ![0, 1, 2, 3] bcast_S32x32x53x53_S32x32x53x53x1_0_1_2_3
        (broadcastInDim S32x32x53x53 ![0, 1, 2, 3] bcast_S32x1x53x1_S32x32x53x53_0_1_2_3 rowsAt)⟩,
      ⟨S32x32x53x53x1, broadcastInDim S32x32x53x53x1 ![0, 1, 2, 3] bcast_S32x32x53x53_S32x32x53x53x1_0_1_2_3
        (broadcastInDim S32x32x53x53 ![0, 1, 2, 3] bcast_S1x32x1x53_S32x32x53x53_0_1_2_3 colsAt)⟩]
    concatenates_S32x32x53x53x1_S32x32x53x53x1_S32x32x53x53x2_d4

/-- The entries of the windows by channel, offset and place. -/
def picked (A : FVec F S3x84x84 .f32) : FVec F S3x32x32x53x53 .f32 :=
  Host.gather gather_S3x84x84_S32x32x53x53x2_S3x32x32x53x53_0_12_n_n_12_4_311 A places

/-- The reference's result. -/
def out (x : FVec F S64x64x3 .f32) : FVec F S3072x53x53 .f32 :=
  shapeCast S3072x53x53 (picked (padded x)) shapeCasts_S3x32x32x53x53_S3072x53x53

/-! ## The run -/

/-- The operations of the function `_pad` on the image `x`, the border's value `z` and one call's buffers. -/
abbrev padOps (x : TRef sig ⟨S3x64x64, .f32⟩) (z : TRef sig ⟨S_, .i32⟩) (φ : fn_pad.Bufs) : List (HloOp τ sig (Elt F)) :=
  [ TRef.unary z φ.v0 (sitofp .f32),
    TRef.binary x φ.v0 φ.v1
      (fun x v => pad S3x84x84 ![0, 10, 10] ![0, 10, 10] ![0, 0, 0] x v pads_S3x64x64_S3x84x84_000_10100_10100 h_S_) ]

/-- The program's operations before the call of `_pad`, -/
abbrev ops₁ : List (HloOp τ sig (Elt F)) :=
  [ unary main_arg0 main_v0 ((transpose S3x64x64 [2, 0, 1] · transposes_S64x64x3_S3x64x64_2_0_1) : (⟨S64x64x3, .f32⟩ : BufTy).Contents (Elt F) → (⟨S3x64x64, .f32⟩ : BufTy).Contents (Elt F)),
    nullary main_c (constantI S_ 32 0#32) ]

/-- those after it, -/
abbrev ops₂ : List (HloOp τ sig (Elt F)) :=
  [ nullary main_v2 (iotaInDim S32 32 0),
    unary main_v2 main_v3 (broadcastInDim S32x1 ![0] bcast_S32_S32x1_0 : (⟨S32, .i32⟩ : BufTy).Contents (Elt F) → (⟨S32x1, .i32⟩ : BufTy).Contents (Elt F)),
    nullary main_v4 (iotaInDim S53 32 0),
    unary main_v4 main_v5 (broadcastInDim S1x53 ![1] bcast_S53_S1x53_1 : (⟨S53, .i32⟩ : BufTy).Contents (Elt F) → (⟨S1x53, .i32⟩ : BufTy).Contents (Elt F)),
    unary main_v3 main_v6 (broadcastInDim S32x53 ![0, 1] bcast_S32x1_S32x53_0_1 : (⟨S32x1, .i32⟩ : BufTy).Contents (Elt F) → (⟨S32x53, .i32⟩ : BufTy).Contents (Elt F)),
    unary main_v5 main_v7 (broadcastInDim S32x53 ![0, 1] bcast_S1x53_S32x53_0_1 : (⟨S1x53, .i32⟩ : BufTy).Contents (Elt F) → (⟨S32x53, .i32⟩ : BufTy).Contents (Elt F)),
    binary main_v6 main_v7 main_v8 (addi : (⟨S32x53, .i32⟩ : BufTy).Contents (Elt F) → (⟨S32x53, .i32⟩ : BufTy).Contents (Elt F) → (⟨S32x53, .i32⟩ : BufTy).Contents (Elt F)),
    nullary main_v9 (iotaInDim S32 32 0),
    unary main_v9 main_v10 (broadcastInDim S32x1 ![0] bcast_S32_S32x1_0 : (⟨S32, .i32⟩ : BufTy).Contents (Elt F) → (⟨S32x1, .i32⟩ : BufTy).Contents (Elt F)),
    nullary main_v11 (iotaInDim S53 32 0),
    unary main_v11 main_v12 (broadcastInDim S1x53 ![1] bcast_S53_S1x53_1 : (⟨S53, .i32⟩ : BufTy).Contents (Elt F) → (⟨S1x53, .i32⟩ : BufTy).Contents (Elt F)),
    unary main_v10 main_v13 (broadcastInDim S32x53 ![0, 1] bcast_S32x1_S32x53_0_1 : (⟨S32x1, .i32⟩ : BufTy).Contents (Elt F) → (⟨S32x53, .i32⟩ : BufTy).Contents (Elt F)),
    unary main_v12 main_v14 (broadcastInDim S32x53 ![0, 1] bcast_S1x53_S32x53_0_1 : (⟨S1x53, .i32⟩ : BufTy).Contents (Elt F) → (⟨S32x53, .i32⟩ : BufTy).Contents (Elt F)),
    binary main_v13 main_v14 main_v15 (addi : (⟨S32x53, .i32⟩ : BufTy).Contents (Elt F) → (⟨S32x53, .i32⟩ : BufTy).Contents (Elt F) → (⟨S32x53, .i32⟩ : BufTy).Contents (Elt F)),
    unary main_v8 main_v16 (broadcastInDim S32x1x53x1 ![0, 2] bcast_S32x53_S32x1x53x1_0_2 : (⟨S32x53, .i32⟩ : BufTy).Contents (Elt F) → (⟨S32x1x53x1, .i32⟩ : BufTy).Contents (Elt F)),
    unary main_v15 main_v17 (broadcastInDim S1x32x1x53 ![1, 3] bcast_S32x53_S1x32x1x53_1_3 : (⟨S32x53, .i32⟩ : BufTy).Contents (Elt F) → (⟨S1x32x1x53, .i32⟩ : BufTy).Contents (Elt F)),
    nullary main_c_0 (constantI S_ 32 0#32),
    unary main_c_0 main_v18 (broadcastInDim S32x1x53x1 ![] bcast_S_S32x1x53x1 : (⟨S_, .i32⟩ : BufTy).Contents (Elt F) → (⟨S32x1x53x1, .i32⟩ : BufTy).Contents (Elt F)),
    binary main_v16 main_v18 main_v19 (cmpi .slt : (⟨S32x1x53x1, .i32⟩ : BufTy).Contents (Elt F) → (⟨S32x1x53x1, .i32⟩ : BufTy).Contents (Elt F) → (⟨S32x1x53x1, .i1⟩ : BufTy).Contents (Elt F)),
    nullary main_c_1 (constantI S_ 32 84#32),
    unary main_c_1 main_v20 (broadcastInDim S32x1x53x1 ![] bcast_S_S32x1x53x1 : (⟨S_, .i32⟩ : BufTy).Contents (Elt F) → (⟨S32x1x53x1, .i32⟩ : BufTy).Contents (Elt F)),
    binary main_v16 main_v20 main_v21 (addi : (⟨S32x1x53x1, .i32⟩ : BufTy).Contents (Elt F) → (⟨S32x1x53x1, .i32⟩ : BufTy).Contents (Elt F) → (⟨S32x1x53x1, .i32⟩ : BufTy).Contents (Elt F)),
    ternary main_v19 main_v21 main_v16 main_v22 (select : (⟨S32x1x53x1, .i1⟩ : BufTy).Contents (Elt F) → (⟨S32x1x53x1, .i32⟩ : BufTy).Contents (Elt F) → (⟨S32x1x53x1, .i32⟩ : BufTy).Contents (Elt F) → (⟨S32x1x53x1, .i32⟩ : BufTy).Contents (Elt F)),
    nullary main_c_2 (constantI S_ 32 0#32),
    unary main_c_2 main_v23 (broadcastInDim S1x32x1x53 ![] bcast_S_S1x32x1x53 : (⟨S_, .i32⟩ : BufTy).Contents (Elt F) → (⟨S1x32x1x53, .i32⟩ : BufTy).Contents (Elt F)),
    binary main_v17 main_v23 main_v24 (cmpi .slt : (⟨S1x32x1x53, .i32⟩ : BufTy).Contents (Elt F) → (⟨S1x32x1x53, .i32⟩ : BufTy).Contents (Elt F) → (⟨S1x32x1x53, .i1⟩ : BufTy).Contents (Elt F)),
    nullary main_c_3 (constantI S_ 32 84#32),
    unary main_c_3 main_v25 (broadcastInDim S1x32x1x53 ![] bcast_S_S1x32x1x53 : (⟨S_, .i32⟩ : BufTy).Contents (Elt F) → (⟨S1x32x1x53, .i32⟩ : BufTy).Contents (Elt F)),
    binary main_v17 main_v25 main_v26 (addi : (⟨S1x32x1x53, .i32⟩ : BufTy).Contents (Elt F) → (⟨S1x32x1x53, .i32⟩ : BufTy).Contents (Elt F) → (⟨S1x32x1x53, .i32⟩ : BufTy).Contents (Elt F)),
    ternary main_v24 main_v26 main_v17 main_v27 (select : (⟨S1x32x1x53, .i1⟩ : BufTy).Contents (Elt F) → (⟨S1x32x1x53, .i32⟩ : BufTy).Contents (Elt F) → (⟨S1x32x1x53, .i32⟩ : BufTy).Contents (Elt F) → (⟨S1x32x1x53, .i32⟩ : BufTy).Contents (Elt F)),
    unary main_v22 main_v28 (broadcastInDim S32x32x53x53 ![0, 1, 2, 3] bcast_S32x1x53x1_S32x32x53x53_0_1_2_3 : (⟨S32x1x53x1, .i32⟩ : BufTy).Contents (Elt F) → (⟨S32x32x53x53, .i32⟩ : BufTy).Contents (Elt F)),
    unary main_v27 main_v29 (broadcastInDim S32x32x53x53 ![0, 1, 2, 3] bcast_S1x32x1x53_S32x32x53x53_0_1_2_3 : (⟨S1x32x1x53, .i32⟩ : BufTy).Contents (Elt F) → (⟨S32x32x53x53, .i32⟩ : BufTy).Contents (Elt F)),
    unary main_v28 main_v30 (broadcastInDim S32x32x53x53x1 ![0, 1, 2, 3] bcast_S32x32x53x53_S32x32x53x53x1_0_1_2_3 : (⟨S32x32x53x53, .i32⟩ : BufTy).Contents (Elt F) → (⟨S32x32x53x53x1, .i32⟩ : BufTy).Contents (Elt F)),
    unary main_v29 main_v31 (broadcastInDim S32x32x53x53x1 ![0, 1, 2, 3] bcast_S32x32x53x53_S32x32x53x53x1_0_1_2_3 : (⟨S32x32x53x53, .i32⟩ : BufTy).Contents (Elt F) → (⟨S32x32x53x53x1, .i32⟩ : BufTy).Contents (Elt F)),
    binary main_v30 main_v31 main_v32 ((fun a b => concatenate S32x32x53x53x2 4 [⟨S32x32x53x53x1, a⟩, ⟨S32x32x53x53x1, b⟩] concatenates_S32x32x53x53x1_S32x32x53x53x1_S32x32x53x53x2_d4) : (⟨S32x32x53x53x1, .i32⟩ : BufTy).Contents (Elt F) → (⟨S32x32x53x53x1, .i32⟩ : BufTy).Contents (Elt F) → (⟨S32x32x53x53x2, .i32⟩ : BufTy).Contents (Elt F)),
    binary main_v1 main_v32 main_v33 ((fun x i => Host.gather gather_S3x84x84_S32x32x53x53x2_S3x32x32x53x53_0_12_n_n_12_4_311 x i) : (⟨S3x84x84, .f32⟩ : BufTy).Contents (Elt F) → (⟨S32x32x53x53x2, .i32⟩ : BufTy).Contents (Elt F) → (⟨S3x32x32x53x53, .f32⟩ : BufTy).Contents (Elt F)),
    reshape main_v33 main_v34 (rfl : (.f32 : EltTy) = .f32) shapeCasts_S3x32x32x53x53_S3072x53x53 ]

/-- and all of them, in order. -/
abbrev ops : List (HloOp τ sig (Elt F)) := ops₁ ++ (padOps (.of main_v0) (.of main_c) main_call0 ++ ops₂)

set_option maxHeartbeats 4000000 in
theorem out_eq (V : Valuation τ sig (Elt F)) :
    after ops V (main_v34 : DevRef τ sig) = out (V (main_arg0 : DevRef τ sig)) := by
  simp only [ops, ops₁, ops₂, padOps, List.cons_append, List.nil_append]
  after_results_simp
  rfl

set_option maxHeartbeats 4000000 in
theorem arg0_eq (V : Valuation τ sig (Elt F)) : after ops V (main_arg0 : DevRef τ sig) = V (main_arg0 : DevRef τ sig) := by
  simp only [ops, ops₁, ops₂, padOps, List.cons_append, List.nil_append, after_cons, after_nil]
  rfl

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., nullary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., reshape_bufs_sub ..⟩

theorem pad_eq (x : TRef sig ⟨S3x64x64, .f32⟩) (z : TRef sig ⟨S_, .i32⟩) (φ : fn_pad.Bufs) :
    fn_pad.body (F := F) x z φ = seq (padOps x z φ) := rfl

set_option maxHeartbeats 4000000 in
set_option maxRecDepth 4096 in
theorem main_eq (c : Dev nD) : main (F := F) c = seq ops := by
  rw [seq_append, seq_append, ← pad_eq]
  rfl

theorem no_scoped_refs : (Finset.univ.filter fun b : Ref sig .tc => b.isScoped) = ∅ := by decide
theorem no_scoped_sems : (Finset.univ.filter fun sm : SemLoc sig => sm.isScoped .tc) = ∅ := by decide

/-- Every execution ends with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq no_scoped_refs no_scoped_sems defs main (fun _ => ops) main_eq (fun _ => ops_sub) m ρ

/-- Every execution ends with the result at `out` of the image as launched, the image as launched and every counter at zero. -/
theorem run_out (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v34) = out (m ((c.tc : Thread nD τ).loc main_arg0))
        ∧ r.2.mem ((c.tc : Thread nD τ).loc main_arg0) = m ((c.tc : Thread nD τ).loc main_arg0))
      ∧ r.2.sem = fun _ => 0 :=
  (θ_run defs _ _).mono
    (fun r h => ⟨fun c => ⟨(h c main_v34).trans (out_eq _), (h c main_arg0).trans (arg0_eq _)⟩,
      sem_eq_zero_of_no_sems (by decide) r.2⟩)
    (run_main m ρ)

end Cert.WindowsReferenceIdeal.Hand
end
-- ==== Proof.WinValue.lean ====
/-
  The windows the kernel copies out of the image are the reference's: both hold, at channel, offset and place, the entry of the image inside
  its border at the place plus the offset.
-/
module

public import proofs.«01_k».proof.Proof.FoldRefValue
public import proofs.«01_k».proof.Proof.WinBodyI
public import proofs.«01_k».proof.Proof.WinRefRun

@[expose] public section

noncomputable section

namespace Cert.WindowsIdeal.Hand

open Cert.WindowsIdeal Cert.WindowsIdeal.Gen
open Idealize.ShloMosaic Idealize.ShloMosaic.TcCoe Idealize.ShloMosaic.ValueIdx
open Idealize.SL.Sem
open Cert.WindowsReferenceIdeal.Hand (padded picked places out)
open Cert.FoldReferenceIdeal.Hand (along_at places_row places_col)

variable {F : FTy → Type} [FloatOps F] [∀ e, Nonempty (Elt F e)]

/-! ## The reference's entries -/

/-- The two references of this kernel look up one table of places. -/
theorem places_eq : places = Cert.FoldReferenceIdeal.Hand.places := rfl

/-- How the reference looks up the windows. -/
abbrev lookup := Cert.WindowsReferenceIdeal.gather_S3x84x84_S32x32x53x53x2_S3x32x32x53x53_0_12_n_n_12_4_311

theorem start_row (c : Fin 3) (k1 k2 : Fin 32) (o1 o2 : Fin 53) :
    GatherDims.start lookup (ix5 c k1 k2 o1 o2) places 1 = k1.val + o1.val := by
  refine Eq.trans (b := min (places (ix5 k1 k2 o1 o2 (0 : Fin 2))).toInt.toNat 83) ?_ ?_
  · refine congrArg (fun i => min (places i).toInt.toNat 83) (funext fun b => ?_)
    fin_cases b <;> rfl
  · have := k1.isLt
    have := o1.isLt
    rw [places_eq, places_row, along_at, WordCmp.toInt_ofNat_of_lt (by omega), Int.toNat_natCast]
    omega

theorem start_col (c : Fin 3) (k1 k2 : Fin 32) (o1 o2 : Fin 53) :
    GatherDims.start lookup (ix5 c k1 k2 o1 o2) places 2 = k2.val + o2.val := by
  refine Eq.trans (b := min (places (ix5 k1 k2 o1 o2 (1 : Fin 2))).toInt.toNat 83) ?_ ?_
  · refine congrArg (fun i => min (places i).toInt.toNat 83) (funext fun b => ?_)
    fin_cases b <;> rfl
  · have := k2.isLt
    have := o2.isLt
    rw [places_eq, places_col, along_at, WordCmp.toInt_ofNat_of_lt (by omega), Int.toNat_natCast]
    omega

theorem picked_at (A : FVec F S3x84x84 .f32) (c : Fin 3) (k1 k2 : Fin 32) (o1 o2 : Fin 53) :
    picked A (ix5 c k1 k2 o1 o2)
      = A (ix3 c (⟨k1.val + o1.val, by have := k1.isLt; have := o1.isLt; omega⟩ : Fin 84)
          (⟨k2.val + o2.val, by have := k2.isLt; have := o2.isLt; omega⟩ : Fin 84)) := by
  unfold picked Host.gather
  refine congrArg A (funext fun a => Fin.ext ?_)
  fin_cases a
  · show 0 + 0 + c.val = c.val
    omega
  · show GatherDims.start lookup (ix5 c k1 k2 o1 o2) places 1 + 0 + 0 = k1.val + o1.val
    rw [start_row]
    rfl
  · show GatherDims.start lookup (ix5 c k1 k2 o1 o2) places 2 + 0 + 0 = k2.val + o2.val
    rw [start_col]
    rfl

theorem out_eq (x : FVec F S64x64x3 .f32) : winOf (padded x) = out x := by
  funext y
  obtain ⟨D, i, j, rfl⟩ : ∃ (D : Fin 3072) (i j : Fin 53), y = ix3 D i j := ⟨_, _, _, eq_ix3 y⟩
  have hD := D.isLt
  unfold out
  refine Eq.symm ((shapeCast_apply (s := Cert.WindowsReferenceIdeal.S3x32x32x53x53) (t := S3072x53x53) _ _ _
    (ix5 (⟨D.val / 1024, by omega⟩ : Fin 3) (⟨D.val / 32 % 32, by omega⟩ : Fin 32) (⟨D.val % 32, by omega⟩ : Fin 32) i j) ?_).trans
    ((picked_at _ _ _ _ _ _).trans rfl))
  refine (Shape.rowMajor_val_five _).trans (Eq.trans ?_ (Shape.rowMajor_val_three _).symm)
  show (((D.val / 1024 * 32 + D.val / 32 % 32) * 32 + D.val % 32) * 53 + i.val) * 53 + j.val = (D.val * 53 + i.val) * 53 + j.val
  have : (D.val / 1024 * 32 + D.val / 32 % 32) * 32 + D.val % 32 = D.val := by omega
  rw [this]

/-! ## The image the launch stages -/

variable (m : (ℓ : Loc nD τ sig) → Buf (Elt F) ℓ) (ρ : Dev nD → PrngReg)

/-- The launch finds the image by channel inside its border. -/
theorem V_main_v1 (c : Dev nD) : V m c main_v1 = padded (m ((c : Thread nD τ).loc main_arg0)) := by
  unfold V
  simp only [hostOps0, hostOps0_1, List.flatten_cons, List.flatten_nil, List.append_nil, List.cons_append, List.nil_append]
  after_results_simp
  rfl

/-- The one block staged is the whole image. -/
theorem iblk_eq (c : Dev nD) : iblk m c 0 t0_0 = V m c main_v1 := by
  refine funext fun y => congrArg (V m c main_v1) (funext fun a => Fin.ext ?_)
  fin_cases a <;> exact (Nat.zero_add _).trans (Nat.one_mul _)

theorem result_eq (c : Dev nD) : result m c = out (m ((c.tc : Thread nD τ).loc main_arg0)) := by
  unfold result
  rw [iblk_eq, V_main_v1]
  exact out_eq _

end Cert.WindowsIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Fold
public import proofs.«01_k».proof.Proof.Gen.Fold.Skeleton
public import proofs.«01_k».proof.Proof.Gen.Fold.Launch
public import proofs.«01_k».proof.Proof.Gen.Fold.Flash
public import proofs.«01_k».proof.Proof.Gen.FoldIdeal
public import proofs.«01_k».proof.Proof.Gen.FoldIdeal.Skeleton
public import proofs.«01_k».proof.Proof.Gen.FoldIdeal.Launch
public import proofs.«01_k».proof.Proof.Gen.FoldIdeal.Flash
public import proofs.«01_k».proof.Proof.Gen.FoldReferenceIdeal
public import proofs.«01_k».proof.Proof.Gen.Windows
public import proofs.«01_k».proof.Proof.Gen.Windows.Skeleton
public import proofs.«01_k».proof.Proof.Gen.Windows.Launch
public import proofs.«01_k».proof.Proof.Gen.Windows.Points
public import proofs.«01_k».proof.Proof.Gen.Windows.Frame
public import proofs.«01_k».proof.Proof.Gen.WindowsIdeal
public import proofs.«01_k».proof.Proof.Gen.WindowsIdeal.Skeleton
public import proofs.«01_k».proof.Proof.Gen.WindowsIdeal.Launch
public import proofs.«01_k».proof.Proof.Gen.WindowsIdeal.Points
public import proofs.«01_k».proof.Proof.Gen.WindowsIdeal.Frame
public import proofs.«01_k».proof.Proof.Gen.WindowsReferenceIdeal
public import proofs.«01_k».proof.Proof.Gen.Pre_finite_queries
public import proofs.«01_k».proof.Proof.Gen.Pre_names_rows
public import proofs.«01_k».proof.Proof.BodyB
public import proofs.«01_k».proof.Proof.Value
public import proofs.«01_k».proof.Proof.FoldBodyB
public import proofs.«01_k».proof.Proof.FoldValue
public import proofs.«01_k».proof.Proof.WinBodyB
public import proofs.«01_k».proof.Proof.WinValue
public import Idealize.ShloMosaic.Adequacy
public import Idealize.ShloMosaic.Init

@[expose] public section

noncomputable section

namespace Cert.Proof

open Idealize.ShloMosaic Idealize.SL.Sem Cert.Kernel

theorem frame_p : Cert.quiescent_Kernel := fun m ρ _ =>
  (θ_run Cert.Kernel.defs _ _).mono (fun _ h => ⟨fun c => ⟨Cert.Kernel.Hand.final_arg0 h.1 c, Cert.Kernel.Hand.final_arg1 h.1 c⟩, h.2⟩)
    (Cert.Kernel.Hand.run_main (F := Bits) m ρ)

theorem frame_pi : Cert.quiescent_KernelIdeal := fun m ρ _ =>
  (θ_run Cert.KernelIdeal.defs _ _).mono (fun _ h => ⟨fun c => (h.1 c).2, h.2⟩) (Cert.KernelIdeal.Hand.run_idx m ρ)

theorem frame_ri : Cert.quiescent_ReferenceIdeal := fun m ρ _ =>
  (θ_run Cert.ReferenceIdeal.defs _ _).mono (fun _ h => ⟨fun c => (h.1 c).2, h.2⟩) (Cert.ReferenceIdeal.Hand.run_out (F := Ideal) m ρ)

/-- The shared result is the kernel's last running index. -/
theorem algebraic : Cert.algebraic_KernelIdeal_ReferenceIdeal_pre_finite_queries := fun m ρ m' ρ' hpre hargs =>
  ⟨fun c => Cert.KernelIdeal.Hand.idxAt m c 40,
    (θ_run Cert.KernelIdeal.defs _ _).mono (fun _ h => h.1) (Cert.KernelIdeal.Hand.run_idx m ρ),
    (θ_run Cert.ReferenceIdeal.defs _ _).mono
      (fun r h c => ⟨(h.1 c).1.trans (by
        rw [(hargs c).1, (hargs c).2]
        exact (Cert.KernelIdeal.Hand.idx_eq_out m c (hpre c)).symm), (h.1 c).2⟩)
      (Cert.ReferenceIdeal.Hand.run_out (F := Ideal) m' ρ')⟩

/-- A word from 0 to 9999 names a row. -/
theorem lt_of_named (x : BitVec 32) (h : IntOp.andi (IntOp.cmpi .sge x 0#32) (IntOp.cmpi .slt x 10000#32) = 1#1) : x.toNat < 10000 := by
  obtain ⟨h0, h1⟩ := IntOp.andi_eq_one.1 h
  have h0 : (0 : Int) ≤ x.toInt := IntOp.cmpi_sge.1 h0
  have h1 : x.toInt < 10000 := IntOp.cmpi_slt.1 h1
  rw [BitVec.toInt_eq_toNat_cond] at h0 h1
  have := x.isLt
  split at h0 <;> split at h1 <;> omega

theorem rows_named (m : (ℓ : Loc Cert.Fold.nD Cert.Fold.τ Cert.Fold.sig) → Buf (Elt Bits) ℓ) (h : Cert.Pre_Fold m) : Cert.Fold.Hand.RowsNamed m :=
  fun c x => lt_of_named _ (congrFun (h c) x)

theorem rows_named_ideal (m : (ℓ : Loc Cert.FoldIdeal.nD Cert.FoldIdeal.τ Cert.FoldIdeal.sig) → Buf (Elt Ideal) ℓ) (h : Cert.Pre_FoldIdeal m) :
    Cert.FoldIdeal.Hand.RowsNamed m :=
  fun c x => lt_of_named _ (congrFun (h c) x)

theorem frame_fold : Cert.quiescent_Fold := fun m ρ hpre =>
  (θ_run Cert.Fold.defs _ _).mono (fun _ h => ⟨fun c => (h.1 c).2, h.2⟩) (Cert.Fold.Hand.run_result (F := Bits) m ρ (rows_named m hpre))

theorem frame_fold_ideal : Cert.quiescent_FoldIdeal := fun m ρ hpre =>
  (θ_run Cert.FoldIdeal.defs _ _).mono (fun _ h => ⟨fun c => (h.1 c).2, h.2⟩)
    (Cert.FoldIdeal.Hand.run_result (F := Ideal) m ρ (rows_named_ideal m hpre))

theorem frame_fold_ref : Cert.quiescent_FoldReferenceIdeal := fun m ρ _ =>
  (θ_run Cert.FoldReferenceIdeal.defs _ _).mono (fun _ h => ⟨fun c => (h.1 c).2, h.2⟩) (Cert.FoldReferenceIdeal.Hand.run_out (F := Ideal) m ρ)

/-- The shared result is the sum of the patches over its largest entry. -/
theorem algebraic_fold : Cert.algebraic_FoldIdeal_FoldReferenceIdeal := fun m ρ m' ρ' hpre hargs =>
  ⟨fun c => Cert.FoldIdeal.Hand.result (F := Ideal) m (rows_named_ideal m hpre) c,
    (θ_run Cert.FoldIdeal.defs _ _).mono (fun _ h => h.1) (Cert.FoldIdeal.Hand.run_result (F := Ideal) m ρ (rows_named_ideal m hpre)),
    (θ_run Cert.FoldReferenceIdeal.defs _ _).mono
      (fun r h c => ⟨(h.1 c).1.trans (by
        rw [(hargs c).1, (hargs c).2]
        exact (Cert.FoldIdeal.Hand.result_eq m (rows_named_ideal m hpre) c).symm), (h.1 c).2⟩)
      (Cert.FoldReferenceIdeal.Hand.run_out (F := Ideal) m' ρ')⟩

theorem frame_win : Cert.quiescent_Windows := fun m ρ _ =>
  (θ_run Cert.Windows.defs _ _).mono (fun _ h => ⟨fun c => (h.1 c).1, h.2⟩) (Cert.Windows.Hand.run_post (F := Bits) m ρ)

theorem frame_win_ideal : Cert.quiescent_WindowsIdeal := fun m ρ _ =>
  (θ_run Cert.WindowsIdeal.defs _ _).mono (fun _ h => ⟨fun c => (h.1 c).1, h.2⟩) (Cert.WindowsIdeal.Hand.run_post (F := Ideal) m ρ)

theorem frame_win_ref : Cert.quiescent_WindowsReferenceIdeal := fun m ρ _ =>
  (θ_run Cert.WindowsReferenceIdeal.defs _ _).mono (fun _ h => ⟨fun c => (h.1 c).2, h.2⟩)
    (Cert.WindowsReferenceIdeal.Hand.run_out (F := Ideal) m ρ)

/-- The shared result is the windows of the image inside its border. -/
theorem algebraic_win : Cert.algebraic_WindowsIdeal_WindowsReferenceIdeal := fun m ρ m' ρ' _ hargs =>
  ⟨fun c => Cert.WindowsIdeal.Hand.result (F := Ideal) m c,
    (θ_run Cert.WindowsIdeal.defs _ _).mono (fun _ h c => ⟨(h.1 c).2, (h.1 c).1⟩) (Cert.WindowsIdeal.Hand.run_post (F := Ideal) m ρ),
    (θ_run Cert.WindowsReferenceIdeal.defs _ _).mono
      (fun r h c => ⟨(h.1 c).1.trans (by
        rw [hargs c]
        exact (Cert.WindowsIdeal.Hand.result_eq (F := Ideal) m c).symm), (h.1 c).2⟩)
      (Cert.WindowsReferenceIdeal.Hand.run_out (F := Ideal) m' ρ')⟩

theorem claim : Cert.Claim :=
  ⟨Cert.Kernel.Gen.facts, Cert.KernelIdeal.Gen.facts, Cert.ReferenceIdeal.Gen.facts, Cert.Fold.Gen.facts, Cert.FoldIdeal.Gen.facts,
    Cert.FoldReferenceIdeal.Gen.facts, Cert.Windows.Gen.facts, Cert.WindowsIdeal.Gen.facts, Cert.WindowsReferenceIdeal.Gen.facts,
    Cert.Pre_finite_queries.Gen.facts, Cert.Pre_names_rows.Gen.facts,
    frame_p, frame_pi, fun m ρ _ => frame_pi m ρ trivial, frame_ri, fun m ρ _ => frame_ri m ρ trivial,
    frame_fold, frame_fold_ideal, frame_fold_ref, fun m ρ _ => frame_fold_ref m ρ trivial, frame_win, frame_win_ideal, frame_win_ref,
    trivial, algebraic, trivial, algebraic_fold, trivial, algebraic_win⟩

end Cert.Proof

end
